-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_values_finite [hPre_values_finite : Cert.Pre_values_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_values_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_values_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_values_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_values_finite [hPre_values_finite : Cert.Pre_values_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_values_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_values_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_values_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_weights_finite [hPre_weights_finite : Cert.Pre_weights_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.2.1 = (fun _ => 1#1)
    ∧ (Cert.Pre_weights_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_weights_finite [hPre_weights_finite : Cert.Pre_weights_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.2.1 = (fun _ => 1#1)
    ∧ (Cert.Pre_weights_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_values_finite [hKernel4Ideal : Cert.Kernel4Ideal.Facts] [hPre_values_finite : Cert.Pre_values_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_values_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_values_finite [hReference4Ideal : Cert.Reference4Ideal.Facts] [hPre_values_finite : Cert.Pre_values_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_values_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_weights_finite [hKernel5Ideal : Cert.Kernel5Ideal.Facts] [hPre_weights_finite : Cert.Pre_weights_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_weights_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_weights_finite [hReference5Ideal : Cert.Reference5Ideal.Facts] [hPre_weights_finite : Cert.Pre_weights_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_weights_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_values_finite [hKernel4Ideal : Cert.Kernel4Ideal.Facts] [hReference4Ideal : Cert.Reference4Ideal.Facts] [hPre_values_finite : Cert.Pre_values_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_values_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_weights_finite [hKernel5Ideal : Cert.Kernel5Ideal.Facts] [hReference5Ideal : Cert.Reference5Ideal.Facts] [hPre_weights_finite : Cert.Pre_weights_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_weights_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v38) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_named : Cert.Pre_experts_named.Facts) (hPre_values_finite : Cert.Pre_values_finite.Facts) (hPre_weights_finite : Cert.Pre_weights_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal) (hPre_experts_named := hPre_experts_named)
    ∧ quiescent_Kernel4 (hKernel4 := hKernel4)
    ∧ quiescent_Kernel4Ideal (hKernel4Ideal := hKernel4Ideal)
    ∧ quiescent_Kernel4Ideal_pre_values_finite (hKernel4Ideal := hKernel4Ideal) (hPre_values_finite := hPre_values_finite)
    ∧ quiescent_Reference4Ideal (hReference4Ideal := hReference4Ideal)
    ∧ quiescent_Reference4Ideal_pre_values_finite (hReference4Ideal := hReference4Ideal) (hPre_values_finite := hPre_values_finite)
    ∧ quiescent_Kernel5 (hKernel5 := hKernel5)
    ∧ quiescent_Kernel5Ideal (hKernel5Ideal := hKernel5Ideal)
    ∧ quiescent_Kernel5Ideal_pre_weights_finite (hKernel5Ideal := hKernel5Ideal) (hPre_weights_finite := hPre_weights_finite)
    ∧ quiescent_Reference5Ideal (hReference5Ideal := hReference5Ideal)
    ∧ quiescent_Reference5Ideal_pre_weights_finite (hReference5Ideal := hReference5Ideal) (hPre_weights_finite := hPre_weights_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_named := hPre_experts_named)
    ∧ preserves_Kernel4_Kernel4Ideal
    ∧ algebraic_Kernel4Ideal_Reference4Ideal_pre_values_finite (hKernel4Ideal := hKernel4Ideal) (hReference4Ideal := hReference4Ideal) (hPre_values_finite := hPre_values_finite)
    ∧ preserves_Kernel5_Kernel5Ideal
    ∧ algebraic_Kernel5Ideal_Reference5Ideal_pre_weights_finite (hKernel5Ideal := hKernel5Ideal) (hReference5Ideal := hReference5Ideal) (hPre_weights_finite := hPre_weights_finite)
-- ==== Pre_experts_named.lean ====
abbrev S147456x1024 : Shape := ⟨2, ![147456, 1024]⟩
abbrev S288 : Shape := ⟨1, ![288]⟩
abbrev S1 : Shape := ⟨1, ![1]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S147456x1024 .bf16) (main_arg1 : IVec S288 32) (main_arg2 : IVec S1 32) (main_arg3 : FVec F S32x1024x1024 .bf16) (main_arg4 : FVec F S32x1024x1024 .bf16) (main_arg5 : FVec F S32x1x1024 .f32) (main_arg6 : FVec F S32x1x1024 .f32) (main_arg7 : FVec F S32x1024x1024 .f32) (main_arg8 : FVec F S32x1x1024 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  main_v4
-- ==== Pre_values_finite.lean ====
abbrev S4x8192x512 : Shape := ⟨3, ![4, 8192, 512]⟩
abbrev S128x32768 : Shape := ⟨2, ![128, 32768]⟩
abbrev S2x4x8192x128 : Shape := ⟨4, ![2, 4, 8192, 128]⟩
abbrev S_ : Shape := ⟨0, ![]⟩

class Facts : Prop where
  bcast_S_S2x4x8192x128 : S_.BroadcastsInDim S2x4x8192x128 (![] : Fin 0 → Fin S2x4x8192x128.rank)
  bcast_S_S4x8192x512 : S_.BroadcastsInDim S4x8192x512 (![] : Fin 0 → Fin S4x8192x512.rank)
  bcast_S_S128x32768 : S_.BroadcastsInDim S128x32768 (![] : Fin 0 → Fin S128x32768.rank)

variable [Facts]

def fn_part1 {F : FTy → Type} [FloatOps F] (main_v6 : IVec S2x4x8192x128 1) (main_v9 : IVec S4x8192x512 1) (main_v12 : IVec S128x32768 1) (main_v15 : IVec S2x4x8192x128 1) (main_v17 : IVec S2x4x8192x128 1) : IVec S4x8192x512 1 × IVec S128x32768 1 × IVec S2x4x8192x128 1 :=
  let main_v18 : IVec S2x4x8192x128 1 := ori main_v6 main_v17
  let main_v19 : IVec S2x4x8192x128 1 := andi main_v15 main_v18
  (main_v9, main_v12, main_v19)

def fn {F : FTy → Type} [FloatOps F] (main_arg0 : FVec F S4x8192x512 .bf16) (main_arg1 : FVec F S128x32768 .bf16) (main_arg2 : FVec F S2x4x8192x128 .bf16) : IVec S4x8192x512 1 × IVec S128x32768 1 × IVec S2x4x8192x128 1 :=
  let main_v0 : IVec S2x4x8192x128 32 := iotaInDim S2x4x8192x128 32 0
  let main_v1 : IVec S2x4x8192x128 32 := iotaInDim S2x4x8192x128 32 3
  let main_c : IVec S_ 32 := constantI S_ 32 0#32
  let main_v2 : IVec S2x4x8192x128 32 := broadcastInDim S2x4x8192x128 ![] bcast_S_S2x4x8192x128 main_c
  let main_v3 : IVec S2x4x8192x128 1 := cmpi .eq main_v0 main_v2
  let main_c_0 : IVec S_ 32 := constantI S_ 32 64#32
  let main_v4 : IVec S2x4x8192x128 32 := broadcastInDim S2x4x8192x128 ![] bcast_S_S2x4x8192x128 main_c_0
  let main_v5 : IVec S2x4x8192x128 1 := cmpi .slt main_v1 main_v4
  let main_v6 : IVec S2x4x8192x128 1 := cmpi .eq main_v3 main_v5
  let main_v7 : FVec F S4x8192x512 .bf16 := Host.absf main_arg0
  let main_cst : FVec F S_ .bf16 := constant S_ .bf16 0x7F80#16
  let main_v8 : FVec F S4x8192x512 .bf16 := broadcastInDim S4x8192x512 ![] bcast_S_S4x8192x512 main_cst
  let main_v9 : IVec S4x8192x512 1 := cmpf .olt main_v7 main_v8
  let main_v10 : FVec F S128x32768 .bf16 := Host.absf main_arg1
  let main_cst_1 : FVec F S_ .bf16 := constant S_ .bf16 0x7F80#16
  let main_v11 : FVec F S128x32768 .bf16 := broadcastInDim S128x32768 ![] bcast_S_S128x32768 main_cst_1
  let main_v12 : IVec S128x32768 1 := cmpf .olt main_v10 main_v11
  let main_v13 : FVec F S2x4x8192x128 .bf16 := Host.absf main_arg2
  let main_cst_2 : FVec F S_ .bf16 := constant S_ .bf16 0x7F80#16
  let main_v14 : FVec F S2x4x8192x128 .bf16 := broadcastInDim S2x4x8192x128 ![] bcast_S_S2x4x8192x128 main_cst_2
  let main_v15 : IVec S2x4x8192x128 1 := cmpf .olt main_v13 main_v14
  let main_cst_3 : FVec F S_ .bf16 := constant S_ .bf16 0x3F80#16
  let main_v16 : FVec F S2x4x8192x128 .bf16 := broadcastInDim S2x4x8192x128 ![] bcast_S_S2x4x8192x128 main_cst_3
  let main_v17 : IVec S2x4x8192x128 1 := cmpf .oeq main_arg2 main_v16
  fn_part1 (F := F) main_v6 main_v9 main_v12 main_v15 main_v17
-- ==== Pre_weights_finite.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S_ : Shape := ⟨0, ![]⟩

class Facts : Prop where
  bcast_S_S32768x512 : S_.BroadcastsInDim S32768x512 (![] : Fin 0 → Fin S32768x512.rank)
  bcast_S_S32768x2048 : S_.BroadcastsInDim S32768x2048 (![] : Fin 0 → Fin S32768x2048.rank)
  bcast_S_S32768x1024 : S_.BroadcastsInDim S32768x1024 (![] : Fin 0 → Fin S32768x1024.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x128 : S_.BroadcastsInDim S1024x128 (![] : Fin 0 → Fin S1024x128.rank)

variable [Facts]

def fn_part1 {F : FTy → Type} [FloatOps F] (main_arg6 : FVec F S1024x1024 .bf16) (main_arg7 : FVec F S1x1024 .f32) (main_arg8 : FVec F S1024x128 .bf16) (main_arg9 : FVec F S1024x128 .bf16) (main_v2 : IVec S32768x512 1) (main_v5 : IVec S32768x512 1) (main_v8 : IVec S32768x2048 1) (main_v11 : IVec S32768x1024 1) (main_v14 : IVec S512x1024 1) (main_v17 : IVec S512x1024 1) : IVec S32768x512 1 × IVec S32768x512 1 × IVec S32768x2048 1 × IVec S32768x1024 1 × IVec S512x1024 1 × IVec S512x1024 1 × IVec S1024x1024 1 × IVec S1x1024 1 × IVec S1024x128 1 × IVec S1024x128 1 :=
  let main_v18 : FVec F S1024x1024 .bf16 := Host.absf main_arg6
  let main_cst_5 : FVec F S_ .bf16 := constant S_ .bf16 0x7F80#16
  let main_v19 : FVec F S1024x1024 .bf16 := broadcastInDim S1024x1024 ![] bcast_S_S1024x1024 main_cst_5
  let main_v20 : IVec S1024x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1024x128 .bf16 := Host.absf main_arg8
  let main_cst_7 : FVec F S_ .bf16 := constant S_ .bf16 0x7F80#16
  let main_v25 : FVec F S1024x128 .bf16 := broadcastInDim S1024x128 ![] bcast_S_S1024x128 main_cst_7
  let main_v26 : IVec S1024x128 1 := cmpf .olt main_v24 main_v25
  let main_v27 : FVec F S1024x128 .bf16 := Host.absf main_arg9
  let main_cst_8 : FVec F S_ .bf16 := constant S_ .bf16 0x7F80#16
  let main_v28 : FVec F S1024x128 .bf16 := broadcastInDim S1024x128 ![] bcast_S_S1024x128 main_cst_8
  let main_v29 : IVec S1024x128 1 := cmpf .olt main_v27 main_v28
  (main_v2, main_v5, main_v8, main_v11, main_v14, main_v17, main_v20, main_v23, main_v26, main_v29)

def fn {F : FTy → Type} [FloatOps F] (main_arg0 : FVec F S32768x512 .bf16) (main_arg1 : FVec F S32768x512 .bf16) (main_arg2 : FVec F S32768x2048 .bf16) (main_arg3 : FVec F S32768x1024 .f32) (main_arg4 : FVec F S512x1024 .bf16) (main_arg5 : FVec F S512x1024 .bf16) (main_arg6 : FVec F S1024x1024 .bf16) (main_arg7 : FVec F S1x1024 .f32) (main_arg8 : FVec F S1024x128 .bf16) (main_arg9 : FVec F S1024x128 .bf16) (main_arg10 : FVec F S1x128 .f32) : IVec S32768x512 1 × IVec S32768x512 1 × IVec S32768x2048 1 × IVec S32768x1024 1 × IVec S512x1024 1 × IVec S512x1024 1 × IVec S1024x1024 1 × IVec S1x1024 1 × IVec S1024x128 1 × IVec S1024x128 1 :=
  let main_v0 : FVec F S32768x512 .bf16 := Host.absf main_arg0
  let main_cst : FVec F S_ .bf16 := constant S_ .bf16 0x7F80#16
  let main_v1 : FVec F S32768x512 .bf16 := broadcastInDim S32768x512 ![] bcast_S_S32768x512 main_cst
  let main_v2 : IVec S32768x512 1 := cmpf .olt main_v0 main_v1
  let main_v3 : FVec F S32768x512 .bf16 := Host.absf main_arg1
  let main_cst_0 : FVec F S_ .bf16 := constant S_ .bf16 0x7F80#16
  let main_v4 : FVec F S32768x512 .bf16 := broadcastInDim S32768x512 ![] bcast_S_S32768x512 main_cst_0
  let main_v5 : IVec S32768x512 1 := cmpf .olt main_v3 main_v4
  let main_v6 : FVec F S32768x2048 .bf16 := Host.absf main_arg2
  let main_cst_1 : FVec F S_ .bf16 := constant S_ .bf16 0x7F80#16
  let main_v7 : FVec F S32768x2048 .bf16 := broadcastInDim S32768x2048 ![] bcast_S_S32768x2048 main_cst_1
  let main_v8 : IVec S32768x2048 1 := cmpf .olt main_v6 main_v7
  let main_v9 : FVec F S32768x1024 .f32 := Host.absf main_arg3
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_v12 : FVec F S512x1024 .bf16 := Host.absf main_arg4
  let main_cst_3 : FVec F S_ .bf16 := constant S_ .bf16 0x7F80#16
  let main_v13 : FVec F S512x1024 .bf16 := broadcastInDim S512x1024 ![] bcast_S_S512x1024 main_cst_3
  let main_v14 : IVec S512x1024 1 := cmpf .olt main_v12 main_v13
  let main_v15 : FVec F S512x1024 .bf16 := Host.absf main_arg5
  let main_cst_4 : FVec F S_ .bf16 := constant S_ .bf16 0x7F80#16
  let main_v16 : FVec F S512x1024 .bf16 := broadcastInDim S512x1024 ![] bcast_S_S512x1024 main_cst_4
  let main_v17 : IVec S512x1024 1 := cmpf .olt main_v15 main_v16
  fn_part1 (F := F) main_arg6 main_arg7 main_arg8 main_arg9 main_v2 main_v5 main_v8 main_v11 main_v14 main_v17
-- ==== Kernel.lean ====
abbrev S1x32x1024x2048 : Shape := ⟨4, ![1, 32, 1024, 2048]⟩
abbrev S32x1024x2048 : Shape := ⟨3, ![32, 1024, 2048]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S32x1024x1024 : Shape := ⟨3, ![32, 1024, 1024]⟩
abbrev S3x1024x1024 : Shape := ⟨3, ![3, 1024, 1024]⟩
abbrev S3 : Shape := ⟨1, ![3]⟩
abbrev S2x512x1024 : Shape := ⟨3, ![2, 512, 1024]⟩
abbrev S2 : Shape := ⟨1, ![2]⟩
abbrev S1 : Shape := ⟨1, ![1]⟩
abbrev S1x1024x1024 : Shape := ⟨3, ![1, 1024, 1024]⟩
abbrev S512x1024 : Shape := ⟨2, ![512, 1024]⟩
abbrev S1x512x1024 : Shape := ⟨3, ![1, 512, 1024]⟩

abbrev nBuf : Space → Nat
  | .hbm => 28
  | .vmem => 4
  | .smem => 0
  | _ => 0

abbrev bufTy : (tb : Table) → Fin (tcTables nBuf tb) → BufTy
  | .hbm, ⟨0, _⟩ => ⟨S1x32x1024x2048, .f32⟩
  | .hbm, ⟨1, _⟩ => ⟨S32x1024x2048, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1024, .i32⟩
  | .hbm, ⟨21, _⟩ => ⟨S1x1024, .i32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S1024x1024, .bf16⟩
  | .hbm, ⟨26, _⟩ => ⟨S32x1024x1024, .bf16⟩
  | .hbm, ⟨27, _⟩ => ⟨S32x1024x1024, .bf16⟩
  | .local _ .vmem, ⟨0, _⟩ => ⟨S1024x1024, .bf16⟩
  | .local _ .vmem, ⟨1, _⟩ => ⟨S3x1024x1024, .f32⟩
  | .local _ .vmem, ⟨2, _⟩ => ⟨S2x512x1024, .bf16⟩
  | .local _ .vmem, ⟨3, _⟩ => ⟨S2x512x1024, .bf16⟩
  | _, _ => ⟨S1x32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_35_r0 : BitVec 32 := 0#32
  let c3_i32_r0 : BitVec 32 := 3#32
  let v39_r0 : BitVec 32 := Scalar.remui c0_i32_35_r0 c3_i32_r0
  ![v39_r0.toNat]
def k0_off2 : Fin 3 → Nat :=
  let c0_i32_35_r0 : BitVec 32 := 0#32
  let c3_i32_r0 : BitVec 32 := 3#32
  let v39_r0 : BitVec 32 := Scalar.remui c0_i32_35_r0 c3_i32_r0
  let c0_i32_37_r0 : BitVec 32 := 0#32
  let c0_i32_38_r0 : BitVec 32 := 0#32
  ![v39_r0.toNat, 0, 0]
def k0_cond1 : BitVec 1 :=
  let true_45_r0 : BitVec 1 := 1#1
  let true_8_r0 : BitVec 1 := 1#1
  let c1_i32_10_r0 : BitVec 32 := 1#32
  let c0_i32_9_r0 : BitVec 32 := 0#32
  let v11_r0 : BitVec 32 := Scalar.select true_8_r0 c1_i32_10_r0 c0_i32_9_r0
  let c2_i32_r0 : BitVec 32 := 2#32
  let v12_r0 : BitVec 1 := Scalar.cmpi .eq v11_r0 c2_i32_r0
  let c1_i32_13_r0 : BitVec 32 := 1#32
  let c0_i32_12_r0 : BitVec 32 := 0#32
  let v14_r0 : BitVec 32 := Scalar.select v12_r0 c1_i32_13_r0 c0_i32_12_r0
  let c32_i32_r0 : BitVec 32 := 32#32
  let v15_r0 : BitVec 1 := Scalar.cmpi .eq v14_r0 c32_i32_r0
  let c0_i32_14_r0 : BitVec 32 := 0#32
  let v16_r0 : BitVec 32 := Scalar.select v15_r0 c0_i32_14_r0 v14_r0
  let c0_i32_15_r0 : BitVec 32 := 0#32
  let v17_r0 : BitVec 32 := Scalar.addi v16_r0 c0_i32_15_r0
  let c0_i32_43_r0 : BitVec 32 := 0#32
  let v47_r0 : BitVec 1 := Scalar.cmpi .ne v17_r0 c0_i32_43_r0
  let c0_i32_11_r0 : BitVec 32 := 0#32
  let v13_r0 : BitVec 32 := Scalar.select v12_r0 c0_i32_11_r0 v11_r0
  let c0_i32_16_r0 : BitVec 32 := 0#32
  let v18_r0 : BitVec 32 := Scalar.addi v13_r0 c0_i32_16_r0
  let c0_i32_44_r0 : BitVec 32 := 0#32
  let v48_r0 : BitVec 1 := Scalar.cmpi .ne v18_r0 c0_i32_44_r0
  let v49_r0 : BitVec 1 := Scalar.ori v47_r0 v48_r0
  let v50_r0 : BitVec 1 := Scalar.andi true_45_r0 v49_r0
  let true_46_r0 : BitVec 1 := 1#1
  let v51_r0 : BitVec 1 := Scalar.andi v50_r0 true_46_r0
  let v52_r0 : BitVec 32 := Scalar.extui v51_r0
  let c0_i32_47_r0 : BitVec 32 := 0#32
  let v53_r0 : BitVec 1 := Scalar.cmpi .ne v52_r0 c0_i32_47_r0
  v53_r0

def k0_off3 : Fin 1 → Nat :=
  let c0_i32_41_r0 : BitVec 32 := 0#32
  let c1_i32_42_r0 : BitVec 32 := 1#32
  let v46_r0 : BitVec 32 := Scalar.addi c0_i32_41_r0 c1_i32_42_r0
  let c3_i32_113_r0 : BitVec 32 := 3#32
  let v124_r0 : BitVec 32 := Scalar.remui v46_r0 c3_i32_113_r0
  ![v124_r0.toNat]
def k0_off4 : Fin 3 → Nat :=
  let c0_i32_41_r0 : BitVec 32 := 0#32
  let c1_i32_42_r0 : BitVec 32 := 1#32
  let v46_r0 : BitVec 32 := Scalar.addi c0_i32_41_r0 c1_i32_42_r0
  let c3_i32_113_r0 : BitVec 32 := 3#32
  let v124_r0 : BitVec 32 := Scalar.remui v46_r0 c3_i32_113_r0
  let c0_i32_114_r0 : BitVec 32 := 0#32
  let c0_i32_115_r0 : BitVec 32 := 0#32
  ![v124_r0.toNat, 0, 0]
def k0_off5 : Fin 3 → Nat :=
  let true_8_r0 : BitVec 1 := 1#1
  let c1_i32_10_r0 : BitVec 32 := 1#32
  let c0_i32_9_r0 : BitVec 32 := 0#32
  let v11_r0 : BitVec 32 := Scalar.select true_8_r0 c1_i32_10_r0 c0_i32_9_r0
  let c2_i32_r0 : BitVec 32 := 2#32
  let v12_r0 : BitVec 1 := Scalar.cmpi .eq v11_r0 c2_i32_r0
  let c1_i32_13_r0 : BitVec 32 := 1#32
  let c0_i32_12_r0 : BitVec 32 := 0#32
  let v14_r0 : BitVec 32 := Scalar.select v12_r0 c1_i32_13_r0 c0_i32_12_r0
  let c32_i32_r0 : BitVec 32 := 32#32
  let v15_r0 : BitVec 1 := Scalar.cmpi .eq v14_r0 c32_i32_r0
  let c0_i32_14_r0 : BitVec 32 := 0#32
  let v16_r0 : BitVec 32 := Scalar.select v15_r0 c0_i32_14_r0 v14_r0
  let c0_i32_15_r0 : BitVec 32 := 0#32
  let v17_r0 : BitVec 32 := Scalar.addi v16_r0 c0_i32_15_r0
  let c0_i32_116_r0 : BitVec 32 := 0#32
  let c1024_i32_r0 : BitVec 32 := 1024#32
  let c0_i32_11_r0 : BitVec 32 := 0#32
  let v13_r0 : BitVec 32 := Scalar.select v12_r0 c0_i32_11_r0 v11_r0
  let c0_i32_16_r0 : BitVec 32 := 0#32
  let v18_r0 : BitVec 32 := Scalar.addi v13_r0 c0_i32_16_r0
  let v125_r0 : BitVec 32 := Scalar.muli c1024_i32_r0 v18_r0
  ![v17_r0.toNat, 0, v125_r0.toNat]
@[reducible] def k0_t1_loop : Scf.Loop 32 :=
  let c0_i32_56_r0 : BitVec 32 := 0#32
  let c64_i32_r0 : BitVec 32 := 64#32
  let v56_r0 : BitVec 32 := Scalar.addi c0_i32_56_r0 c64_i32_r0
  let c1_i32_57_r0 : BitVec 32 := 1#32
  ⟨c0_i32_56_r0, v56_r0, c1_i32_57_r0⟩
def k0_off6 (arg5_r0 : BitVec 32) : Fin 1 → Nat :=
  let c3_i32_203_r0 : BitVec 32 := 3#32
  let v305_r0 : BitVec 32 := Scalar.remui arg5_r0 c3_i32_203_r0
  ![v305_r0.toNat]
def k0_cond2 (k0_t1 : Fin k0_t1_loop.trips) (arg11_r0 : BitVec 32) (arg12_r0 : BitVec 32) : BitVec 1 :=
  let true_126_r0 : BitVec 1 := 1#1
  let c1_i32_125_r0 : BitVec 32 := 1#32
  let v138_r0 : BitVec 32 := Scalar.addi arg12_r0 c1_i32_125_r0
  let v139_r0 : BitVec 32 := Scalar.select true_126_r0 v138_r0 arg12_r0
  let c2_i32_127_r0 : BitVec 32 := 2#32
  let v140_r0 : BitVec 1 := Scalar.cmpi .eq v139_r0 c2_i32_127_r0
  let c1_i32_129_r0 : BitVec 32 := 1#32
  let v142_r0 : BitVec 32 := Scalar.addi arg11_r0 c1_i32_129_r0
  let v143_r0 : BitVec 32 := Scalar.select v140_r0 v142_r0 arg11_r0
  let c32_i32_130_r0 : BitVec 32 := 32#32
  let v144_r0 : BitVec 1 := Scalar.cmpi .eq v143_r0 c32_i32_130_r0
  let c0_i32_131_r0 : BitVec 32 := 0#32
  let v145_r0 : BitVec 32 := Scalar.select v144_r0 c0_i32_131_r0 v143_r0
  let c0_i32_132_r0 : BitVec 32 := 0#32
  let v146_r0 : BitVec 32 := Scalar.addi v145_r0 c0_i32_132_r0
  let true_135_r0 : BitVec 1 := 1#1
  let c0_i32_128_r0 : BitVec 32 := 0#32
  let v141_r0 : BitVec 32 := Scalar.select v140_r0 c0_i32_128_r0 v139_r0
  let c1_i32_134_r0 : BitVec 32 := 1#32
  let v148_r0 : BitVec 32 := Scalar.addi v141_r0 c1_i32_134_r0
  let v149_r0 : BitVec 32 := Scalar.select true_135_r0 v148_r0 v141_r0
  let c2_i32_136_r0 : BitVec 32 := 2#32
  let v150_r0 : BitVec 1 := Scalar.cmpi .eq v149_r0 c2_i32_136_r0
  let c1_i32_138_r0 : BitVec 32 := 1#32
  let v152_r0 : BitVec 32 := Scalar.addi v145_r0 c1_i32_138_r0
  let v153_r0 : BitVec 32 := Scalar.select v150_r0 v152_r0 v145_r0
  let c32_i32_139_r0 : BitVec 32 := 32#32
  let v154_r0 : BitVec 1 := Scalar.cmpi .eq v153_r0 c32_i32_139_r0
  let c0_i32_140_r0 : BitVec 32 := 0#32
  let v155_r0 : BitVec 32 := Scalar.select v154_r0 c0_i32_140_r0 v153_r0
  let c0_i32_141_r0 : BitVec 32 := 0#32
  let v156_r0 : BitVec 32 := Scalar.addi v155_r0 c0_i32_141_r0
  let v168_r0 : BitVec 1 := Scalar.cmpi .ne v146_r0 v156_r0
  let c0_i32_133_r0 : BitVec 32 := 0#32
  let v147_r0 : BitVec 32 := Scalar.addi v141_r0 c0_i32_133_r0
  let c0_i32_137_r0 : BitVec 32 := 0#32
  let v151_r0 : BitVec 32 := Scalar.select v150_r0 c0_i32_137_r0 v149_r0
  let c0_i32_142_r0 : BitVec 32 := 0#32
  let v157_r0 : BitVec 32 := Scalar.addi v151_r0 c0_i32_142_r0
  let v169_r0 : BitVec 1 := Scalar.cmpi .ne v147_r0 v157_r0
  let v170_r0 : BitVec 1 := Scalar.ori v168_r0 v169_r0
  let c0_i32_56_r0 : BitVec 32 := 0#32
  let c1_i32_57_r0 : BitVec 32 := 1#32
  let arg4_r0 : BitVec 32 := Scf.iv c0_i32_56_r0 c1_i32_57_r0 k0_t1
  let c62_i32_r0 : BitVec 32 := 62#32
  let v171_r0 : BitVec 1 := Scalar.cmpi .sge arg4_r0 c62_i32_r0
  let true_152_r0 : BitVec 1 := 1#1
  let v172_r0 : BitVec 1 := Scalar.xori v171_r0 true_152_r0
  let v173_r0 : BitVec 1 := Scalar.andi v170_r0 v172_r0
  let true_153_r0 : BitVec 1 := 1#1
  let v174_r0 : BitVec 1 := Scalar.andi v173_r0 true_153_r0
  let v175_r0 : BitVec 32 := Scalar.extui v174_r0
  let c0_i32_154_r0 : BitVec 32 := 0#32
  let v176_r0 : BitVec 1 := Scalar.cmpi .ne v175_r0 c0_i32_154_r0
  v176_r0

def k0_off7 (arg5_r0 : BitVec 32) : Fin 3 → Nat :=
  let c3_i32_203_r0 : BitVec 32 := 3#32
  let v305_r0 : BitVec 32 := Scalar.remui arg5_r0 c3_i32_203_r0
  let c0_i32_204_r0 : BitVec 32 := 0#32
  let c0_i32_205_r0 : BitVec 32 := 0#32
  ![v305_r0.toNat, 0, 0]
def k0_off8 (arg11_r0 : BitVec 32) (arg12_r0 : BitVec 32) : Fin 3 → Nat :=
  let true_135_r0 : BitVec 1 := 1#1
  let true_126_r0 : BitVec 1 := 1#1
  let c1_i32_125_r0 : BitVec 32 := 1#32
  let v138_r0 : BitVec 32 := Scalar.addi arg12_r0 c1_i32_125_r0
  let v139_r0 : BitVec 32 := Scalar.select true_126_r0 v138_r0 arg12_r0
  let c2_i32_127_r0 : BitVec 32 := 2#32
  let v140_r0 : BitVec 1 := Scalar.cmpi .eq v139_r0 c2_i32_127_r0
  let c0_i32_128_r0 : BitVec 32 := 0#32
  let v141_r0 : BitVec 32 := Scalar.select v140_r0 c0_i32_128_r0 v139_r0
  let c1_i32_134_r0 : BitVec 32 := 1#32
  let v148_r0 : BitVec 32 := Scalar.addi v141_r0 c1_i32_134_r0
  let v149_r0 : BitVec 32 := Scalar.select true_135_r0 v148_r0 v141_r0
  let c2_i32_136_r0 : BitVec 32 := 2#32
  let v150_r0 : BitVec 1 := Scalar.cmpi .eq v149_r0 c2_i32_136_r0
  let c1_i32_129_r0 : BitVec 32 := 1#32
  let v142_r0 : BitVec 32 := Scalar.addi arg11_r0 c1_i32_129_r0
  let v143_r0 : BitVec 32 := Scalar.select v140_r0 v142_r0 arg11_r0
  let c32_i32_130_r0 : BitVec 32 := 32#32
  let v144_r0 : BitVec 1 := Scalar.cmpi .eq v143_r0 c32_i32_130_r0
  let c0_i32_131_r0 : BitVec 32 := 0#32
  let v145_r0 : BitVec 32 := Scalar.select v144_r0 c0_i32_131_r0 v143_r0
  let c1_i32_138_r0 : BitVec 32 := 1#32
  let v152_r0 : BitVec 32 := Scalar.addi v145_r0 c1_i32_138_r0
  let v153_r0 : BitVec 32 := Scalar.select v150_r0 v152_r0 v145_r0
  let c32_i32_139_r0 : BitVec 32 := 32#32
  let v154_r0 : BitVec 1 := Scalar.cmpi .eq v153_r0 c32_i32_139_r0
  let c0_i32_140_r0 : BitVec 32 := 0#32
  let v155_r0 : BitVec 32 := Scalar.select v154_r0 c0_i32_140_r0 v153_r0
  let c0_i32_141_r0 : BitVec 32 := 0#32
  let v156_r0 : BitVec 32 := Scalar.addi v155_r0 c0_i32_141_r0
  let c0_i32_206_r0 : BitVec 32 := 0#32
  let c1024_i32_r0 : BitVec 32 := 1024#32
  let c0_i32_137_r0 : BitVec 32 := 0#32
  let v151_r0 : BitVec 32 := Scalar.select v150_r0 c0_i32_137_r0 v149_r0
  let c0_i32_142_r0 : BitVec 32 := 0#32
  let v157_r0 : BitVec 32 := Scalar.addi v151_r0 c0_i32_142_r0
  let v306_r0 : BitVec 32 := Scalar.muli c1024_i32_r0 v157_r0
  ![v156_r0.toNat, 0, v306_r0.toNat]
def k0_off9 (arg6_r0 : BitVec 32) : Fin 1 → Nat :=
  let c3_i32_203_r0 : BitVec 32 := 3#32
  let v306_r0 : BitVec 32 := Scalar.remui arg6_r0 c3_i32_203_r0
  ![v306_r0.toNat]
def k0_cond3 (k0_t1 : Fin k0_t1_loop.trips) (arg11_r0 : BitVec 32) (arg12_r0 : BitVec 32) : BitVec 1 :=
  let c0_i32_114_r0 : BitVec 32 := 0#32
  let v126_r0 : BitVec 32 := Scalar.addi arg11_r0 c0_i32_114_r0
  let true_117_r0 : BitVec 1 := 1#1
  let c1_i32_116_r0 : BitVec 32 := 1#32
  let v128_r0 : BitVec 32 := Scalar.subi arg12_r0 c1_i32_116_r0
  let v129_r0 : BitVec 32 := Scalar.select true_117_r0 v128_r0 arg12_r0
  let c_m1_i32_118_r0 : BitVec 32 := 4294967295#32
  let v130_r0 : BitVec 1 := Scalar.cmpi .eq v129_r0 c_m1_i32_118_r0
  let c1_i32_120_r0 : BitVec 32 := 1#32
  let v132_r0 : BitVec 32 := Scalar.subi arg11_r0 c1_i32_120_r0
  let v133_r0 : BitVec 32 := Scalar.select v130_r0 v132_r0 arg11_r0
  let c_m1_i32_121_r0 : BitVec 32 := 4294967295#32
  let v134_r0 : BitVec 1 := Scalar.cmpi .eq v133_r0 c_m1_i32_121_r0
  let c31_i32_122_r0 : BitVec 32 := 31#32
  let v135_r0 : BitVec 32 := Scalar.select v134_r0 c31_i32_122_r0 v133_r0
  let c0_i32_123_r0 : BitVec 32 := 0#32
  let v136_r0 : BitVec 32 := Scalar.addi v135_r0 c0_i32_123_r0
  let v192_r0 : BitVec 1 := Scalar.cmpi .ne v126_r0 v136_r0
  let c0_i32_115_r0 : BitVec 32 := 0#32
  let v127_r0 : BitVec 32 := Scalar.addi arg12_r0 c0_i32_115_r0
  let c1_i32_119_r0 : BitVec 32 := 1#32
  let v131_r0 : BitVec 32 := Scalar.select v130_r0 c1_i32_119_r0 v129_r0
  let c0_i32_124_r0 : BitVec 32 := 0#32
  let v137_r0 : BitVec 32 := Scalar.addi v131_r0 c0_i32_124_r0
  let v193_r0 : BitVec 1 := Scalar.cmpi .ne v127_r0 v137_r0
  let v194_r0 : BitVec 1 := Scalar.ori v192_r0 v193_r0
  let c0_i32_56_r0 : BitVec 32 := 0#32
  let c1_i32_57_r0 : BitVec 32 := 1#32
  let arg4_r0 : BitVec 32 := Scf.iv c0_i32_56_r0 c1_i32_57_r0 k0_t1
  let c0_i32_113_r0 : BitVec 32 := 0#32
  let v124_r0 : BitVec 1 := Scalar.cmpi .eq arg4_r0 c0_i32_113_r0
  let v195_r0 : BitVec 1 := Scalar.ori v194_r0 v124_r0
  let c0_i32_161_r0 : BitVec 32 := 0#32
  let v196_r0 : BitVec 1 := Scalar.cmpi .sge arg4_r0 c0_i32_161_r0
  let v197_r0 : BitVec 1 := Scalar.andi v195_r0 v196_r0
  let v198_r0 : BitVec 32 := Scalar.extui v197_r0
  let c0_i32_162_r0 : BitVec 32 := 0#32
  let v199_r0 : BitVec 1 := Scalar.cmpi .ne v198_r0 c0_i32_162_r0
  v199_r0

def k0_off10 (arg6_r0 : BitVec 32) : Fin 3 → Nat :=
  let c3_i32_203_r0 : BitVec 32 := 3#32
  let v306_r0 : BitVec 32 := Scalar.remui arg6_r0 c3_i32_203_r0
  let c0_i32_204_r0 : BitVec 32 := 0#32
  let c0_i32_205_r0 : BitVec 32 := 0#32
  ![v306_r0.toNat, 0, 0]
def k0_off11 (arg11_r0 : BitVec 32) (arg12_r0 : BitVec 32) : Fin 3 → Nat :=
  let c0_i32_114_r0 : BitVec 32 := 0#32
  let v126_r0 : BitVec 32 := Scalar.addi arg11_r0 c0_i32_114_r0
  let c0_i32_206_r0 : BitVec 32 := 0#32
  let c1024_i32_r0 : BitVec 32 := 1024#32
  let c0_i32_115_r0 : BitVec 32 := 0#32
  let v127_r0 : BitVec 32 := Scalar.addi arg12_r0 c0_i32_115_r0
  let v305_r0 : BitVec 32 := Scalar.muli c1024_i32_r0 v127_r0
  ![v126_r0.toNat, 0, v305_r0.toNat]
def k0_off12 (arg6_r0 : BitVec 32) : Fin 3 → Nat :=
  let c3_i32_167_r0 : BitVec 32 := 3#32
  let v216_r0 : BitVec 32 := Scalar.remui arg6_r0 c3_i32_167_r0
  let v221_r0 : Index := Scalar.indexCast v216_r0
  let c0_171_r0 : Index := 0#32
  let c0_172_r0 : Index := 0#32
  ![v221_r0.toNat, 0, 0]

def k0_chk2 (arg6_r0 : BitVec 32) : Prop :=
  (∀ a, (k0_off12 arg6_r0) a + S1x1024x1024.size a ≤ S3x1024x1024.size a)
theorem k0_off12_inb : ∀ (arg6_r0 : BitVec 32) (k0_hw2 : k0_chk2 arg6_r0), ∀ a, (k0_off12 arg6_r0) a + S1x1024x1024.size a ≤ S3x1024x1024.size a := fun arg6_r0 k0_hw2 => k0_hw2

def k0_off13 (arg7_r0 : BitVec 32) : Fin 3 → Nat :=
  let c2_i32_168_r0 : BitVec 32 := 2#32
  let v217_r0 : BitVec 32 := Scalar.remui arg7_r0 c2_i32_168_r0
  let v228_r0 : Index := Scalar.indexCast v217_r0
  let c0_173_r0 : Index := 0#32
  let c0_174_r0 : Index := 0#32
  ![v228_r0.toNat, 0, 0]

def k0_chk3 (arg7_r0 : BitVec 32) : Prop :=
  (∀ a, (k0_off13 arg7_r0) a + S1x512x1024.size a ≤ S2x512x1024.size a) ∧
  (∀ (hinb : ∀ a, (k0_off13 arg7_r0) a + S1x512x1024.size a ≤ S2x512x1024.size a), (Rect.unit (s := S2x512x1024) (k0_off13 arg7_r0) S1x512x1024.size hinb).PackedRows (EltTy.packing .bf16))
theorem k0_off13_inb : ∀ (arg7_r0 : BitVec 32) (k0_hw3 : k0_chk3 arg7_r0), ∀ a, (k0_off13 arg7_r0) a + S1x512x1024.size a ≤ S2x512x1024.size a := fun arg7_r0 k0_hw3 => k0_hw3.1
theorem k0_off13_packedbf16 : ∀ (arg7_r0 : BitVec 32) (k0_hw3 : k0_chk3 arg7_r0), (Rect.unit (s := S2x512x1024) (k0_off13 arg7_r0) S1x512x1024.size (k0_off13_inb arg7_r0 k0_hw3)).PackedRows (EltTy.packing .bf16) := fun arg7_r0 k0_hw3 => k0_hw3.2 (k0_off13_inb arg7_r0 k0_hw3)

def k0_off14 (arg9_r0 : BitVec 32) : Fin 3 → Nat :=
  let c2_i32_169_r0 : BitVec 32 := 2#32
  let v218_r0 : BitVec 32 := Scalar.remui arg9_r0 c2_i32_169_r0
  let v234_r0 : Index := Scalar.indexCast v218_r0
  let c0_175_r0 : Index := 0#32
  let c0_176_r0 : Index := 0#32
  ![v234_r0.toNat, 0, 0]

def k0_chk4 (arg9_r0 : BitVec 32) : Prop :=
  (∀ a, (k0_off14 arg9_r0) a + S1x512x1024.size a ≤ S2x512x1024.size a) ∧
  (∀ (hinb : ∀ a, (k0_off14 arg9_r0) a + S1x512x1024.size a ≤ S2x512x1024.size a), (Rect.unit (s := S2x512x1024) (k0_off14 arg9_r0) S1x512x1024.size hinb).PackedRows (EltTy.packing .bf16))
theorem k0_off14_inb : ∀ (arg9_r0 : BitVec 32) (k0_hw4 : k0_chk4 arg9_r0), ∀ a, (k0_off14 arg9_r0) a + S1x512x1024.size a ≤ S2x512x1024.size a := fun arg9_r0 k0_hw4 => k0_hw4.1
theorem k0_off14_packedbf16 : ∀ (arg9_r0 : BitVec 32) (k0_hw4 : k0_chk4 arg9_r0), (Rect.unit (s := S2x512x1024) (k0_off14 arg9_r0) S1x512x1024.size (k0_off14_inb arg9_r0 k0_hw4)).PackedRows (EltTy.packing .bf16) := fun arg9_r0 k0_hw4 => k0_hw4.2 (k0_off14_inb arg9_r0 k0_hw4)

def k0_off15 (arg7_r0 : BitVec 32) : Fin 1 → Nat :=
  let c2_i32_203_r0 : BitVec 32 := 2#32
  let v305_r0 : BitVec 32 := Scalar.remui arg7_r0 c2_i32_203_r0
  ![v305_r0.toNat]
def k0_cond7 (k0_t1 : Fin k0_t1_loop.trips) (arg11_r0 : BitVec 32) (arg12_r0 : BitVec 32) : BitVec 1 :=
  let c0_i32_114_r0 : BitVec 32 := 0#32
  let v126_r0 : BitVec 32 := Scalar.addi arg11_r0 c0_i32_114_r0
  let true_126_r0 : BitVec 1 := 1#1
  let c1_i32_125_r0 : BitVec 32 := 1#32
  let v138_r0 : BitVec 32 := Scalar.addi arg12_r0 c1_i32_125_r0
  let v139_r0 : BitVec 32 := Scalar.select true_126_r0 v138_r0 arg12_r0
  let c2_i32_127_r0 : BitVec 32 := 2#32
  let v140_r0 : BitVec 1 := Scalar.cmpi .eq v139_r0 c2_i32_127_r0
  let c1_i32_129_r0 : BitVec 32 := 1#32
  let v142_r0 : BitVec 32 := Scalar.addi arg11_r0 c1_i32_129_r0
  let v143_r0 : BitVec 32 := Scalar.select v140_r0 v142_r0 arg11_r0
  let c32_i32_130_r0 : BitVec 32 := 32#32
  let v144_r0 : BitVec 1 := Scalar.cmpi .eq v143_r0 c32_i32_130_r0
  let c0_i32_131_r0 : BitVec 32 := 0#32
  let v145_r0 : BitVec 32 := Scalar.select v144_r0 c0_i32_131_r0 v143_r0
  let c0_i32_132_r0 : BitVec 32 := 0#32
  let v146_r0 : BitVec 32 := Scalar.addi v145_r0 c0_i32_132_r0
  let v245_r0 : BitVec 1 := Scalar.cmpi .ne v126_r0 v146_r0
  let c0_i32_115_r0 : BitVec 32 := 0#32
  let v127_r0 : BitVec 32 := Scalar.addi arg12_r0 c0_i32_115_r0
  let c0_i32_128_r0 : BitVec 32 := 0#32
  let v141_r0 : BitVec 32 := Scalar.select v140_r0 c0_i32_128_r0 v139_r0
  let c0_i32_133_r0 : BitVec 32 := 0#32
  let v147_r0 : BitVec 32 := Scalar.addi v141_r0 c0_i32_133_r0
  let v246_r0 : BitVec 1 := Scalar.cmpi .ne v127_r0 v147_r0
  let v247_r0 : BitVec 1 := Scalar.ori v245_r0 v246_r0
  let c0_i32_56_r0 : BitVec 32 := 0#32
  let c1_i32_57_r0 : BitVec 32 := 1#32
  let arg4_r0 : BitVec 32 := Scf.iv c0_i32_56_r0 c1_i32_57_r0 k0_t1
  let c63_i32_r0 : BitVec 32 := 63#32
  let v125_r0 : BitVec 1 := Scalar.cmpi .eq arg4_r0 c63_i32_r0
  let v248_r0 : BitVec 1 := Scalar.ori v247_r0 v125_r0
  let v249_r0 : BitVec 32 := Scalar.extui v248_r0
  let c0_i32_178_r0 : BitVec 32 := 0#32
  let v250_r0 : BitVec 1 := Scalar.cmpi .ne v249_r0 c0_i32_178_r0
  v250_r0

def k0_off16 (arg11_r0 : BitVec 32) (arg12_r0 : BitVec 32) : Fin 3 → Nat :=
  let c0_i32_114_r0 : BitVec 32 := 0#32
  let v126_r0 : BitVec 32 := Scalar.addi arg11_r0 c0_i32_114_r0
  let c512_i32_204_r0 : BitVec 32 := 512#32
  let c0_i32_115_r0 : BitVec 32 := 0#32
  let v127_r0 : BitVec 32 := Scalar.addi arg12_r0 c0_i32_115_r0
  let v306_r0 : BitVec 32 := Scalar.muli c512_i32_204_r0 v127_r0
  let c0_i32_205_r0 : BitVec 32 := 0#32
  ![v126_r0.toNat, v306_r0.toNat, 0]
def k0_off17 (arg7_r0 : BitVec 32) : Fin 3 → Nat :=
  let c2_i32_203_r0 : BitVec 32 := 2#32
  let v305_r0 : BitVec 32 := Scalar.remui arg7_r0 c2_i32_203_r0
  let c0_i32_206_r0 : BitVec 32 := 0#32
  let c0_i32_207_r0 : BitVec 32 := 0#32
  ![v305_r0.toNat, 0, 0]
def k0_off18 (arg9_r0 : BitVec 32) : Fin 1 → Nat :=
  let c2_i32_203_r0 : BitVec 32 := 2#32
  let v305_r0 : BitVec 32 := Scalar.remui arg9_r0 c2_i32_203_r0
  ![v305_r0.toNat]
def k0_cond8 (k0_t1 : Fin k0_t1_loop.trips) (arg11_r0 : BitVec 32) (arg12_r0 : BitVec 32) : BitVec 1 :=
  let c0_i32_114_r0 : BitVec 32 := 0#32
  let v126_r0 : BitVec 32 := Scalar.addi arg11_r0 c0_i32_114_r0
  let true_126_r0 : BitVec 1 := 1#1
  let c1_i32_125_r0 : BitVec 32 := 1#32
  let v138_r0 : BitVec 32 := Scalar.addi arg12_r0 c1_i32_125_r0
  let v139_r0 : BitVec 32 := Scalar.select true_126_r0 v138_r0 arg12_r0
  let c2_i32_127_r0 : BitVec 32 := 2#32
  let v140_r0 : BitVec 1 := Scalar.cmpi .eq v139_r0 c2_i32_127_r0
  let c1_i32_129_r0 : BitVec 32 := 1#32
  let v142_r0 : BitVec 32 := Scalar.addi arg11_r0 c1_i32_129_r0
  let v143_r0 : BitVec 32 := Scalar.select v140_r0 v142_r0 arg11_r0
  let c32_i32_130_r0 : BitVec 32 := 32#32
  let v144_r0 : BitVec 1 := Scalar.cmpi .eq v143_r0 c32_i32_130_r0
  let c0_i32_131_r0 : BitVec 32 := 0#32
  let v145_r0 : BitVec 32 := Scalar.select v144_r0 c0_i32_131_r0 v143_r0
  let c0_i32_132_r0 : BitVec 32 := 0#32
  let v146_r0 : BitVec 32 := Scalar.addi v145_r0 c0_i32_132_r0
  let v254_r0 : BitVec 1 := Scalar.cmpi .ne v126_r0 v146_r0
  let c0_i32_115_r0 : BitVec 32 := 0#32
  let v127_r0 : BitVec 32 := Scalar.addi arg12_r0 c0_i32_115_r0
  let c0_i32_128_r0 : BitVec 32 := 0#32
  let v141_r0 : BitVec 32 := Scalar.select v140_r0 c0_i32_128_r0 v139_r0
  let c0_i32_133_r0 : BitVec 32 := 0#32
  let v147_r0 : BitVec 32 := Scalar.addi v141_r0 c0_i32_133_r0
  let v255_r0 : BitVec 1 := Scalar.cmpi .ne v127_r0 v147_r0
  let v256_r0 : BitVec 1 := Scalar.ori v254_r0 v255_r0
  let c0_i32_56_r0 : BitVec 32 := 0#32
  let c1_i32_57_r0 : BitVec 32 := 1#32
  let arg4_r0 : BitVec 32 := Scf.iv c0_i32_56_r0 c1_i32_57_r0 k0_t1
  let c63_i32_r0 : BitVec 32 := 63#32
  let v125_r0 : BitVec 1 := Scalar.cmpi .eq arg4_r0 c63_i32_r0
  let v257_r0 : BitVec 1 := Scalar.ori v256_r0 v125_r0
  let v258_r0 : BitVec 32 := Scalar.extui v257_r0
  let c0_i32_181_r0 : BitVec 32 := 0#32
  let v259_r0 : BitVec 1 := Scalar.cmpi .ne v258_r0 c0_i32_181_r0
  v259_r0

def k0_off19 (arg11_r0 : BitVec 32) (arg12_r0 : BitVec 32) : Fin 3 → Nat :=
  let c0_i32_114_r0 : BitVec 32 := 0#32
  let v126_r0 : BitVec 32 := Scalar.addi arg11_r0 c0_i32_114_r0
  let c512_i32_204_r0 : BitVec 32 := 512#32
  let c0_i32_115_r0 : BitVec 32 := 0#32
  let v127_r0 : BitVec 32 := Scalar.addi arg12_r0 c0_i32_115_r0
  let v306_r0 : BitVec 32 := Scalar.muli c512_i32_204_r0 v127_r0
  let c0_i32_205_r0 : BitVec 32 := 0#32
  ![v126_r0.toNat, v306_r0.toNat, 0]
def k0_off20 (arg9_r0 : BitVec 32) : Fin 3 → Nat :=
  let c2_i32_203_r0 : BitVec 32 := 2#32
  let v305_r0 : BitVec 32 := Scalar.remui arg9_r0 c2_i32_203_r0
  let c0_i32_206_r0 : BitVec 32 := 0#32
  let c0_i32_207_r0 : BitVec 32 := 0#32
  ![v305_r0.toNat, 0, 0]
def k0_off21 (arg8_r0 : BitVec 32) : Fin 1 → Nat :=
  let c2_i32_203_r0 : BitVec 32 := 2#32
  let v305_r0 : BitVec 32 := Scalar.remui arg8_r0 c2_i32_203_r0
  ![v305_r0.toNat]
def k0_cond10 (k0_t1 : Fin k0_t1_loop.trips) (arg11_r0 : BitVec 32) (arg12_r0 : BitVec 32) : BitVec 1 :=
  let c0_i32_114_r0 : BitVec 32 := 0#32
  let v126_r0 : BitVec 32 := Scalar.addi arg11_r0 c0_i32_114_r0
  let true_117_r0 : BitVec 1 := 1#1
  let c1_i32_116_r0 : BitVec 32 := 1#32
  let v128_r0 : BitVec 32 := Scalar.subi arg12_r0 c1_i32_116_r0
  let v129_r0 : BitVec 32 := Scalar.select true_117_r0 v128_r0 arg12_r0
  let c_m1_i32_118_r0 : BitVec 32 := 4294967295#32
  let v130_r0 : BitVec 1 := Scalar.cmpi .eq v129_r0 c_m1_i32_118_r0
  let c1_i32_120_r0 : BitVec 32 := 1#32
  let v132_r0 : BitVec 32 := Scalar.subi arg11_r0 c1_i32_120_r0
  let v133_r0 : BitVec 32 := Scalar.select v130_r0 v132_r0 arg11_r0
  let c_m1_i32_121_r0 : BitVec 32 := 4294967295#32
  let v134_r0 : BitVec 1 := Scalar.cmpi .eq v133_r0 c_m1_i32_121_r0
  let c31_i32_122_r0 : BitVec 32 := 31#32
  let v135_r0 : BitVec 32 := Scalar.select v134_r0 c31_i32_122_r0 v133_r0
  let c0_i32_123_r0 : BitVec 32 := 0#32
  let v136_r0 : BitVec 32 := Scalar.addi v135_r0 c0_i32_123_r0
  let v271_r0 : BitVec 1 := Scalar.cmpi .ne v126_r0 v136_r0
  let c0_i32_115_r0 : BitVec 32 := 0#32
  let v127_r0 : BitVec 32 := Scalar.addi arg12_r0 c0_i32_115_r0
  let c1_i32_119_r0 : BitVec 32 := 1#32
  let v131_r0 : BitVec 32 := Scalar.select v130_r0 c1_i32_119_r0 v129_r0
  let c0_i32_124_r0 : BitVec 32 := 0#32
  let v137_r0 : BitVec 32 := Scalar.addi v131_r0 c0_i32_124_r0
  let v272_r0 : BitVec 1 := Scalar.cmpi .ne v127_r0 v137_r0
  let v273_r0 : BitVec 1 := Scalar.ori v271_r0 v272_r0
  let c0_i32_56_r0 : BitVec 32 := 0#32
  let c1_i32_57_r0 : BitVec 32 := 1#32
  let arg4_r0 : BitVec 32 := Scf.iv c0_i32_56_r0 c1_i32_57_r0 k0_t1
  let c0_i32_113_r0 : BitVec 32 := 0#32
  let v124_r0 : BitVec 1 := Scalar.cmpi .eq arg4_r0 c0_i32_113_r0
  let true_187_r0 : BitVec 1 := 1#1
  let v274_r0 : BitVec 1 := Scalar.xori v124_r0 true_187_r0
  let v275_r0 : BitVec 1 := Scalar.andi v273_r0 v274_r0
  let v276_r0 : BitVec 32 := Scalar.extui v275_r0
  let c0_i32_188_r0 : BitVec 32 := 0#32
  let v277_r0 : BitVec 1 := Scalar.cmpi .ne v276_r0 c0_i32_188_r0
  v277_r0

def k0_off22 (arg11_r0 : BitVec 32) (arg12_r0 : BitVec 32) : Fin 3 → Nat :=
  let true_117_r0 : BitVec 1 := 1#1
  let c1_i32_116_r0 : BitVec 32 := 1#32
  let v128_r0 : BitVec 32 := Scalar.subi arg12_r0 c1_i32_116_r0
  let v129_r0 : BitVec 32 := Scalar.select true_117_r0 v128_r0 arg12_r0
  let c_m1_i32_118_r0 : BitVec 32 := 4294967295#32
  let v130_r0 : BitVec 1 := Scalar.cmpi .eq v129_r0 c_m1_i32_118_r0
  let c1_i32_120_r0 : BitVec 32 := 1#32
  let v132_r0 : BitVec 32 := Scalar.subi arg11_r0 c1_i32_120_r0
  let v133_r0 : BitVec 32 := Scalar.select v130_r0 v132_r0 arg11_r0
  let c_m1_i32_121_r0 : BitVec 32 := 4294967295#32
  let v134_r0 : BitVec 1 := Scalar.cmpi .eq v133_r0 c_m1_i32_121_r0
  let c31_i32_122_r0 : BitVec 32 := 31#32
  let v135_r0 : BitVec 32 := Scalar.select v134_r0 c31_i32_122_r0 v133_r0
  let c0_i32_123_r0 : BitVec 32 := 0#32
  let v136_r0 : BitVec 32 := Scalar.addi v135_r0 c0_i32_123_r0
  let c512_i32_204_r0 : BitVec 32 := 512#32
  let c1_i32_119_r0 : BitVec 32 := 1#32
  let v131_r0 : BitVec 32 := Scalar.select v130_r0 c1_i32_119_r0 v129_r0
  let c0_i32_124_r0 : BitVec 32 := 0#32
  let v137_r0 : BitVec 32 := Scalar.addi v131_r0 c0_i32_124_r0
  let v306_r0 : BitVec 32 := Scalar.muli c512_i32_204_r0 v137_r0
  let c0_i32_205_r0 : BitVec 32 := 0#32
  ![v136_r0.toNat, v306_r0.toNat, 0]
def k0_off23 (arg8_r0 : BitVec 32) : Fin 3 → Nat :=
  let c2_i32_203_r0 : BitVec 32 := 2#32
  let v305_r0 : BitVec 32 := Scalar.remui arg8_r0 c2_i32_203_r0
  let c0_i32_206_r0 : BitVec 32 := 0#32
  let c0_i32_207_r0 : BitVec 32 := 0#32
  ![v305_r0.toNat, 0, 0]
def k0_off24 (arg10_r0 : BitVec 32) : Fin 1 → Nat :=
  let c2_i32_203_r0 : BitVec 32 := 2#32
  let v305_r0 : BitVec 32 := Scalar.remui arg10_r0 c2_i32_203_r0
  ![v305_r0.toNat]
def k0_cond11 (k0_t1 : Fin k0_t1_loop.trips) (arg11_r0 : BitVec 32) (arg12_r0 : BitVec 32) : BitVec 1 :=
  let c0_i32_114_r0 : BitVec 32 := 0#32
  let v126_r0 : BitVec 32 := Scalar.addi arg11_r0 c0_i32_114_r0
  let true_117_r0 : BitVec 1 := 1#1
  let c1_i32_116_r0 : BitVec 32 := 1#32
  let v128_r0 : BitVec 32 := Scalar.subi arg12_r0 c1_i32_116_r0
  let v129_r0 : BitVec 32 := Scalar.select true_117_r0 v128_r0 arg12_r0
  let c_m1_i32_118_r0 : BitVec 32 := 4294967295#32
  let v130_r0 : BitVec 1 := Scalar.cmpi .eq v129_r0 c_m1_i32_118_r0
  let c1_i32_120_r0 : BitVec 32 := 1#32
  let v132_r0 : BitVec 32 := Scalar.subi arg11_r0 c1_i32_120_r0
  let v133_r0 : BitVec 32 := Scalar.select v130_r0 v132_r0 arg11_r0
  let c_m1_i32_121_r0 : BitVec 32 := 4294967295#32
  let v134_r0 : BitVec 1 := Scalar.cmpi .eq v133_r0 c_m1_i32_121_r0
  let c31_i32_122_r0 : BitVec 32 := 31#32
  let v135_r0 : BitVec 32 := Scalar.select v134_r0 c31_i32_122_r0 v133_r0
  let c0_i32_123_r0 : BitVec 32 := 0#32
  let v136_r0 : BitVec 32 := Scalar.addi v135_r0 c0_i32_123_r0
  let v281_r0 : BitVec 1 := Scalar.cmpi .ne v126_r0 v136_r0
  let c0_i32_115_r0 : BitVec 32 := 0#32
  let v127_r0 : BitVec 32 := Scalar.addi arg12_r0 c0_i32_115_r0
  let c1_i32_119_r0 : BitVec 32 := 1#32
  let v131_r0 : BitVec 32 := Scalar.select v130_r0 c1_i32_119_r0 v129_r0
  let c0_i32_124_r0 : BitVec 32 := 0#32
  let v137_r0 : BitVec 32 := Scalar.addi v131_r0 c0_i32_124_r0
  let v282_r0 : BitVec 1 := Scalar.cmpi .ne v127_r0 v137_r0
  let v283_r0 : BitVec 1 := Scalar.ori v281_r0 v282_r0
  let c0_i32_56_r0 : BitVec 32 := 0#32
  let c1_i32_57_r0 : BitVec 32 := 1#32
  let arg4_r0 : BitVec 32 := Scf.iv c0_i32_56_r0 c1_i32_57_r0 k0_t1
  let c0_i32_113_r0 : BitVec 32 := 0#32
  let v124_r0 : BitVec 1 := Scalar.cmpi .eq arg4_r0 c0_i32_113_r0
  let true_191_r0 : BitVec 1 := 1#1
  let v284_r0 : BitVec 1 := Scalar.xori v124_r0 true_191_r0
  let v285_r0 : BitVec 1 := Scalar.andi v283_r0 v284_r0
  let v286_r0 : BitVec 32 := Scalar.extui v285_r0
  let c0_i32_192_r0 : BitVec 32 := 0#32
  let v287_r0 : BitVec 1 := Scalar.cmpi .ne v286_r0 c0_i32_192_r0
  v287_r0

def k0_off25 (arg11_r0 : BitVec 32) (arg12_r0 : BitVec 32) : Fin 3 → Nat :=
  let true_117_r0 : BitVec 1 := 1#1
  let c1_i32_116_r0 : BitVec 32 := 1#32
  let v128_r0 : BitVec 32 := Scalar.subi arg12_r0 c1_i32_116_r0
  let v129_r0 : BitVec 32 := Scalar.select true_117_r0 v128_r0 arg12_r0
  let c_m1_i32_118_r0 : BitVec 32 := 4294967295#32
  let v130_r0 : BitVec 1 := Scalar.cmpi .eq v129_r0 c_m1_i32_118_r0
  let c1_i32_120_r0 : BitVec 32 := 1#32
  let v132_r0 : BitVec 32 := Scalar.subi arg11_r0 c1_i32_120_r0
  let v133_r0 : BitVec 32 := Scalar.select v130_r0 v132_r0 arg11_r0
  let c_m1_i32_121_r0 : BitVec 32 := 4294967295#32
  let v134_r0 : BitVec 1 := Scalar.cmpi .eq v133_r0 c_m1_i32_121_r0
  let c31_i32_122_r0 : BitVec 32 := 31#32
  let v135_r0 : BitVec 32 := Scalar.select v134_r0 c31_i32_122_r0 v133_r0
  let c0_i32_123_r0 : BitVec 32 := 0#32
  let v136_r0 : BitVec 32 := Scalar.addi v135_r0 c0_i32_123_r0
  let c512_i32_204_r0 : BitVec 32 := 512#32
  let c1_i32_119_r0 : BitVec 32 := 1#32
  let v131_r0 : BitVec 32 := Scalar.select v130_r0 c1_i32_119_r0 v129_r0
  let c0_i32_124_r0 : BitVec 32 := 0#32
  let v137_r0 : BitVec 32 := Scalar.addi v131_r0 c0_i32_124_r0
  let v306_r0 : BitVec 32 := Scalar.muli c512_i32_204_r0 v137_r0
  let c0_i32_205_r0 : BitVec 32 := 0#32
  ![v136_r0.toNat, v306_r0.toNat, 0]
def k0_off26 (arg10_r0 : BitVec 32) : Fin 3 → Nat :=
  let c2_i32_203_r0 : BitVec 32 := 2#32
  let v305_r0 : BitVec 32 := Scalar.remui arg10_r0 c2_i32_203_r0
  let c0_i32_206_r0 : BitVec 32 := 0#32
  let c0_i32_207_r0 : BitVec 32 := 0#32
  ![v305_r0.toNat, 0, 0]

def k0_chk1 (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) : Prop :=
  (∀ (k0_h2 : k0_cond2 k0_t1 arg11_r0 arg12_r0 = 1#1), ∀ a, (k0_off6 arg5_r0) a + S1.size a ≤ S3.size a) ∧
  (∀ (k0_h2 : k0_cond2 k0_t1 arg11_r0 arg12_r0 = 1#1), ∀ a, (k0_off7 arg5_r0) a + S1x1024x1024.size a ≤ S3x1024x1024.size a) ∧
  (∀ (k0_h2 : k0_cond2 k0_t1 arg11_r0 arg12_r0 = 1#1), ∀ a, (k0_off8 arg11_r0 arg12_r0) a + S1x1024x1024.size a ≤ S32x1024x2048.size a) ∧
  (∀ (k0_h3 : k0_cond3 k0_t1 arg11_r0 arg12_r0 = 1#1), ∀ a, (k0_off9 arg6_r0) a + S1.size a ≤ S3.size a) ∧
  (∀ (k0_h3 : k0_cond3 k0_t1 arg11_r0 arg12_r0 = 1#1), ∀ a, (k0_off10 arg6_r0) a + S1x1024x1024.size a ≤ S3x1024x1024.size a) ∧
  (∀ (k0_h3 : k0_cond3 k0_t1 arg11_r0 arg12_r0 = 1#1), ∀ a, (k0_off11 arg11_r0 arg12_r0) a + S1x1024x1024.size a ≤ S32x1024x2048.size a) ∧
  (∀ (k0_h7 : k0_cond7 k0_t1 arg11_r0 arg12_r0 = 1#1), ∀ a, (k0_off15 arg7_r0) a + S1.size a ≤ S2.size a) ∧
  (∀ (k0_h7 : k0_cond7 k0_t1 arg11_r0 arg12_r0 = 1#1), ∀ a, (k0_off16 arg11_r0 arg12_r0) a + S1x512x1024.size a ≤ S32x1024x1024.size a) ∧
  (∀ (k0_h7 : k0_cond7 k0_t1 arg11_r0 arg12_r0 = 1#1), ∀ a, (k0_off17 arg7_r0) a + S1x512x1024.size a ≤ S2x512x1024.size a) ∧
  (∀ (k0_h7 : k0_cond7 k0_t1 arg11_r0 arg12_r0 = 1#1), ∀ (hinb : ∀ a, (k0_off17 arg7_r0) a + S1x512x1024.size a ≤ S2x512x1024.size a), (Rect.unit (s := S2x512x1024) (k0_off17 arg7_r0) S1x512x1024.size hinb).WholeWords (EltTy.packing .bf16)) ∧
  (∀ (k0_h7 : k0_cond7 k0_t1 arg11_r0 arg12_r0 = 1#1), ∀ (hinb : ∀ a, (k0_off16 arg11_r0 arg12_r0) a + S1x512x1024.size a ≤ S32x1024x1024.size a), (Rect.unit (s := S32x1024x1024) (k0_off16 arg11_r0 arg12_r0) S1x512x1024.size hinb).WholeWords (EltTy.packing .bf16)) ∧
  (∀ (k0_h8 : k0_cond8 k0_t1 arg11_r0 arg12_r0 = 1#1), ∀ a, (k0_off18 arg9_r0) a + S1.size a ≤ S2.size a) ∧
  (∀ (k0_h8 : k0_cond8 k0_t1 arg11_r0 arg12_r0 = 1#1), ∀ a, (k0_off19 arg11_r0 arg12_r0) a + S1x512x1024.size a ≤ S32x1024x1024.size a) ∧
  (∀ (k0_h8 : k0_cond8 k0_t1 arg11_r0 arg12_r0 = 1#1), ∀ a, (k0_off20 arg9_r0) a + S1x512x1024.size a ≤ S2x512x1024.size a) ∧
  (∀ (k0_h8 : k0_cond8 k0_t1 arg11_r0 arg12_r0 = 1#1), ∀ (hinb : ∀ a, (k0_off20 arg9_r0) a + S1x512x1024.size a ≤ S2x512x1024.size a), (Rect.unit (s := S2x512x1024) (k0_off20 arg9_r0) S1x512x1024.size hinb).WholeWords (EltTy.packing .bf16)) ∧
  (∀ (k0_h8 : k0_cond8 k0_t1 arg11_r0 arg12_r0 = 1#1), ∀ (hinb : ∀ a, (k0_off19 arg11_r0 arg12_r0) a + S1x512x1024.size a ≤ S32x1024x1024.size a), (Rect.unit (s := S32x1024x1024) (k0_off19 arg11_r0 arg12_r0) S1x512x1024.size hinb).WholeWords (EltTy.packing .bf16)) ∧
  (∀ (k0_h10 : k0_cond10 k0_t1 arg11_r0 arg12_r0 = 1#1), ∀ a, (k0_off21 arg8_r0) a + S1.size a ≤ S2.size a) ∧
  (∀ (k0_h10 : k0_cond10 k0_t1 arg11_r0 arg12_r0 = 1#1), ∀ a, (k0_off22 arg11_r0 arg12_r0) a + S1x512x1024.size a ≤ S32x1024x1024.size a) ∧
  (∀ (k0_h10 : k0_cond10 k0_t1 arg11_r0 arg12_r0 = 1#1), ∀ a, (k0_off23 arg8_r0) a + S1x512x1024.size a ≤ S2x512x1024.size a) ∧
  (∀ (k0_h10 : k0_cond10 k0_t1 arg11_r0 arg12_r0 = 1#1), ∀ (hinb : ∀ a, (k0_off23 arg8_r0) a + S1x512x1024.size a ≤ S2x512x1024.size a), (Rect.unit (s := S2x512x1024) (k0_off23 arg8_r0) S1x512x1024.size hinb).WholeWords (EltTy.packing .bf16)) ∧
  (∀ (k0_h10 : k0_cond10 k0_t1 arg11_r0 arg12_r0 = 1#1), ∀ (hinb : ∀ a, (k0_off22 arg11_r0 arg12_r0) a + S1x512x1024.size a ≤ S32x1024x1024.size a), (Rect.unit (s := S32x1024x1024) (k0_off22 arg11_r0 arg12_r0) S1x512x1024.size hinb).WholeWords (EltTy.packing .bf16)) ∧
  (∀ (k0_h11 : k0_cond11 k0_t1 arg11_r0 arg12_r0 = 1#1), ∀ a, (k0_off24 arg10_r0) a + S1.size a ≤ S2.size a) ∧
  (∀ (k0_h11 : k0_cond11 k0_t1 arg11_r0 arg12_r0 = 1#1), ∀ a, (k0_off25 arg11_r0 arg12_r0) a + S1x512x1024.size a ≤ S32x1024x1024.size a) ∧
  (∀ (k0_h11 : k0_cond11 k0_t1 arg11_r0 arg12_r0 = 1#1), ∀ a, (k0_off26 arg10_r0) a + S1x512x1024.size a ≤ S2x512x1024.size a) ∧
  (∀ (k0_h11 : k0_cond11 k0_t1 arg11_r0 arg12_r0 = 1#1), ∀ (hinb : ∀ a, (k0_off26 arg10_r0) a + S1x512x1024.size a ≤ S2x512x1024.size a), (Rect.unit (s := S2x512x1024) (k0_off26 arg10_r0) S1x512x1024.size hinb).WholeWords (EltTy.packing .bf16)) ∧
  (∀ (k0_h11 : k0_cond11 k0_t1 arg11_r0 arg12_r0 = 1#1), ∀ (hinb : ∀ a, (k0_off25 arg11_r0 arg12_r0) a + S1x512x1024.size a ≤ S32x1024x1024.size a), (Rect.unit (s := S32x1024x1024) (k0_off25 arg11_r0 arg12_r0) S1x512x1024.size hinb).WholeWords (EltTy.packing .bf16))
theorem k0_off6_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h2 : k0_cond2 k0_t1 arg11_r0 arg12_r0 = 1#1), ∀ a, (k0_off6 arg5_r0) a + S1.size a ≤ S3.size a := fun k0_t1 arg5_r0 arg6_r0 arg7_r0 arg8_r0 arg9_r0 arg10_r0 arg11_r0 arg12_r0 k0_hw1 k0_h2 => k0_hw1.1 k0_h2
theorem k0_off7_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h2 : k0_cond2 k0_t1 arg11_r0 arg12_r0 = 1#1), ∀ a, (k0_off7 arg5_r0) a + S1x1024x1024.size a ≤ S3x1024x1024.size a := fun k0_t1 arg5_r0 arg6_r0 arg7_r0 arg8_r0 arg9_r0 arg10_r0 arg11_r0 arg12_r0 k0_hw1 k0_h2 => k0_hw1.2.1 k0_h2
theorem k0_off8_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h2 : k0_cond2 k0_t1 arg11_r0 arg12_r0 = 1#1), ∀ a, (k0_off8 arg11_r0 arg12_r0) a + S1x1024x1024.size a ≤ S32x1024x2048.size a := fun k0_t1 arg5_r0 arg6_r0 arg7_r0 arg8_r0 arg9_r0 arg10_r0 arg11_r0 arg12_r0 k0_hw1 k0_h2 => k0_hw1.2.2.1 k0_h2
theorem k0_off9_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h3 : k0_cond3 k0_t1 arg11_r0 arg12_r0 = 1#1), ∀ a, (k0_off9 arg6_r0) a + S1.size a ≤ S3.size a := fun k0_t1 arg5_r0 arg6_r0 arg7_r0 arg8_r0 arg9_r0 arg10_r0 arg11_r0 arg12_r0 k0_hw1 k0_h3 => k0_hw1.2.2.2.1 k0_h3
theorem k0_off10_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h3 : k0_cond3 k0_t1 arg11_r0 arg12_r0 = 1#1), ∀ a, (k0_off10 arg6_r0) a + S1x1024x1024.size a ≤ S3x1024x1024.size a := fun k0_t1 arg5_r0 arg6_r0 arg7_r0 arg8_r0 arg9_r0 arg10_r0 arg11_r0 arg12_r0 k0_hw1 k0_h3 => k0_hw1.2.2.2.2.1 k0_h3
theorem k0_off11_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h3 : k0_cond3 k0_t1 arg11_r0 arg12_r0 = 1#1), ∀ a, (k0_off11 arg11_r0 arg12_r0) a + S1x1024x1024.size a ≤ S32x1024x2048.size a := fun k0_t1 arg5_r0 arg6_r0 arg7_r0 arg8_r0 arg9_r0 arg10_r0 arg11_r0 arg12_r0 k0_hw1 k0_h3 => k0_hw1.2.2.2.2.2.1 k0_h3
theorem k0_off15_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h7 : k0_cond7 k0_t1 arg11_r0 arg12_r0 = 1#1), ∀ a, (k0_off15 arg7_r0) a + S1.size a ≤ S2.size a := fun k0_t1 arg5_r0 arg6_r0 arg7_r0 arg8_r0 arg9_r0 arg10_r0 arg11_r0 arg12_r0 k0_hw1 k0_h7 => k0_hw1.2.2.2.2.2.2.1 k0_h7
theorem k0_off16_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h7 : k0_cond7 k0_t1 arg11_r0 arg12_r0 = 1#1), ∀ a, (k0_off16 arg11_r0 arg12_r0) a + S1x512x1024.size a ≤ S32x1024x1024.size a := fun k0_t1 arg5_r0 arg6_r0 arg7_r0 arg8_r0 arg9_r0 arg10_r0 arg11_r0 arg12_r0 k0_hw1 k0_h7 => k0_hw1.2.2.2.2.2.2.2.1 k0_h7
theorem k0_off17_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h7 : k0_cond7 k0_t1 arg11_r0 arg12_r0 = 1#1), ∀ a, (k0_off17 arg7_r0) a + S1x512x1024.size a ≤ S2x512x1024.size a := fun k0_t1 arg5_r0 arg6_r0 arg7_r0 arg8_r0 arg9_r0 arg10_r0 arg11_r0 arg12_r0 k0_hw1 k0_h7 => k0_hw1.2.2.2.2.2.2.2.2.1 k0_h7
theorem k0_off17_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h7 : k0_cond7 k0_t1 arg11_r0 arg12_r0 = 1#1), (Rect.unit (s := S2x512x1024) (k0_off17 arg7_r0) S1x512x1024.size (k0_off17_inb k0_t1 arg5_r0 arg6_r0 arg7_r0 arg8_r0 arg9_r0 arg10_r0 arg11_r0 arg12_r0 k0_hw1 k0_h7)).WholeWords (EltTy.packing .bf16) := fun k0_t1 arg5_r0 arg6_r0 arg7_r0 arg8_r0 arg9_r0 arg10_r0 arg11_r0 arg12_r0 k0_hw1 k0_h7 => k0_hw1.2.2.2.2.2.2.2.2.2.1 k0_h7 (k0_off17_inb k0_t1 arg5_r0 arg6_r0 arg7_r0 arg8_r0 arg9_r0 arg10_r0 arg11_r0 arg12_r0 k0_hw1 k0_h7)
theorem k0_off16_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h7 : k0_cond7 k0_t1 arg11_r0 arg12_r0 = 1#1), (Rect.unit (s := S32x1024x1024) (k0_off16 arg11_r0 arg12_r0) S1x512x1024.size (k0_off16_inb k0_t1 arg5_r0 arg6_r0 arg7_r0 arg8_r0 arg9_r0 arg10_r0 arg11_r0 arg12_r0 k0_hw1 k0_h7)).WholeWords (EltTy.packing .bf16) := fun k0_t1 arg5_r0 arg6_r0 arg7_r0 arg8_r0 arg9_r0 arg10_r0 arg11_r0 arg12_r0 k0_hw1 k0_h7 => k0_hw1.2.2.2.2.2.2.2.2.2.2.1 k0_h7 (k0_off16_inb k0_t1 arg5_r0 arg6_r0 arg7_r0 arg8_r0 arg9_r0 arg10_r0 arg11_r0 arg12_r0 k0_hw1 k0_h7)
theorem k0_off18_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h8 : k0_cond8 k0_t1 arg11_r0 arg12_r0 = 1#1), ∀ a, (k0_off18 arg9_r0) a + S1.size a ≤ S2.size a := fun k0_t1 arg5_r0 arg6_r0 arg7_r0 arg8_r0 arg9_r0 arg10_r0 arg11_r0 arg12_r0 k0_hw1 k0_h8 => k0_hw1.2.2.2.2.2.2.2.2.2.2.2.1 k0_h8
theorem k0_off19_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h8 : k0_cond8 k0_t1 arg11_r0 arg12_r0 = 1#1), ∀ a, (k0_off19 arg11_r0 arg12_r0) a + S1x512x1024.size a ≤ S32x1024x1024.size a := fun k0_t1 arg5_r0 arg6_r0 arg7_r0 arg8_r0 arg9_r0 arg10_r0 arg11_r0 arg12_r0 k0_hw1 k0_h8 => k0_hw1.2.2.2.2.2.2.2.2.2.2.2.2.1 k0_h8
theorem k0_off20_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h8 : k0_cond8 k0_t1 arg11_r0 arg12_r0 = 1#1), ∀ a, (k0_off20 arg9_r0) a + S1x512x1024.size a ≤ S2x512x1024.size a := fun k0_t1 arg5_r0 arg6_r0 arg7_r0 arg8_r0 arg9_r0 arg10_r0 arg11_r0 arg12_r0 k0_hw1 k0_h8 => k0_hw1.2.2.2.2.2.2.2.2.2.2.2.2.2.1 k0_h8
theorem k0_off20_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h8 : k0_cond8 k0_t1 arg11_r0 arg12_r0 = 1#1), (Rect.unit (s := S2x512x1024) (k0_off20 arg9_r0) S1x512x1024.size (k0_off20_inb k0_t1 arg5_r0 arg6_r0 arg7_r0 arg8_r0 arg9_r0 arg10_r0 arg11_r0 arg12_r0 k0_hw1 k0_h8)).WholeWords (EltTy.packing .bf16) := fun k0_t1 arg5_r0 arg6_r0 arg7_r0 arg8_r0 arg9_r0 arg10_r0 arg11_r0 arg12_r0 k0_hw1 k0_h8 => k0_hw1.2.2.2.2.2.2.2.2.2.2.2.2.2.2.1 k0_h8 (k0_off20_inb k0_t1 arg5_r0 arg6_r0 arg7_r0 arg8_r0 arg9_r0 arg10_r0 arg11_r0 arg12_r0 k0_hw1 k0_h8)
theorem k0_off19_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h8 : k0_cond8 k0_t1 arg11_r0 arg12_r0 = 1#1), (Rect.unit (s := S32x1024x1024) (k0_off19 arg11_r0 arg12_r0) S1x512x1024.size (k0_off19_inb k0_t1 arg5_r0 arg6_r0 arg7_r0 arg8_r0 arg9_r0 arg10_r0 arg11_r0 arg12_r0 k0_hw1 k0_h8)).WholeWords (EltTy.packing .bf16) := fun k0_t1 arg5_r0 arg6_r0 arg7_r0 arg8_r0 arg9_r0 arg10_r0 arg11_r0 arg12_r0 k0_hw1 k0_h8 => k0_hw1.2.2.2.2.2.2.2.2.2.2.2.2.2.2.2.1 k0_h8 (k0_off19_inb k0_t1 arg5_r0 arg6_r0 arg7_r0 arg8_r0 arg9_r0 arg10_r0 arg11_r0 arg12_r0 k0_hw1 k0_h8)
theorem k0_off21_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), ∀ a, (k0_off21 arg8_r0) a + S1.size a ≤ S2.size a := fun k0_t1 arg5_r0 arg6_r0 arg7_r0 arg8_r0 arg9_r0 arg10_r0 arg11_r0 arg12_r0 k0_hw1 k0_h10 => k0_hw1.2.2.2.2.2.2.2.2.2.2.2.2.2.2.2.2.1 k0_h10
theorem k0_off22_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), ∀ a, (k0_off22 arg11_r0 arg12_r0) a + S1x512x1024.size a ≤ S32x1024x1024.size a := fun k0_t1 arg5_r0 arg6_r0 arg7_r0 arg8_r0 arg9_r0 arg10_r0 arg11_r0 arg12_r0 k0_hw1 k0_h10 => k0_hw1.2.2.2.2.2.2.2.2.2.2.2.2.2.2.2.2.2.1 k0_h10
theorem k0_off23_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), ∀ a, (k0_off23 arg8_r0) a + S1x512x1024.size a ≤ S2x512x1024.size a := fun k0_t1 arg5_r0 arg6_r0 arg7_r0 arg8_r0 arg9_r0 arg10_r0 arg11_r0 arg12_r0 k0_hw1 k0_h10 => k0_hw1.2.2.2.2.2.2.2.2.2.2.2.2.2.2.2.2.2.2.1 k0_h10
theorem k0_off23_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), (Rect.unit (s := S2x512x1024) (k0_off23 arg8_r0) S1x512x1024.size (k0_off23_inb k0_t1 arg5_r0 arg6_r0 arg7_r0 arg8_r0 arg9_r0 arg10_r0 arg11_r0 arg12_r0 k0_hw1 k0_h10)).WholeWords (EltTy.packing .bf16) := fun k0_t1 arg5_r0 arg6_r0 arg7_r0 arg8_r0 arg9_r0 arg10_r0 arg11_r0 arg12_r0 k0_hw1 k0_h10 => k0_hw1.2.2.2.2.2.2.2.2.2.2.2.2.2.2.2.2.2.2.2.1 k0_h10 (k0_off23_inb k0_t1 arg5_r0 arg6_r0 arg7_r0 arg8_r0 arg9_r0 arg10_r0 arg11_r0 arg12_r0 k0_hw1 k0_h10)
theorem k0_off22_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h10 : k0_cond10 k0_t1 arg11_r0 arg12_r0 = 1#1), (Rect.unit (s := S32x1024x1024) (k0_off22 arg11_r0 arg12_r0) S1x512x1024.size (k0_off22_inb k0_t1 arg5_r0 arg6_r0 arg7_r0 arg8_r0 arg9_r0 arg10_r0 arg11_r0 arg12_r0 k0_hw1 k0_h10)).WholeWords (EltTy.packing .bf16) := fun k0_t1 arg5_r0 arg6_r0 arg7_r0 arg8_r0 arg9_r0 arg10_r0 arg11_r0 arg12_r0 k0_hw1 k0_h10 => k0_hw1.2.2.2.2.2.2.2.2.2.2.2.2.2.2.2.2.2.2.2.2.1 k0_h10 (k0_off22_inb k0_t1 arg5_r0 arg6_r0 arg7_r0 arg8_r0 arg9_r0 arg10_r0 arg11_r0 arg12_r0 k0_hw1 k0_h10)
theorem k0_off24_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h11 : k0_cond11 k0_t1 arg11_r0 arg12_r0 = 1#1), ∀ a, (k0_off24 arg10_r0) a + S1.size a ≤ S2.size a := fun k0_t1 arg5_r0 arg6_r0 arg7_r0 arg8_r0 arg9_r0 arg10_r0 arg11_r0 arg12_r0 k0_hw1 k0_h11 => k0_hw1.2.2.2.2.2.2.2.2.2.2.2.2.2.2.2.2.2.2.2.2.2.1 k0_h11
theorem k0_off25_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h11 : k0_cond11 k0_t1 arg11_r0 arg12_r0 = 1#1), ∀ a, (k0_off25 arg11_r0 arg12_r0) a + S1x512x1024.size a ≤ S32x1024x1024.size a := fun k0_t1 arg5_r0 arg6_r0 arg7_r0 arg8_r0 arg9_r0 arg10_r0 arg11_r0 arg12_r0 k0_hw1 k0_h11 => k0_hw1.2.2.2.2.2.2.2.2.2.2.2.2.2.2.2.2.2.2.2.2.2.2.1 k0_h11
theorem k0_off26_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h11 : k0_cond11 k0_t1 arg11_r0 arg12_r0 = 1#1), ∀ a, (k0_off26 arg10_r0) a + S1x512x1024.size a ≤ S2x512x1024.size a := fun k0_t1 arg5_r0 arg6_r0 arg7_r0 arg8_r0 arg9_r0 arg10_r0 arg11_r0 arg12_r0 k0_hw1 k0_h11 => k0_hw1.2.2.2.2.2.2.2.2.2.2.2.2.2.2.2.2.2.2.2.2.2.2.2.1 k0_h11
theorem k0_off26_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h11 : k0_cond11 k0_t1 arg11_r0 arg12_r0 = 1#1), (Rect.unit (s := S2x512x1024) (k0_off26 arg10_r0) S1x512x1024.size (k0_off26_inb k0_t1 arg5_r0 arg6_r0 arg7_r0 arg8_r0 arg9_r0 arg10_r0 arg11_r0 arg12_r0 k0_hw1 k0_h11)).WholeWords (EltTy.packing .bf16) := fun k0_t1 arg5_r0 arg6_r0 arg7_r0 arg8_r0 arg9_r0 arg10_r0 arg11_r0 arg12_r0 k0_hw1 k0_h11 => k0_hw1.2.2.2.2.2.2.2.2.2.2.2.2.2.2.2.2.2.2.2.2.2.2.2.2.1 k0_h11 (k0_off26_inb k0_t1 arg5_r0 arg6_r0 arg7_r0 arg8_r0 arg9_r0 arg10_r0 arg11_r0 arg12_r0 k0_hw1 k0_h11)
theorem k0_off25_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg5_r0 arg6_r0 arg7_r0 arg8_r0 arg9_r0 arg10_r0 arg11_r0 arg12_r0), ∀ (k0_h11 : k0_cond11 k0_t1 arg11_r0 arg12_r0 = 1#1), (Rect.unit (s := S32x1024x1024) (k0_off25 arg11_r0 arg12_r0) S1x512x1024.size (k0_off25_inb k0_t1 arg5_r0 arg6_r0 arg7_r0 arg8_r0 arg9_r0 arg10_r0 arg11_r0 arg12_r0 k0_hw1 k0_h11)).WholeWords (EltTy.packing .bf16) := fun k0_t1 arg5_r0 arg6_r0 arg7_r0 arg8_r0 arg9_r0 arg10_r0 arg11_r0 arg12_r0 k0_hw1 k0_h11 => k0_hw1.2.2.2.2.2.2.2.2.2.2.2.2.2.2.2.2.2.2.2.2.2.2.2.2.2 k0_h11 (k0_off25_inb k0_t1 arg5_r0 arg6_r0 arg7_r0 arg8_r0 arg9_r0 arg10_r0 arg11_r0 arg12_r0 k0_hw1 k0_h11)

def k0_off27 (v57_3_r0 : BitVec 32) : Fin 1 → Nat :=
  let c2_i32_104_r0 : BitVec 32 := 2#32
  let v108_r0 : BitVec 32 := Scalar.remui v57_3_r0 c2_i32_104_r0
  ![v108_r0.toNat]

def k0_off28 (v57_7_r0 : BitVec 32) (v57_6_r0 : BitVec 32) : Fin 3 → Nat :=
  let true_60_r0 : BitVec 1 := 1#1
  let c1_i32_59_r0 : BitVec 32 := 1#32
  let v58_r0 : BitVec 32 := Scalar.subi v57_7_r0 c1_i32_59_r0
  let v59_r0 : BitVec 32 := Scalar.select true_60_r0 v58_r0 v57_7_r0
  let c_m1_i32_61_r0 : BitVec 32 := 4294967295#32
  let v60_r0 : BitVec 1 := Scalar.cmpi .eq v59_r0 c_m1_i32_61_r0
  let c1_i32_63_r0 : BitVec 32 := 1#32
  let v62_r0 : BitVec 32 := Scalar.subi v57_6_r0 c1_i32_63_r0
  let v63_r0 : BitVec 32 := Scalar.select v60_r0 v62_r0 v57_6_r0
  let c_m1_i32_64_r0 : BitVec 32 := 4294967295#32
  let v64_r0 : BitVec 1 := Scalar.cmpi .eq v63_r0 c_m1_i32_64_r0
  let c31_i32_65_r0 : BitVec 32 := 31#32
  let v65_r0 : BitVec 32 := Scalar.select v64_r0 c31_i32_65_r0 v63_r0
  let c0_i32_66_r0 : BitVec 32 := 0#32
  let v66_r0 : BitVec 32 := Scalar.addi v65_r0 c0_i32_66_r0
  let c512_i32_r0 : BitVec 32 := 512#32
  let c1_i32_62_r0 : BitVec 32 := 1#32
  let v61_r0 : BitVec 32 := Scalar.select v60_r0 c1_i32_62_r0 v59_r0
  let c0_i32_67_r0 : BitVec 32 := 0#32
  let v67_r0 : BitVec 32 := Scalar.addi v61_r0 c0_i32_67_r0
  let v109_r0 : BitVec 32 := Scalar.muli c512_i32_r0 v67_r0
  let c0_i32_105_r0 : BitVec 32 := 0#32
  ![v66_r0.toNat, v109_r0.toNat, 0]

def k0_off29 (v57_3_r0 : BitVec 32) : Fin 3 → Nat :=
  let c2_i32_104_r0 : BitVec 32 := 2#32
  let v108_r0 : BitVec 32 := Scalar.remui v57_3_r0 c2_i32_104_r0
  let c0_i32_106_r0 : BitVec 32 := 0#32
  let c0_i32_107_r0 : BitVec 32 := 0#32
  ![v108_r0.toNat, 0, 0]

def k0_chk5 (v57_3_r0 : BitVec 32) : Prop :=
  (∀ a, (k0_off27 v57_3_r0) a + S1.size a ≤ S2.size a) ∧
  (∀ a, (k0_off29 v57_3_r0) a + S1x512x1024.size a ≤ S2x512x1024.size a) ∧
  (∀ (hinb : ∀ a, (k0_off29 v57_3_r0) a + S1x512x1024.size a ≤ S2x512x1024.size a), (Rect.unit (s := S2x512x1024) (k0_off29 v57_3_r0) S1x512x1024.size hinb).WholeWords (EltTy.packing .bf16))
theorem k0_off27_inb : ∀ (v57_3_r0 : BitVec 32) (k0_hw5 : k0_chk5 v57_3_r0), ∀ a, (k0_off27 v57_3_r0) a + S1.size a ≤ S2.size a := fun v57_3_r0 k0_hw5 => k0_hw5.1
theorem k0_off29_inb : ∀ (v57_3_r0 : BitVec 32) (k0_hw5 : k0_chk5 v57_3_r0), ∀ a, (k0_off29 v57_3_r0) a + S1x512x1024.size a ≤ S2x512x1024.size a := fun v57_3_r0 k0_hw5 => k0_hw5.2.1
theorem k0_off29_wordsbf16 : ∀ (v57_3_r0 : BitVec 32) (k0_hw5 : k0_chk5 v57_3_r0), (Rect.unit (s := S2x512x1024) (k0_off29 v57_3_r0) S1x512x1024.size (k0_off29_inb v57_3_r0 k0_hw5)).WholeWords (EltTy.packing .bf16) := fun v57_3_r0 k0_hw5 => k0_hw5.2.2 (k0_off29_inb v57_3_r0 k0_hw5)

def k0_off30 (v57_5_r0 : BitVec 32) : Fin 1 → Nat :=
  let c2_i32_108_r0 : BitVec 32 := 2#32
  let v116_r0 : BitVec 32 := Scalar.remui v57_5_r0 c2_i32_108_r0
  ![v116_r0.toNat]

def k0_off31 (v57_7_r0 : BitVec 32) (v57_6_r0 : BitVec 32) : Fin 3 → Nat :=
  let true_60_r0 : BitVec 1 := 1#1
  let c1_i32_59_r0 : BitVec 32 := 1#32
  let v58_r0 : BitVec 32 := Scalar.subi v57_7_r0 c1_i32_59_r0
  let v59_r0 : BitVec 32 := Scalar.select true_60_r0 v58_r0 v57_7_r0
  let c_m1_i32_61_r0 : BitVec 32 := 4294967295#32
  let v60_r0 : BitVec 1 := Scalar.cmpi .eq v59_r0 c_m1_i32_61_r0
  let c1_i32_63_r0 : BitVec 32 := 1#32
  let v62_r0 : BitVec 32 := Scalar.subi v57_6_r0 c1_i32_63_r0
  let v63_r0 : BitVec 32 := Scalar.select v60_r0 v62_r0 v57_6_r0
  let c_m1_i32_64_r0 : BitVec 32 := 4294967295#32
  let v64_r0 : BitVec 1 := Scalar.cmpi .eq v63_r0 c_m1_i32_64_r0
  let c31_i32_65_r0 : BitVec 32 := 31#32
  let v65_r0 : BitVec 32 := Scalar.select v64_r0 c31_i32_65_r0 v63_r0
  let c0_i32_66_r0 : BitVec 32 := 0#32
  let v66_r0 : BitVec 32 := Scalar.addi v65_r0 c0_i32_66_r0
  let c512_i32_109_r0 : BitVec 32 := 512#32
  let c1_i32_62_r0 : BitVec 32 := 1#32
  let v61_r0 : BitVec 32 := Scalar.select v60_r0 c1_i32_62_r0 v59_r0
  let c0_i32_67_r0 : BitVec 32 := 0#32
  let v67_r0 : BitVec 32 := Scalar.addi v61_r0 c0_i32_67_r0
  let v117_r0 : BitVec 32 := Scalar.muli c512_i32_109_r0 v67_r0
  let c0_i32_110_r0 : BitVec 32 := 0#32
  ![v66_r0.toNat, v117_r0.toNat, 0]
def k0_off32 (v57_5_r0 : BitVec 32) : Fin 3 → Nat :=
  let c2_i32_108_r0 : BitVec 32 := 2#32
  let v116_r0 : BitVec 32 := Scalar.remui v57_5_r0 c2_i32_108_r0
  let c0_i32_111_r0 : BitVec 32 := 0#32
  let c0_i32_112_r0 : BitVec 32 := 0#32
  ![v116_r0.toNat, 0, 0]

def k0_chk7 (v57_5_r0 : BitVec 32) : Prop :=
  (∀ a, (k0_off30 v57_5_r0) a + S1.size a ≤ S2.size a) ∧
  (∀ a, (k0_off32 v57_5_r0) a + S1x512x1024.size a ≤ S2x512x1024.size a) ∧
  (∀ (hinb : ∀ a, (k0_off32 v57_5_r0) a + S1x512x1024.size a ≤ S2x512x1024.size a), (Rect.unit (s := S2x512x1024) (k0_off32 v57_5_r0) S1x512x1024.size hinb).WholeWords (EltTy.packing .bf16))
theorem k0_off30_inb : ∀ (v57_5_r0 : BitVec 32) (k0_hw7 : k0_chk7 v57_5_r0), ∀ a, (k0_off30 v57_5_r0) a + S1.size a ≤ S2.size a := fun v57_5_r0 k0_hw7 => k0_hw7.1
theorem k0_off32_inb : ∀ (v57_5_r0 : BitVec 32) (k0_hw7 : k0_chk7 v57_5_r0), ∀ a, (k0_off32 v57_5_r0) a + S1x512x1024.size a ≤ S2x512x1024.size a := fun v57_5_r0 k0_hw7 => k0_hw7.2.1
theorem k0_off32_wordsbf16 : ∀ (v57_5_r0 : BitVec 32) (k0_hw7 : k0_chk7 v57_5_r0), (Rect.unit (s := S2x512x1024) (k0_off32 v57_5_r0) S1x512x1024.size (k0_off32_inb v57_5_r0 k0_hw7)).WholeWords (EltTy.packing .bf16) := fun v57_5_r0 k0_hw7 => k0_hw7.2.2 (k0_off32_inb v57_5_r0 k0_hw7)

def k0_chk6 (v57_7_r0 : BitVec 32) (v57_6_r0 : BitVec 32) : Prop :=
  (∀ a, (k0_off28 v57_7_r0 v57_6_r0) a + S1x512x1024.size a ≤ S32x1024x1024.size a) ∧
  (∀ (hinb : ∀ a, (k0_off28 v57_7_r0 v57_6_r0) a + S1x512x1024.size a ≤ S32x1024x1024.size a), (Rect.unit (s := S32x1024x1024) (k0_off28 v57_7_r0 v57_6_r0) S1x512x1024.size hinb).WholeWords (EltTy.packing .bf16)) ∧
  (∀ a, (k0_off31 v57_7_r0 v57_6_r0) a + S1x512x1024.size a ≤ S32x1024x1024.size a) ∧
  (∀ (hinb : ∀ a, (k0_off31 v57_7_r0 v57_6_r0) a + S1x512x1024.size a ≤ S32x1024x1024.size a), (Rect.unit (s := S32x1024x1024) (k0_off31 v57_7_r0 v57_6_r0) S1x512x1024.size hinb).WholeWords (EltTy.packing .bf16))
theorem k0_off28_inb : ∀ (v57_7_r0 : BitVec 32) (v57_6_r0 : BitVec 32) (k0_hw6 : k0_chk6 v57_7_r0 v57_6_r0), ∀ a, (k0_off28 v57_7_r0 v57_6_r0) a + S1x512x1024.size a ≤ S32x1024x1024.size a := fun v57_7_r0 v57_6_r0 k0_hw6 => k0_hw6.1
theorem k0_off28_wordsbf16 : ∀ (v57_7_r0 : BitVec 32) (v57_6_r0 : BitVec 32) (k0_hw6 : k0_chk6 v57_7_r0 v57_6_r0), (Rect.unit (s := S32x1024x1024) (k0_off28 v57_7_r0 v57_6_r0) S1x512x1024.size (k0_off28_inb v57_7_r0 v57_6_r0 k0_hw6)).WholeWords (EltTy.packing .bf16) := fun v57_7_r0 v57_6_r0 k0_hw6 => k0_hw6.2.1 (k0_off28_inb v57_7_r0 v57_6_r0 k0_hw6)
theorem k0_off31_inb : ∀ (v57_7_r0 : BitVec 32) (v57_6_r0 : BitVec 32) (k0_hw6 : k0_chk6 v57_7_r0 v57_6_r0), ∀ a, (k0_off31 v57_7_r0 v57_6_r0) a + S1x512x1024.size a ≤ S32x1024x1024.size a := fun v57_7_r0 v57_6_r0 k0_hw6 => k0_hw6.2.2.1
theorem k0_off31_wordsbf16 : ∀ (v57_7_r0 : BitVec 32) (v57_6_r0 : BitVec 32) (k0_hw6 : k0_chk6 v57_7_r0 v57_6_r0), (Rect.unit (s := S32x1024x1024) (k0_off31 v57_7_r0 v57_6_r0) S1x512x1024.size (k0_off31_inb v57_7_r0 v57_6_r0 k0_hw6)).WholeWords (EltTy.packing .bf16) := fun v57_7_r0 v57_6_r0 k0_hw6 => k0_hw6.2.2.2 (k0_off31_inb v57_7_r0 v57_6_r0 k0_hw6)

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x32x1024x2048 : Shape := ⟨4, ![1, 32, 1024, 2048]⟩
abbrev S32x1024x2048 : Shape := ⟨3, ![32, 1024, 2048]⟩
abbrev S32x1024x1024 : Shape := ⟨3, ![32, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x32x1024x2048, .f32⟩
  | .hbm, ⟨1, _⟩ => ⟨S32x1024x2048, .f32⟩
  | .hbm, ⟨2, _⟩ => ⟨S32x1024x1024, .f32⟩
  | .hbm, ⟨3, _⟩ => ⟨S32x1024x1024, .f32⟩
  | .hbm, ⟨4, _⟩ => ⟨S32x1024x1024, .bf16⟩
  | .hbm, ⟨5, _⟩ => ⟨S32x1024x1024, .f32⟩
  | .hbm, ⟨6, _⟩ => ⟨S32x1024x1024, .f32⟩
  | .hbm, ⟨7, _⟩ => ⟨S32x1024x1024, .bf16⟩
  | _, _ => ⟨S1x32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Kernel2.lean ====
abbrev S32768x1024 : Shape := ⟨2, ![32768, 1024]⟩
abbrev S4x32768x1024 : Shape := ⟨3, ![4, 32768, 1024]⟩
abbrev S32768x4 : Shape := ⟨2, ![32768, 4]⟩
abbrev S512x1024 : Shape := ⟨2, ![512, 1024]⟩
abbrev S4x512x1024 : Shape := ⟨3, ![4, 512, 1024]⟩
abbrev S512x4 : Shape := ⟨2, ![512, 4]⟩
abbrev S512x1 : Shape := ⟨2, ![512, 1]⟩
abbrev S1x512x1024 : Shape := ⟨3, ![1, 512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .bf16⟩
  | .hbm, ⟨2, _⟩ => ⟨S32768x4, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x4, .f32⟩
  | .local _ .vmem, ⟨5, _⟩ => ⟨S512x4, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x1024 : Shape := ⟨2, ![32768, 1024]⟩
abbrev S4x32768x1024 : Shape := ⟨3, ![4, 32768, 1024]⟩
abbrev S32768x4 : Shape := ⟨2, ![32768, 4]⟩
abbrev S4x32768 : Shape := ⟨2, ![4, 32768]⟩
abbrev S4x32768x1 : Shape := ⟨3, ![4, 32768, 1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .bf16⟩
  | .hbm, ⟨2, _⟩ => ⟨S32768x4, .f32⟩
  | .hbm, ⟨3, _⟩ => ⟨S4x32768, .f32⟩
  | .hbm, ⟨4, _⟩ => ⟨S4x32768x1, .f32⟩
  | .hbm, ⟨5, _⟩ => ⟨S4x32768x1024, .f32⟩
  | .hbm, ⟨6, _⟩ => ⟨S4x32768x1024, .f32⟩
  | .hbm, ⟨7, _⟩ => ⟨S4x32768x1024, .f32⟩
  | .hbm, ⟨8, _⟩ => ⟨S_, .f32⟩
  | .hbm, ⟨9, _⟩ => ⟨S32768x1024, .f32⟩
  | .hbm, ⟨10, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S147456x1024 : Shape := ⟨2, ![147456, 1024]⟩
abbrev S288 : Shape := ⟨1, ![288]⟩
abbrev S1 : Shape := ⟨1, ![1]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S147456x1024, .bf16⟩
  | .hbm, ⟨1, _⟩ => ⟨S32x1024x1024, .bf16⟩
  | .hbm, ⟨2, _⟩ => ⟨S32x1024x1024, .bf16⟩
  | .hbm, ⟨3, _⟩ => ⟨S32x1x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S147456x1024 : Shape := ⟨2, ![147456, 1024]⟩
abbrev S288 : Shape := ⟨1, ![288]⟩
abbrev S1 : Shape := ⟨1, ![1]⟩
abbrev S32x1024x1024 : Shape := ⟨3, ![32, 1024, 1024]⟩
abbrev S32x1x1024 : Shape := ⟨3, ![32, 1, 1024]⟩
abbrev S288x512x1024 : Shape := ⟨3, ![288, 512, 1024]⟩
abbrev S288x1 : Shape := ⟨2, ![288, 1]⟩
abbrev S288x1024x1024 : Shape := ⟨3, ![288, 1024, 1024]⟩
abbrev S288x1x1024 : Shape := ⟨3, ![288, 1, 1024]⟩
abbrev S_ : Shape := ⟨0, ![]⟩
abbrev S288x1x1 : Shape := ⟨3, ![288, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S147456x1024, .bf16⟩
  | .hbm, ⟨1, _⟩ => ⟨S288, .i32⟩
  | .hbm, ⟨2, _⟩ => ⟨S1, .i32⟩
  | .hbm, ⟨3, _⟩ => ⟨S32x1024x1024, .bf16⟩
  | .hbm, ⟨4, _⟩ => ⟨S32x1024x1024, .bf16⟩
  | .hbm, ⟨5, _⟩ => ⟨S32x1x1024, .f32⟩
  | .hbm, ⟨6, _⟩ => ⟨S32x1x1024, .f32⟩
  | .hbm, ⟨7, _⟩ => ⟨S32x1024x1024, .f32⟩
  | .hbm, ⟨8, _⟩ => ⟨S32x1x1024, .f32⟩
  | .hbm, ⟨9, _⟩ => ⟨S288x512x1024, .bf16⟩
  | .hbm, ⟨10, _⟩ => ⟨S288x1, .i32⟩
  | .hbm, ⟨11, _⟩ => ⟨S288x1024x1024, .bf16⟩
  | .hbm, ⟨12, _⟩ => ⟨S288x512x1024, .f32⟩
  | .hbm, ⟨13, _⟩ => ⟨S288x1, .i32⟩
  | .hbm, ⟨14, _⟩ => ⟨S288x1x1024, .f32⟩
  | .hbm, ⟨15, _⟩ => ⟨S288x512x1024, .f32⟩
  | .hbm, ⟨16, _⟩ => ⟨S288x512x1024, .f32⟩
  | .hbm, ⟨17, _⟩ => ⟨S288x1, .i32⟩
  | .hbm, ⟨18, _⟩ => ⟨S288x1024x1024, .bf16⟩
  | .hbm, ⟨19, _⟩ => ⟨S288x512x1024, .f32⟩
  | .hbm, ⟨20, _⟩ => ⟨S288x1, .i32⟩
  | .hbm, ⟨21, _⟩ => ⟨S288x1x1024, .f32⟩
  | .hbm, ⟨22, _⟩ => ⟨S288x512x1024, .f32⟩
  | .hbm, ⟨23, _⟩ => ⟨S288x512x1024, .f32⟩
  | .hbm, ⟨24, _⟩ => ⟨S_, .f32⟩
  | .hbm, ⟨25, _⟩ => ⟨S288x512x1024, .f32⟩
  | .hbm, ⟨26, _⟩ => ⟨S288x512x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S288x512x1024, .f32⟩
  | .hbm, ⟨31, _⟩ => ⟨S288x512x1024, .f32⟩
  | .hbm, ⟨32, _⟩ => ⟨S_, .f32⟩
  | .hbm, ⟨33, _⟩ => ⟨S288x512x1024, .f32⟩
  | .hbm, ⟨34, _⟩ => ⟨S288x512x1024, .f32⟩
  | .hbm, ⟨35, _⟩ => ⟨S_, .f32⟩
  | .hbm, ⟨36, _⟩ => ⟨S288x512x1024, .f32⟩
  | .hbm, ⟨37, _⟩ => ⟨S288x512x1024, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S288x512x1024, .f32⟩
  | .hbm, ⟨47, _⟩ => ⟨S_, .f32⟩
  | .hbm, ⟨48, _⟩ => ⟨S288x512x1024, .f32⟩
  | .hbm, ⟨49, _⟩ => ⟨S288x512x1024, .f32⟩
  | .hbm, ⟨50, _⟩ => ⟨S288x512x1024, .f32⟩
  | .hbm, ⟨51, _⟩ => ⟨S288x512x1024, .bf16⟩
  | .hbm, ⟨52, _⟩ => ⟨S288x1, .i32⟩
  | .hbm, ⟨53, _⟩ => ⟨S288x1024x1024, .f32⟩
  | .hbm, ⟨54, _⟩ => ⟨S288x1024x1024, .bf16⟩
  | .hbm, ⟨55, _⟩ => ⟨S288x512x1024, .f32⟩
  | .hbm, ⟨56, _⟩ => ⟨S288x1, .i32⟩
  | .hbm, ⟨57, _⟩ => ⟨S288x1x1024, .f32⟩
  | .hbm, ⟨58, _⟩ => ⟨S288x512x1024, .f32⟩
  | .hbm, ⟨59, _⟩ => ⟨S288x512x1024, .f32⟩
  | .hbm, ⟨60, _⟩ => ⟨S288, .i32⟩
  | .hbm, ⟨61, _⟩ => ⟨S288x1x1, .i32⟩
  | .hbm, ⟨62, _⟩ => ⟨S_, .i32⟩
  | .hbm, ⟨63, _⟩ => ⟨S288x1x1, .i32⟩
  | .hbm, ⟨64, _⟩ => ⟨S288x1x1, .i1⟩
  | .hbm, ⟨65, _⟩ => ⟨S_, .f32⟩
  | .hbm, ⟨66, _⟩ => ⟨S_, .f32⟩
  | .hbm, ⟨67, _⟩ => ⟨S288x512x1024, .i1⟩
  | .hbm, ⟨68, _⟩ => ⟨S288x512x1024, .f32⟩
  | .hbm, ⟨69, _⟩ => ⟨S288x512x1024, .f32⟩
  | .hbm, ⟨70, _⟩ => ⟨S288x512x1024, .bf16⟩
  | .hbm, ⟨71, _⟩ => ⟨S147456x1024, .bf16⟩
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_call3_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_cst_1 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call5_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call6_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_call7_v0 : Ref sig .tc := ⟨.hbm, 66, rfl⟩
abbrev main_call7_v1 : Ref sig .tc := ⟨.hbm, 67, rfl⟩
abbrev main_call7_v2 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== Kernel4.lean ====
abbrev S4x8192x512 : Shape := ⟨3, ![4, 8192, 512]⟩
abbrev S128x32768 : Shape := ⟨2, ![128, 32768]⟩
abbrev S2x4x8192x128 : Shape := ⟨4, ![2, 4, 8192, 128]⟩
abbrev S1x512x256 : Shape := ⟨3, ![1, 512, 256]⟩
abbrev S128x8192 : Shape := ⟨2, ![128, 8192]⟩
abbrev S1x1x8192x128 : Shape := ⟨4, ![1, 1, 8192, 128]⟩
abbrev S2048x128 : Shape := ⟨2, ![2048, 128]⟩
abbrev S512x128 : Shape := ⟨2, ![512, 128]⟩
abbrev S1x512x128 : Shape := ⟨3, ![1, 512, 128]⟩
abbrev S128x2048 : Shape := ⟨2, ![128, 2048]⟩
abbrev S1x1x2048x128 : Shape := ⟨4, ![1, 1, 2048, 128]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 11
  | .smem => 0
  | _ => 0

abbrev bufTy : (tb : Table) → Fin (tcTables nBuf tb) → BufTy
  | .hbm, ⟨0, _⟩ => ⟨S4x8192x512, .bf16⟩
  | .hbm, ⟨1, _⟩ => ⟨S128x32768, .bf16⟩
  | .hbm, ⟨2, _⟩ => ⟨S2x4x8192x128, .bf16⟩
  | .hbm, ⟨3, _⟩ => ⟨S4x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S128x8192, .bf16⟩
  | .local _ .vmem, ⟨3, _⟩ => ⟨S128x8192, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x512x256, .bf16⟩
  | .local _ .vmem, ⟨7, _⟩ => ⟨S1x512x256, .bf16⟩
  | .local _ .vmem, ⟨8, _⟩ => ⟨S2048x128, .bf16⟩
  | .local _ .vmem, ⟨9, _⟩ => ⟨S2048x128, .f32⟩
  | .local _ .vmem, ⟨10, _⟩ => ⟨S2048x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32_36 : BitVec 32 := 0#32
  let c4_i32 : BitVec 32 := 4#32
  let v83 : BitVec 32 := Scalar.addi c0_i32_36 c4_i32
  let c1_i32_37 : BitVec 32 := 1#32
  ⟨c0_i32_36, v83, c1_i32_37⟩
def k0_mult1 (k0_t1 : Fin k0_t1_loop.trips) : BitVec 32 :=
  let c0_i32_36 : BitVec 32 := 0#32
  let c1_i32_37 : BitVec 32 := 1#32
  let arg10 : BitVec 32 := Scf.iv c0_i32_36 c1_i32_37 k0_t1
  let c2048_i32 : BitVec 32 := 2048#32
  let v117 : BitVec 32 := Scalar.muli arg10 c2048_i32
  v117
def k0_off1 (k0_t1 : Fin k0_t1_loop.trips) : Fin 2 → Nat :=
  let c0_58 : Index := 0#32
  let c0_i32_36 : BitVec 32 := 0#32
  let c1_i32_37 : BitVec 32 := 1#32
  let arg10 : BitVec 32 := Scf.iv c0_i32_36 c1_i32_37 k0_t1
  let c2048_i32 : BitVec 32 := 2048#32
  let v117 : BitVec 32 := Scalar.muli arg10 c2048_i32
  let v118 : BitVec 32 := v117
  let v119 : Index := Scalar.indexCast v118
  ![0, v119.toNat]
def k0_off2 (k0_t1 : Fin k0_t1_loop.trips) : Fin 4 → Nat :=
  let c0_59 : Index := 0#32
  let c0_60 : Index := 0#32
  let c0_i32_36 : BitVec 32 := 0#32
  let c1_i32_37 : BitVec 32 := 1#32
  let arg10 : BitVec 32 := Scf.iv c0_i32_36 c1_i32_37 k0_t1
  let c2048_i32 : BitVec 32 := 2048#32
  let v117 : BitVec 32 := Scalar.muli arg10 c2048_i32
  let v118 : BitVec 32 := v117
  let v121 : Index := Scalar.indexCast v118
  let c0_61 : Index := 0#32
  ![0, 0, v121.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference4Ideal.lean ====
abbrev S4x8192x512 : Shape := ⟨3, ![4, 8192, 512]⟩
abbrev S128x32768 : Shape := ⟨2, ![128, 32768]⟩
abbrev S2x4x8192x128 : Shape := ⟨4, ![2, 4, 8192, 128]⟩
abbrev S4x8192x2x4x64 : Shape := ⟨5, ![4, 8192, 2, 4, 64]⟩
abbrev S2x64x4x8192 : Shape := ⟨4, ![2, 64, 4, 8192]⟩
abbrev S1x4x8192x64 : Shape := ⟨4, ![1, 4, 8192, 64]⟩
abbrev S4x8192x64 : Shape := ⟨3, ![4, 8192, 64]⟩
abbrev S2x4x8192x64 : Shape := ⟨4, ![2, 4, 8192, 64]⟩
abbrev S4x2x8192x8192x4 : Shape := ⟨5, ![4, 2, 8192, 8192, 4]⟩
abbrev S4x2x4x8192x8192 : Shape := ⟨5, ![4, 2, 4, 8192, 8192]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S128x32768, .bf16⟩
  | .hbm, ⟨2, _⟩ => ⟨S2x4x8192x128, .bf16⟩
  | .hbm, ⟨3, _⟩ => ⟨S4x8192x512, .f32⟩
  | .hbm, ⟨4, _⟩ => ⟨S4x8192x2x4x64, .f32⟩
  | .hbm, ⟨5, _⟩ => ⟨S128x32768, .f32⟩
  | .hbm, ⟨6, _⟩ => ⟨S2x64x4x8192, .f32⟩
  | .hbm, ⟨7, _⟩ => ⟨S1x4x8192x64, .bf16⟩
  | .hbm, ⟨8, _⟩ => ⟨S4x8192x64, .bf16⟩
  | .hbm, ⟨9, _⟩ => ⟨S1x4x8192x64, .bf16⟩
  | .hbm, ⟨10, _⟩ => ⟨S4x8192x64, .bf16⟩
  | .hbm, ⟨11, _⟩ => ⟨S1x4x8192x64, .bf16⟩
  | .hbm, ⟨12, _⟩ => ⟨S1x4x8192x64, .bf16⟩
  | .hbm, ⟨13, _⟩ => ⟨S2x4x8192x64, .bf16⟩
  | .hbm, ⟨14, _⟩ => ⟨S2x4x8192x64, .f32⟩
  | .hbm, ⟨15, _⟩ => ⟨S4x2x8192x8192x4, .f32⟩
  | .hbm, ⟨16, _⟩ => ⟨S4x2x4x8192x8192, .f32⟩
  | .hbm, ⟨17, _⟩ => ⟨S_, .f32⟩
  | .hbm, ⟨18, _⟩ => ⟨S4x2x4x8192, .f32⟩
  | .hbm, ⟨19, _⟩ => ⟨S4x2x4x8192x1, .f32⟩
  | .hbm, ⟨20, _⟩ => ⟨S4x2x4x8192x8192, .f32⟩
  | .hbm, ⟨21, _⟩ => ⟨S4x2x4x8192x8192, .f32⟩
  | .hbm, ⟨22, _⟩ => ⟨S_, .f32⟩
  | .hbm, ⟨23, _⟩ => ⟨S4x2x4x8192x8192, .f32⟩
  | .hbm, ⟨24, _⟩ => ⟨S4x2x4x8192x8192, .f32⟩
  | .hbm, ⟨25, _⟩ => ⟨S_, .f32⟩
  | .hbm, ⟨26, _⟩ => ⟨S4x2x4x8192, .f32⟩
  | .hbm, ⟨27, _⟩ => ⟨S4x2x4x8192x1, .f32⟩
  | .hbm, ⟨28, _⟩ => ⟨S4x2x4x8192x8192, .f32⟩
  | .hbm, ⟨29, _⟩ => ⟨S4x2x4x8192x8192, .f32⟩
  | .hbm, ⟨30, _⟩ => ⟨S4x2x64x4x8192, .f32⟩
  | .hbm, ⟨31, _⟩ => ⟨S4x8192x2x4x64, .f32⟩
  | .hbm, ⟨32, _⟩ => ⟨S4x8192x512, .f32⟩
  | .hbm, ⟨33, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel5.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S32768x128 : Shape := ⟨2, ![32768, 128]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 14
  | .vmem => 21
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .bf16⟩
  | .hbm, ⟨3, _⟩ => ⟨S32768x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1024x128, .bf16⟩
  | .hbm, ⟨9, _⟩ => ⟨S1024x128, .bf16⟩
  | .hbm, ⟨10, _⟩ => ⟨S1x128, .f32⟩
  | .hbm, ⟨11, _⟩ => ⟨S32768x1024, .f32⟩
  | .hbm, ⟨12, _⟩ => ⟨S32768x1024, .bf16⟩
  | .hbm, ⟨13, _⟩ => ⟨S32768x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S1024x128, .bf16⟩
  | .local _ .vmem, ⟨14, _⟩ => ⟨S1x128, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x128, .f32⟩
  | .local _ .vmem, ⟨20, _⟩ => ⟨S1024x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S_ : Shape := ⟨0, ![]⟩
abbrev S32768 : Shape := ⟨1, ![32768]⟩
abbrev S32768x1 : Shape := ⟨2, ![32768, 1]⟩
abbrev S32768x128 : Shape := ⟨2, ![32768, 128]⟩

abbrev nBuf : Space → Nat
  | .hbm => 56
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .bf16⟩
  | .hbm, ⟨3, _⟩ => ⟨S32768x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1024x128, .bf16⟩
  | .hbm, ⟨9, _⟩ => ⟨S1024x128, .bf16⟩
  | .hbm, ⟨10, _⟩ => ⟨S1x128, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x1024, .f32⟩
  | .hbm, ⟨21, _⟩ => ⟨S32768x512, .f32⟩
  | .hbm, ⟨22, _⟩ => ⟨S512x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x512, .f32⟩
  | .hbm, ⟨27, _⟩ => ⟨S512x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S1024x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S1024x128, .f32⟩
  | .hbm, ⟨50, _⟩ => ⟨S1024x128, .f32⟩
  | .hbm, ⟨51, _⟩ => ⟨S1024x128, .f32⟩
  | .hbm, ⟨52, _⟩ => ⟨S32768x128, .f32⟩
  | .hbm, ⟨53, _⟩ => ⟨S32768x128, .f32⟩
  | .hbm, ⟨54, _⟩ => ⟨S32768x128, .f32⟩
  | .hbm, ⟨55, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.AttBody.lean ====
/-
  What the attention body computes in one trip of its loop, and what it makes of the query rows and of the sums, entry by entry.
-/
module

public import proofs.«01_k».proof.Proof.Gen.Kernel4Ideal.Skeleton
public import Idealize.ShloMosaic.Lib.Pointwise

@[expose] public section

set_option maxRecDepth 16384

noncomputable section

namespace Cert.Proof.Att

open Cert.Kernel4Ideal Cert.Kernel4Ideal.Gen
open Idealize.ShloMosaic Idealize.ShloMosaic.TcCoe

/-- The word of minus infinity. -/
theorem bot_word : Ideal.ofBits FTy.f32 4286578688#32 = ⊥ := by
  simp [Ideal.ofBits, Ideal.ieee]

/-- The scores of one chunk. -/
theorem pay3_apply (K : Vec Ideal S128x2048 .bf16) (Q : Vec Ideal S1024x128 .bf16) (p : Fin 1024) (j : Fin 2048) :
    k0_pay3 (F := Ideal) K Q (ix2 p j) = (∑ e : Fin 128, (Q (ix2 p e) : EReal) * K (ix2 e j) : EReal) := by
  pointwise [k0_pay3]

/-- The greatest entry of each row. -/
theorem rowmax_apply (x : FVec Ideal S1024x2048 .f32) (p : Fin 1024) (h h1 h2) :
    multiReduction .maximumf [1] S1024 x 0xFF800000#32 h h1 h2 (ix1 p)
      = Finset.fold (max : EReal → EReal → EReal) (Ideal.ofBits FTy.f32 4286578688#32) (fun j : Fin 2048 => (x (ix2 p j) : EReal)) Finset.univ := by
  pointwise

/-- A row's number copied along its row. -/
theorem spread_apply (x : FVec Ideal S1024 .f32) (p : Fin 1024) (l : Fin 128) (h h') :
    broadcastTo S1024x128 (shapeCast S1024x1 x h) h' (ix2 p l) = x (ix1 p) := by
  pointwise

/-- The new running maximum: the old one, or the greatest score of the chunk. -/
theorem pay4_apply (K : Vec Ideal S128x2048 .bf16) (Q : Vec Ideal S1024x128 .bf16) (m : Vec Ideal S1024x128 .f32) (p : Fin 1024) (l : Fin 128) :
    k0_pay4 (F := Ideal) K Q m (ix2 p l)
      = max (m (ix2 p l) : EReal) (Finset.fold (max : EReal → EReal → EReal) ⊥ (fun j : Fin 2048 => (k0_pay3 (F := Ideal) K Q (ix2 p j) : EReal)) Finset.univ) := by
  unfold k0_pay4
  generalize k0_pay3 (F := Ideal) K Q = x
  refine congrArg (max (m (ix2 p l) : EReal)) ?_
  exact (spread_apply _ p l _ _).trans ((rowmax_apply x p _ _ _).trans (by rw [bot_word]))

/-- What holds of every entry of the pieces on a line holds of the pieces side by side on that line. -/
theorem concatenate_line {α : Type} {P : α → Prop} (t : Shape) (a : Fin t.rank) (xs : List ((s : Shape) × (s.Idx → α)))
    (h : Shape.Concatenates (xs.map (·.1)) t a) (j : t.Idx)
    (H : ∀ q ∈ xs, ∀ i : q.1.Idx, (∀ (b : Fin q.1.rank) (hr : q.1.rank = t.rank), b.cast hr ≠ a → (i b).val = (j (b.cast hr)).val) → P (q.2 i)) :
    P (concatenate t a xs h j) := by
  unfold concatenate
  dsimp only
  refine H _ (List.getElem_mem _) _ fun b hr hb => ?_
  rw [dif_neg hb]
  rfl

/-- Copies side by side of an array constant along a row are constant along that row. -/
theorem tile_apply (x : FVec Ideal S1024x128 .f32) (p : Fin 1024) (j : Fin 2048) (c : EReal) (hx : ∀ l : Fin 128, x (ix2 p l) = c)
    (h : Shape.Concatenates _ S1024x2048 1) :
    concatenate S1024x2048 1 [⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩, ⟨S1024x128, x⟩] h (ix2 p j) = c := by
  refine concatenate_line (P := fun v => v = c) _ _ _ _ _ ?_
  intro q hq
  simp only [List.mem_cons, List.not_mem_nil, or_false, or_self] at hq
  subst hq
  intro i hi
  have h0 : i (0 : Fin 2) = p := Fin.ext (hi (0 : Fin 2) rfl (by intro e; exact Nat.zero_ne_one (congrArg Fin.val e)))
  have hi' : i = ix2 p (i (1 : Fin 2)) := by
    funext b
    fin_cases b
    · exact h0
    · rfl
  show x i = c
  rw [hi']
  exact hx _

/-- The weighted values of one chunk. -/
theorem dot_apply (X : FVec Ideal S1024x2048 .bf16) (W : Vec Ideal S1x1x2048x128 .bf16) (p : Fin 1024) (l : Fin 128) :
    matmul dot_S1024x2048_S2048x128_S1024x128_1_0_0_1_n_n none X (k0_pay2 (F := Ideal) W) (constant S1024x128 .f32 0x00000000#32) (ix2 p l)
      = (∑ j : Fin 2048, (X (ix2 p j) : EReal) * (W (ix4 0 0 j l) : EReal) : EReal) := by
  pointwise [k0_pay2]

/-- A cast to the shape an array has leaves it. -/
theorem same_apply (x : FVec Ideal S1024x128 .f32) (p : Fin 1024) (l : Fin 128) (h) : shapeCast S1024x128 x h (ix2 p l) = x (ix2 p l) := by
  pointwise

/-- The new sums: the old ones scaled down to the new maximum, and the chunk's values weighted by its scores. -/
theorem pay5_apply (K : Vec Ideal S128x2048 .bf16) (W : Vec Ideal S1x1x2048x128 .bf16) (Q : Vec Ideal S1024x128 .bf16)
    (m a : Vec Ideal S1024x128 .f32) (p : Fin 1024) (l : Fin 128) (c : EReal) (hc : ∀ l : Fin 128, k0_pay4 (F := Ideal) K Q m (ix2 p l) = c) :
    k0_pay5 (F := Ideal) K W Q m a (ix2 p l)
      = Ideal.exp2 ((m (ix2 p l) : EReal) - c) * (a (ix2 p l) : EReal)
        + (∑ j : Fin 2048, Ideal.exp2 ((k0_pay3 (F := Ideal) K Q (ix2 p j) : EReal) - c) * (W (ix4 0 0 j l) : EReal) : EReal) := by
  unfold k0_pay5
  generalize k0_pay4 (F := Ideal) K Q m = M at hc ⊢
  generalize k0_pay3 (F := Ideal) K Q = X
  refine (same_apply _ p l _).trans ?_
  refine congrArg₂ (fun x y : EReal => x + y) ?_ ((dot_apply _ W p l).trans (Finset.sum_congr rfl fun j _ => ?_))
  · exact congrArg (fun z : EReal => Ideal.exp2 ((m (ix2 p l) : EReal) - z) * (a (ix2 p l) : EReal)) (hc l)
  · exact congrArg (fun z : EReal => Ideal.exp2 ((X (ix2 p j) : EReal) - z) * (W (ix4 0 0 j l) : EReal)) (tile_apply M p j c hc _)

/-- The stored running maximum. -/
theorem pay6_apply (K : Vec Ideal S128x2048 .bf16) (Q : Vec Ideal S1024x128 .bf16) (m : Vec Ideal S1024x128 .f32) (p : Fin 1024) (l : Fin 128) :
    k0_pay6 (F := Ideal) K Q m (ix2 p l) = k0_pay4 (F := Ideal) K Q m (ix2 p l) := by
  unfold k0_pay6
  exact same_apply _ p l _

/-- The lower half of the rows is treated as the upper half is. -/
theorem pay16_eq (K : Vec Ideal S128x2048 .bf16) (W : Vec Ideal S1x1x2048x128 .bf16) (Q : Vec Ideal S1024x128 .bf16)
    (m a : Vec Ideal S1024x128 .f32) : k0_pay16 (F := Ideal) (k0_pay2 W) (k0_pay7 K Q) m a = k0_pay5 K W Q m a := rfl

/-- The lower half of the rows is treated as the upper half is. -/
theorem pay17_eq (K : Vec Ideal S128x2048 .bf16) (Q : Vec Ideal S1024x128 .bf16) (m : Vec Ideal S1024x128 .f32) :
    k0_pay17 (F := Ideal) (k0_pay7 K Q) m = k0_pay6 K Q m := rfl

/-- A column read half a register to the side. -/
theorem roll_apply (x : FVec Ideal S512x128 .f32) (p : Fin 512) (l : Fin 128) (h) :
    dynamicRotate 1 64#32 none x h (ix2 p l) = x (ix2 p ⟨(l.val + 64) % 128, Nat.mod_lt _ (by decide)⟩) := by
  pointwise
  exact congrArg x (congrArg (ix2 p) (Fin.ext (by show (l.val + 128 - 64) % 128 = (l.val + 64) % 128; omega)))

end Cert.Proof.Att

end
-- ==== Proof.AttMath.lean ====
/-
  Softmax in base two, taken chunk by chunk with a running maximum, over the reals.
-/
module

public import Idealize.ShloMosaic.Lib.Pointwise

@[expose] public section

noncomputable section

namespace Cert.Proof.Att

open Idealize.ShloMosaic

/-- The mean of `v` with weights the powers of two of `s`. -/
def mean {ι : Type} [Fintype ι] (s v : ι → ℝ) : ℝ := (∑ j, (2 : ℝ) ^ s j * v j) / ∑ j, (2 : ℝ) ^ s j

/-- A sum of reals, read among the extended reals. -/
theorem sum_coe {ι : Type} (t : Finset ι) (f : ι → ℝ) : (∑ j ∈ t, ((f j : ℝ) : EReal)) = ((∑ j ∈ t, f j : ℝ) : EReal) := by
  classical
  induction t using Finset.induction with
  | empty => simp
  | insert a t h ih => rw [Finset.sum_insert h, Finset.sum_insert h, ih, EReal.coe_add]

/-- The greatest of finitely many reals, at least one, is a real. -/
theorem fold_max_real {ι : Type} [Fintype ι] [Nonempty ι] (f : ι → ℝ) :
    ∃ μ : ℝ, Finset.fold (max : EReal → EReal → EReal) ⊥ (fun j => ((f j : ℝ) : EReal)) Finset.univ = (μ : EReal) := by
  obtain ⟨k, -, hk⟩ := Finset.exists_max_image (Finset.univ : Finset ι) f Finset.univ_nonempty
  refine ⟨f k, le_antisymm ?_ ?_⟩
  · exact (Finset.fold_max_le _).2 ⟨bot_le, fun j hj => EReal.coe_le_coe_iff.2 (hk j hj)⟩
  · exact (Finset.le_fold_max _).2 (Or.inr ⟨k, Finset.mem_univ k, le_rfl⟩)

/-- Shifting every exponent by one number multiplies the weighted sum by one power. -/
theorem shift_sum {ι : Type} (t : Finset ι) (s v : ι → ℝ) (μ : ℝ) :
    ∑ j ∈ t, (2 : ℝ) ^ (s j - μ) * v j = (2 : ℝ) ^ (-μ) * ∑ j ∈ t, (2 : ℝ) ^ s j * v j := by
  rw [Finset.mul_sum]
  refine Finset.sum_congr rfl fun j _ => ?_
  rw [sub_eq_add_neg, Real.rpow_add (by norm_num)]
  ring

/-- A weighted sum at a shifted exponent is that sum, its shift moved. -/
theorem rescale {ι : Type} (t : Finset ι) (s v : ι → ℝ) (μ ν : ℝ) :
    (2 : ℝ) ^ (μ - ν) * ∑ j ∈ t, (2 : ℝ) ^ (s j - μ) * v j = ∑ j ∈ t, (2 : ℝ) ^ (s j - ν) * v j := by
  rw [shift_sum, shift_sum, ← mul_assoc, ← Real.rpow_add (by norm_num)]
  congr 2
  ring

section Chunks

variable {n : ℕ} (S : ℕ → Fin n → ℝ)

/-- The running maximum after `k` chunks. -/
def top : ℕ → EReal
  | 0 => ⊥
  | k + 1 => max (top k) (Finset.fold (max : EReal → EReal → EReal) ⊥ (fun j => ((S k j : ℝ) : EReal)) Finset.univ)

/-- The running weighted sum after `k` chunks, rescaled whenever the maximum moves. -/
def run (V : ℕ → Fin n → ℝ) : ℕ → EReal
  | 0 => 0
  | k + 1 => Ideal.exp2 (top S k - top S (k + 1)) * run V k + ∑ j, Ideal.exp2 (((S k j : ℝ) : EReal) - top S (k + 1)) * ((V k j : ℝ) : EReal)

/-- A power of two of a difference of reals. -/
theorem exp2_sub (x y : ℝ) : Ideal.exp2 ((x : EReal) - (y : EReal)) = (((2 : ℝ) ^ (x - y) : ℝ) : EReal) := by
  rw [← EReal.coe_sub]; rfl

/-- The running maximum is a real after the first chunk. -/
theorem top_real [NeZero n] (k : ℕ) : ∃ μ : ℝ, top S (k + 1) = (μ : EReal) := by
  induction k with
  | zero =>
    obtain ⟨ν, hν⟩ := fold_max_real (S 0)
    exact ⟨ν, by rw [top, top, hν]; exact max_eq_right bot_le⟩
  | succ k ih =>
    obtain ⟨ν, hν⟩ := fold_max_real (S (k + 1))
    obtain ⟨μ, hμ⟩ := ih
    exact ⟨max μ ν, by rw [top, hμ, hν]; exact (EReal.coe_strictMono.monotone.map_max).symm⟩

/-- One chunk's weighted sum. -/
theorem chunk_sum (f V : Fin n → ℝ) (μ : ℝ) :
    (∑ j, Ideal.exp2 (((f j : ℝ) : EReal) - (μ : EReal)) * ((V j : ℝ) : EReal)) = ((∑ j, (2 : ℝ) ^ (f j - μ) * V j : ℝ) : EReal) := by
  rw [← sum_coe]
  refine Finset.sum_congr rfl fun j _ => ?_
  rw [exp2_sub, ← EReal.coe_mul]

/-- The running weighted sum is the weighted sum of every chunk so far, at the running maximum. -/
theorem run_real [NeZero n] (V : ℕ → Fin n → ℝ) (k : ℕ) (μ : ℝ) (hμ : top S (k + 1) = (μ : EReal)) :
    run S V (k + 1) = ((∑ i ∈ Finset.range (k + 1), ∑ j, (2 : ℝ) ^ (S i j - μ) * V i j : ℝ) : EReal) := by
  induction k generalizing μ with
  | zero =>
    rw [run, hμ, chunk_sum, Finset.sum_range_one]
    show Ideal.exp2 (⊥ - (μ : EReal)) * 0 + _ = _
    rw [mul_zero, zero_add]
  | succ k ih =>
    obtain ⟨ν, hν⟩ := top_real S k
    rw [run, hμ, chunk_sum, hν, ih ν hν, exp2_sub, ← EReal.coe_mul, ← EReal.coe_add, Finset.sum_range_succ _ (k + 1), Finset.mul_sum]
    congr 2
    exact Finset.sum_congr rfl fun i _ => rescale Finset.univ (S i) (V i) ν μ

end Chunks

/-- The quotient of two sums weighted alike, whatever the shift, is the mean. -/
theorem quotient {ι : Type} [Fintype ι] [Nonempty ι] (s v : ι → ℝ) (μ : ℝ) :
    Ideal.div ((∑ j, (2 : ℝ) ^ (s j - μ) * v j : ℝ) : EReal) ((∑ j, (2 : ℝ) ^ (s j - μ) * 1 : ℝ) : EReal) = ((mean s v : ℝ) : EReal) := by
  have hp : (0 : ℝ) < ∑ j, (2 : ℝ) ^ s j := Finset.sum_pos (fun j _ => Real.rpow_pos_of_pos (by norm_num) _) Finset.univ_nonempty
  have h2 : (0 : ℝ) < (2 : ℝ) ^ (-μ) := Real.rpow_pos_of_pos (by norm_num) _
  rw [shift_sum, shift_sum]
  simp only [mul_one]
  have hne : (((2 : ℝ) ^ (-μ) * ∑ j, (2 : ℝ) ^ s j : ℝ) : EReal) ≠ 0 := fun h => (mul_pos h2 hp).ne' (EReal.coe_eq_zero.1 h)
  rw [Ideal.div, if_neg hne, ← EReal.coe_inv, ← EReal.coe_mul]
  congr 1
  unfold mean
  field_simp

/-- Four chunks taken one after another give the mean over all of them. -/
theorem chunks_mean (s v : Fin 8192 → ℝ) (S V : ℕ → Fin 2048 → ℝ)
    (hS : ∀ k : Fin 4, ∀ j : Fin 2048, S k j = s ⟨2048 * k.val + j.val, by omega⟩)
    (hV : ∀ k : Fin 4, ∀ j : Fin 2048, V k j = v ⟨2048 * k.val + j.val, by omega⟩) :
    Ideal.div (run S V 4) (run S (fun _ _ => 1) 4) = ((mean s v : ℝ) : EReal) := by
  obtain ⟨μ, hμ⟩ := top_real S 3
  rw [run_real S V 3 μ hμ, run_real S _ 3 μ hμ, ← quotient s v μ]
  have key : ∀ f : Fin 8192 → ℝ, ∀ g : ℕ → Fin 2048 → ℝ, (∀ k : Fin 4, ∀ j : Fin 2048, g k j = f ⟨2048 * k.val + j.val, by omega⟩) →
      ∑ i ∈ Finset.range 4, ∑ j, g i j = ∑ j, f j := fun f g h => by
    rw [Finset.sum_range, ← Fintype.sum_prod_type' (f := fun (i : Fin 4) (j : Fin 2048) => g i j)]
    refine Fintype.sum_equiv (finProdFinEquiv : Fin 4 × Fin 2048 ≃ Fin (4 * 2048)) _ (fun j => f j) fun x => ?_
    rw [h]
    exact congrArg f (Fin.ext (Nat.add_comm _ _))
  exact congrArg₂ (fun a b : ℝ => Ideal.div (a : EReal) (b : EReal))
    (key (fun j => (2 : ℝ) ^ (s j - μ) * v j) (fun i j => (2 : ℝ) ^ (S i j - μ) * V i j) fun k j => by rw [hS, hV])
    (key (fun j => (2 : ℝ) ^ (s j - μ) * 1) (fun i j => (2 : ℝ) ^ (S i j - μ) * 1) fun k j => by rw [hS])

/-- The weights divided by their sum, then applied, give the mean. -/
theorem softmax_mean {ι : Type} [Fintype ι] [Nonempty ι] (s v : ι → ℝ) :
    (∑ j, Ideal.div (Ideal.pow 2 (((s j : ℝ) : EReal) - Finset.fold (max : EReal → EReal → EReal) ⊥ (fun j => ((s j : ℝ) : EReal)) Finset.univ))
        (∑ k, Ideal.pow 2 (((s k : ℝ) : EReal) - Finset.fold (max : EReal → EReal → EReal) ⊥ (fun j => ((s j : ℝ) : EReal)) Finset.univ)) * ((v j : ℝ) : EReal))
      = ((mean s v : ℝ) : EReal) := by
  obtain ⟨μ, hμ⟩ := fold_max_real s
  have hp : ∀ j, Ideal.pow 2 (((s j : ℝ) : EReal) - (μ : EReal)) = (((2 : ℝ) ^ (s j - μ) : ℝ) : EReal) := fun j => by
    rw [← EReal.coe_sub]; rfl
  have hpos : (0 : ℝ) < ∑ j, (2 : ℝ) ^ (s j - μ) := Finset.sum_pos (fun j _ => Real.rpow_pos_of_pos (by norm_num) _) Finset.univ_nonempty
  have hne : ((∑ j, (2 : ℝ) ^ (s j - μ) : ℝ) : EReal) ≠ 0 := fun h => hpos.ne' (EReal.coe_eq_zero.1 h)
  rw [hμ, ← quotient s v μ]
  simp only [hp, sum_coe, Ideal.div, if_neg hne, mul_one]
  rw [← EReal.coe_inv, ← EReal.coe_mul, Finset.sum_mul, ← sum_coe]
  refine Finset.sum_congr rfl fun j _ => ?_
  rw [← EReal.coe_mul, ← EReal.coe_mul]
  congr 1
  ring

end Cert.Proof.Att

end
-- ==== Proof.AttTrip.lean ====
/-
  One trip of the attention loop over its three scratch arrays, read entry by entry, and the four trips together.
-/
module

public import proofs.«01_k».proof.Proof.AttBody
public import proofs.«01_k».proof.Proof.AttMath
public import proofs.«01_k».proof.Proof.Gen.Kernel4Ideal.Value
public import Idealize.ShloMosaic.Lib.WritesUnit
public import Idealize.ShloMosaic.Lib.Pipeline.ValueKit

@[expose] public section

set_option maxRecDepth 16384

noncomputable section

namespace Cert.Proof.Att

open Cert.Kernel4Ideal Cert.Kernel4Ideal.Gen Cert.Kernel4Ideal.Value
open Idealize.ShloMosaic Idealize.ShloMosaic.TcCoe

/-- One half of a trip: from what the loads read, what the stores write. -/
theorem half_apply (K : Vec Ideal S128x2048 .bf16) (W : Vec Ideal S1x1x2048x128 .bf16) (Q : Vec Ideal S1024x128 .bf16)
    (m a : Vec Ideal S1024x128 .f32) (p : Fin 1024) (l : Fin 128) (kc : Fin 128 → Fin 2048 → EReal) (wc : Fin 2048 → EReal)
    (qr : Fin 128 → EReal) (mr ar : EReal) (hK : ∀ e j, K (ix2 e j) = kc e j) (hW : ∀ j, W (ix4 0 0 j l) = wc j)
    (hQ : ∀ e, Q (ix2 p e) = qr e) (hm : ∀ l : Fin 128, m (ix2 p l) = mr) (ha : a (ix2 p l) = ar) :
    k0_pay6 (F := Ideal) K Q m (ix2 p l)
        = max mr (Finset.fold max ⊥ (fun j : Fin 2048 => ∑ e : Fin 128, qr e * kc e j) Finset.univ)
      ∧ k0_pay5 (F := Ideal) K W Q m a (ix2 p l)
        = Ideal.exp2 (mr - max mr (Finset.fold max ⊥ (fun j : Fin 2048 => ∑ e : Fin 128, qr e * kc e j) Finset.univ)) * ar
          + ∑ j : Fin 2048, Ideal.exp2 ((∑ e : Fin 128, qr e * kc e j)
            - max mr (Finset.fold max ⊥ (fun j : Fin 2048 => ∑ e : Fin 128, qr e * kc e j) Finset.univ)) * wc j := by
  have h3 : ∀ j, k0_pay3 (F := Ideal) K Q (ix2 p j) = (∑ e : Fin 128, qr e * kc e j : EReal) := fun j =>
    (pay3_apply K Q p j).trans (Finset.sum_congr rfl fun e _ => congrArg₂ (fun x y : EReal => x * y) (hQ e) (hK e j))
  have h4 : ∀ l : Fin 128, k0_pay4 (F := Ideal) K Q m (ix2 p l)
      = max mr (Finset.fold max ⊥ (fun j : Fin 2048 => ∑ e : Fin 128, qr e * kc e j) Finset.univ) := fun l =>
    (pay4_apply K Q m p l).trans (congrArg₂ (fun x y : EReal => max x y) (hm l)
      (congrArg (fun f => Finset.fold max ⊥ f Finset.univ) (funext h3)))
  refine ⟨(pay6_apply K Q m p l).trans (h4 l), (pay5_apply K W Q m a p l _ h4).trans ?_⟩
  refine congrArg₂ (fun x y : EReal => x + y) ?_ (Finset.sum_congr rfl fun j _ => ?_)
  · exact congrArg₂ (fun x y : EReal => Ideal.exp2 (x - _) * y) (hm l) ha
  · exact congrArg₂ (fun x y : EReal => Ideal.exp2 (x - _) * y) (h3 j) (hW j)

/-- There are four trips. -/
theorem trips_eq : k0_t1_loop.trips = 4 := by decide +kernel

/-- Where a trip's chunk of keys starts. -/
theorem off1_eq (k : Fin k0_t1_loop.trips) : k0_off1 k = ![0, 2048 * k.val] := by
  revert k; decide +kernel

/-- Where a trip's chunk of values starts. -/
theorem off2_eq (k : Fin k0_t1_loop.trips) : k0_off2 k = ![0, 0, 2048 * k.val, 0] := by
  revert k; decide +kernel

/-- The arrays after a trip: each row's running maximum, and its running sums. -/
theorem trip_read (𝒱 : Variants) (c : Dev nD) (bd : Option 𝒱.V) (i : grid0.Coords) (arg3 : Memref sig .tc .vmem S1x512x256 .bf16) (harg3 : arg3.IsWhole) (arg4 : Memref sig .tc .vmem S128x8192 .bf16) (harg4 : arg4.IsWhole) (arg5 : Memref sig .tc .vmem S1x1x8192x128 .bf16) (harg5 : arg5.IsWhole) (arg6 : Memref sig .tc .vmem S1x512x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg1 : BitVec 32) (v0 : IVec S512x128 32) (v74 : FVec Ideal S512x128 .bf16) (X_arg4 : BufTy.Contents (Elt Ideal) arg4.view.ty) (X_arg5 : BufTy.Contents (Elt Ideal) arg5.view.ty) (X_arg7 : BufTy.Contents (Elt Ideal) arg7.view.ty) (k : Fin k0_t1_loop.trips) (f_arg8 : BufTy.Contents (Elt Ideal) arg8.view.ty) (f_arg9 : BufTy.Contents (Elt Ideal) arg9.view.ty)
    (kk : Fin 128 → Fin 8192 → EReal) (vv : Fin 8192 → Fin 128 → EReal) (qq : Fin 2048 → Fin 128 → EReal) (mm : Fin 2048 → EReal)
    (aa : Fin 2048 → Fin 128 → EReal)
    (hK : ∀ e y, arg4.view.read (Elt Ideal) X_arg4 (ix2 e y) = kk e y)
    (hV : ∀ y l, arg5.view.read (Elt Ideal) X_arg5 (ix4 0 0 y l) = vv y l)
    (hQ : ∀ p e, arg7.view.read (Elt Ideal) X_arg7 (ix2 p e) = qq p e)
    (hm : ∀ p l, arg8.view.read (Elt Ideal) f_arg8 (ix2 p l) = mm p)
    (ha : ∀ p l, arg9.view.read (Elt Ideal) f_arg9 (ix2 p l) = aa p l)
    (hk : k.val < 4) (p : Fin 2048) (l : Fin 128) :
    arg8.view.read (Elt Ideal) (arg8.view.writes (Elt Ideal) f_arg8 (tripL_k0_t1 (F := Ideal) 𝒱 c bd i arg3 harg3 arg4 harg4 arg5 harg5 arg6 harg6 arg7 harg7 arg8 harg8 arg9 harg9 arg1 v0 v74 X_arg4 X_arg5 X_arg7 k f_arg8 f_arg9).1) (ix2 p l)
        = max (mm p) (Finset.fold max ⊥ (fun j : Fin 2048 => ∑ e : Fin 128, qq p e * kk e ⟨2048 * k.val + j.val, by omega⟩) Finset.univ)
      ∧ arg9.view.read (Elt Ideal) (arg9.view.writes (Elt Ideal) f_arg9 (tripL_k0_t1 (F := Ideal) 𝒱 c bd i arg3 harg3 arg4 harg4 arg5 harg5 arg6 harg6 arg7 harg7 arg8 harg8 arg9 harg9 arg1 v0 v74 X_arg4 X_arg5 X_arg7 k f_arg8 f_arg9).2) (ix2 p l)
        = Ideal.exp2 (mm p - max (mm p) (Finset.fold max ⊥ (fun j : Fin 2048 => ∑ e : Fin 128, qq p e * kk e ⟨2048 * k.val + j.val, by omega⟩) Finset.univ)) * aa p l
          + ∑ j : Fin 2048, Ideal.exp2 ((∑ e : Fin 128, qq p e * kk e ⟨2048 * k.val + j.val, by omega⟩)
            - max (mm p) (Finset.fold max ⊥ (fun j : Fin 2048 => ∑ e : Fin 128, qq p e * kk e ⟨2048 * k.val + j.val, by omega⟩) Finset.univ))
            * vv ⟨2048 * k.val + j.val, by omega⟩ l := by
  have rK : ∀ (e : Fin 128) (j : Fin 2048), arg4.view.readAt (Elt Ideal) (Rect.unit (s := S128x8192) (k0_off1 k) S128x2048.size (k0_off1_inb k)).toLoadRect X_arg4 (ix2 e j)
      = kk e ⟨2048 * k.val + j.val, by omega⟩ := by
    intro e j
    refine Eq.trans (congrArg (arg4.view.read (Elt Ideal) X_arg4) ?_) (hK _ _)
    funext b
    refine Fin.ext ?_
    show k0_off1 k b + 1 * (ix2 e j b).val = _
    rw [off1_eq]
    fin_cases b
    · show 0 + 1 * e.val = e.val; omega
    · show 2048 * k.val + 1 * j.val = 2048 * k.val + j.val; omega
  have rV : ∀ (j : Fin 2048), arg5.view.readAt (Elt Ideal) (Rect.unit (s := S1x1x8192x128) (k0_off2 k) S1x1x2048x128.size (k0_off2_inb k)).toLoadRect X_arg5 (ix4 0 0 j l)
      = vv ⟨2048 * k.val + j.val, by omega⟩ l := by
    intro j
    refine Eq.trans (congrArg (arg5.view.read (Elt Ideal) X_arg5) ?_) (hV _ _)
    funext b
    refine Fin.ext ?_
    show k0_off2 k b + 1 * (ix4 0 0 j l b).val = _
    rw [off2_eq]
    fin_cases b
    · rfl
    · rfl
    · show 2048 * k.val + 1 * j.val = 2048 * k.val + j.val; omega
    · show 0 + 1 * l.val = l.val; omega
  have rR : ∀ (o : Nat) (inb : ∀ a : Fin 2, (![o, 0] : Fin 2 → Nat) a + S1024x128.size a ≤ S2048x128.size a) (q : Fin 1024) (e : Fin 128) (ho : o + q.val < 2048),
      (Rect.unit (s := S2048x128) ![o, 0] S1024x128.size inb).toLoadRect.idx (ix2 q e) = ix2 ⟨o + q.val, ho⟩ e := by
    intro o inb q e ho
    funext b
    refine Fin.ext ?_
    fin_cases b
    · show o + 1 * q.val = o + q.val; omega
    · show 0 + 1 * e.val = e.val; omega
  unfold tripL_k0_t1 trip_k0_t1 trip_k0_t1.sl.r trip_k0_t1.sl.r_1 trip_k0_t1.sl.v149 trip_k0_t1.sl.v159
  dsimp only
  by_cases hp : p.val < 1024
  · have H := half_apply _ _ (arg7.view.readAt (Elt Ideal) (Rect.unit (s := S2048x128) ![0, 0] S1024x128.size inb_S2048x128_S1024x128_0_0).toLoadRect X_arg7) (arg8.view.readAt (Elt Ideal) (Rect.unit (s := S2048x128) ![0, 0] S1024x128.size inb_S2048x128_S1024x128_0_0).toLoadRect f_arg8) (arg9.view.readAt (Elt Ideal) (Rect.unit (s := S2048x128) ![0, 0] S1024x128.size inb_S2048x128_S1024x128_0_0).toLoadRect f_arg9) ⟨p.val, hp⟩ l _ _ (qq p) (mm p) (aa p l) rK rV
      (fun e => (congrArg (arg7.view.read (Elt Ideal) X_arg7) (rR 0 inb_S2048x128_S1024x128_0_0 ⟨p.val, hp⟩ e (by show 0 + p.val < 2048; omega))).trans
        ((hQ _ e).trans (congrArg (fun z => qq z e) (Fin.ext (Nat.zero_add _)))))
      (fun l => (congrArg (arg8.view.read (Elt Ideal) f_arg8) (rR 0 inb_S2048x128_S1024x128_0_0 ⟨p.val, hp⟩ l (by show 0 + p.val < 2048; omega))).trans
        ((hm _ l).trans (congrArg mm (Fin.ext (Nat.zero_add _)))))
      ((congrArg (arg9.view.read (Elt Ideal) f_arg9) (rR 0 inb_S2048x128_S1024x128_0_0 ⟨p.val, hp⟩ l (by show 0 + p.val < 2048; omega))).trans
        ((ha _ l).trans (congrArg (fun z => aa z l) (Fin.ext (Nat.zero_add _)))))
    refine ⟨?_, ?_⟩
    · refine (View.read_writes_cons_rows_of_not_mem (d := ![2048, 128]) (o := 1024) (W := 1024) arg8.view _ _ _ _ _ rfl rfl (Or.inl hp)).trans ?_
      refine (View.read_writes_cons_rows_of_mem (d := ![2048, 128]) (o := 0) arg8.view _ _ _ _ _ (ix2 ⟨p.val, hp⟩ l) rfl (Nat.zero_add _).symm rfl).trans ?_
      exact H.1
    · refine (View.read_writes_cons_rows_of_not_mem (d := ![2048, 128]) (o := 1024) (W := 1024) arg9.view _ _ _ _ _ rfl rfl (Or.inl hp)).trans ?_
      refine (View.read_writes_cons_rows_of_mem (d := ![2048, 128]) (o := 0) arg9.view _ _ _ _ _ (ix2 ⟨p.val, hp⟩ l) rfl (Nat.zero_add _).symm rfl).trans ?_
      exact H.2
  · have hp' : p.val - 1024 < 1024 := by omega
    have hq : 1024 + (p.val - 1024) = p.val := by omega
    have H := half_apply _ _ (arg7.view.readAt (Elt Ideal) (Rect.unit (s := S2048x128) ![1024, 0] S1024x128.size inb_S2048x128_S1024x128_1024_0).toLoadRect X_arg7) (arg8.view.readAt (Elt Ideal) (Rect.unit (s := S2048x128) ![1024, 0] S1024x128.size inb_S2048x128_S1024x128_1024_0).toLoadRect f_arg8) (arg9.view.readAt (Elt Ideal) (Rect.unit (s := S2048x128) ![1024, 0] S1024x128.size inb_S2048x128_S1024x128_1024_0).toLoadRect f_arg9) ⟨p.val - 1024, hp'⟩ l _ _ (qq p) (mm p) (aa p l) rK rV
      (fun e => (congrArg (arg7.view.read (Elt Ideal) X_arg7) (rR 1024 inb_S2048x128_S1024x128_1024_0 ⟨p.val - 1024, hp'⟩ e (by show 1024 + (p.val - 1024) < 2048; omega))).trans
        ((hQ _ e).trans (congrArg (fun z => qq z e) (Fin.ext hq))))
      (fun l => (congrArg (arg8.view.read (Elt Ideal) f_arg8) (rR 1024 inb_S2048x128_S1024x128_1024_0 ⟨p.val - 1024, hp'⟩ l (by show 1024 + (p.val - 1024) < 2048; omega))).trans
        ((hm _ l).trans (congrArg mm (Fin.ext hq))))
      ((congrArg (arg9.view.read (Elt Ideal) f_arg9) (rR 1024 inb_S2048x128_S1024x128_1024_0 ⟨p.val - 1024, hp'⟩ l (by show 1024 + (p.val - 1024) < 2048; omega))).trans
        ((ha _ l).trans (congrArg (fun z => aa z l) (Fin.ext hq))))
    refine ⟨?_, ?_⟩
    · refine (View.read_writes_cons_rows_of_mem (d := ![2048, 128]) (o := 1024) arg8.view _ _ _ _ _ (ix2 ⟨p.val - 1024, hp'⟩ l) rfl hq.symm rfl).trans ?_
      rw [pay17_eq]
      exact H.1
    · refine (View.read_writes_cons_rows_of_mem (d := ![2048, 128]) (o := 1024) arg9.view _ _ _ _ _ (ix2 ⟨p.val - 1024, hp'⟩ l) rfl hq.symm rfl).trans ?_
      rw [pay16_eq]
      exact H.2

/-- The arrays after some of the trips: the running maximum and sums over the chunks met so far. -/
theorem loop_read (𝒱 : Variants) (c : Dev nD) (bd : Option 𝒱.V) (i : grid0.Coords) (arg3 : Memref sig .tc .vmem S1x512x256 .bf16) (harg3 : arg3.IsWhole) (arg4 : Memref sig .tc .vmem S128x8192 .bf16) (harg4 : arg4.IsWhole) (arg5 : Memref sig .tc .vmem S1x1x8192x128 .bf16) (harg5 : arg5.IsWhole) (arg6 : Memref sig .tc .vmem S1x512x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg1 : BitVec 32) (v0 : IVec S512x128 32) (v74 : FVec Ideal S512x128 .bf16) (X_arg4 : BufTy.Contents (Elt Ideal) arg4.view.ty) (X_arg5 : BufTy.Contents (Elt Ideal) arg5.view.ty) (X_arg7 : BufTy.Contents (Elt Ideal) arg7.view.ty) (G_arg8 : BufTy.Contents (Elt Ideal) arg8.view.ty) (G_arg9 : BufTy.Contents (Elt Ideal) arg9.view.ty)
    (kk : Fin 128 → Fin 8192 → EReal) (vv : Fin 8192 → Fin 128 → EReal) (qq : Fin 2048 → Fin 128 → EReal)
    (S : Fin 2048 → ℕ → Fin 2048 → ℝ) (V : Fin 128 → ℕ → Fin 2048 → ℝ)
    (hK : ∀ e y, arg4.view.read (Elt Ideal) X_arg4 (ix2 e y) = kk e y)
    (hV : ∀ y l, arg5.view.read (Elt Ideal) X_arg5 (ix4 0 0 y l) = vv y l)
    (hQ : ∀ p e, arg7.view.read (Elt Ideal) X_arg7 (ix2 p e) = qq p e)
    (hS : ∀ (p : Fin 2048) (k : ℕ) (hk : k < 4) (j : Fin 2048), (∑ e : Fin 128, qq p e * kk e ⟨2048 * k + j.val, by omega⟩ : EReal) = ((S p k j : ℝ) : EReal))
    (hW : ∀ (l : Fin 128) (k : ℕ) (hk : k < 4) (j : Fin 2048), vv ⟨2048 * k + j.val, by omega⟩ l = ((V l k j : ℝ) : EReal))
    (h8 : ∀ (p : Fin 2048) (l : Fin 128), arg8.view.read (Elt Ideal) G_arg8 (ix2 p l) = (⊥ : EReal))
    (h9 : ∀ (p : Fin 2048) (l : Fin 128), arg9.view.read (Elt Ideal) G_arg9 (ix2 p l) = (0 : EReal)) :
    ∀ n : ℕ, n ≤ 4 → ∀ (p : Fin 2048) (l : Fin 128),
      arg8.view.read (Elt Ideal) (arg8.view.writes (Elt Ideal) G_arg8 (pb_k0_t1 (F := Ideal) 𝒱 c bd i arg3 harg3 arg4 harg4 arg5 harg5 arg6 harg6 arg7 harg7 arg8 harg8 arg9 harg9 arg1 v0 v74 X_arg4 X_arg5 X_arg7 G_arg8 G_arg9 n).1) (ix2 p l) = top (S p) n
      ∧ arg9.view.read (Elt Ideal) (arg9.view.writes (Elt Ideal) G_arg9 (pb_k0_t1 (F := Ideal) 𝒱 c bd i arg3 harg3 arg4 harg4 arg5 harg5 arg6 harg6 arg7 harg7 arg8 harg8 arg9 harg9 arg1 v0 v74 X_arg4 X_arg5 X_arg7 G_arg8 G_arg9 n).2) (ix2 p l) = run (S p) (V l) n := by
  intro n
  induction n with
  | zero => exact fun _ p l => ⟨h8 p l, h9 p l⟩
  | succ n ih =>
    intro hn p l
    have hk : n < 4 := by omega
    have IH := ih (by omega)
    have hs := pb_k0_t1_succ (F := Ideal) 𝒱 c bd i arg3 harg3 arg4 harg4 arg5 harg5 arg6 harg6 arg7 harg7 arg8 harg8 arg9 harg9 arg1 v0 v74 X_arg4 X_arg5 X_arg7 G_arg8 G_arg9 ⟨n, by rw [trips_eq]; exact hk⟩
    have H := trip_read 𝒱 c bd i arg3 harg3 arg4 harg4 arg5 harg5 arg6 harg6 arg7 harg7 arg8 harg8 arg9 harg9 arg1 v0 v74 X_arg4 X_arg5 X_arg7 ⟨n, by rw [trips_eq]; exact hk⟩ _ _ kk vv qq (fun p => top (S p) n) (fun p l => run (S p) (V l) n) hK hV hQ
      (fun p l => (IH p l).1) (fun p l => (IH p l).2) hk p l
    have hf : (fun j : Fin 2048 => (∑ e : Fin 128, qq p e * kk e ⟨2048 * n + j.val, by omega⟩ : EReal)) = fun j => ((S p n j : ℝ) : EReal) :=
      funext fun j => hS p n hk j
    have hm : max (top (S p) n) (Finset.fold (max : EReal → EReal → EReal) ⊥ (fun j : Fin 2048 => (∑ e : Fin 128, qq p e * kk e ⟨2048 * n + j.val, by omega⟩ : EReal)) Finset.univ) = top (S p) (n + 1) :=
      congrArg (fun f => max (top (S p) n) (Finset.fold max ⊥ f Finset.univ)) hf
    refine ⟨?_, ?_⟩
    · refine (congrArg (fun L => arg8.view.read (Elt Ideal) (arg8.view.writes (Elt Ideal) G_arg8 L) (ix2 p l)) (congrArg Prod.fst hs)).trans ?_
      dsimp only
      rw [View.writes_append]
      exact H.1.trans hm
    · refine (congrArg (fun L => arg9.view.read (Elt Ideal) (arg9.view.writes (Elt Ideal) G_arg9 L) (ix2 p l)) (congrArg Prod.snd hs)).trans ?_
      dsimp only
      rw [View.writes_append]
      refine H.2.trans ?_
      refine congrArg₂ (fun x y : EReal => x + y) (congrArg (fun z => Ideal.exp2 (top (S p) n - z) * run (S p) (V l) n) hm) (Finset.sum_congr rfl fun j _ => ?_)
      exact congrArg₂ (fun x y : EReal => x * y) (congrArg₂ (fun x y => Ideal.exp2 (x - y)) (hS p n hk j) hm) (hW l n hk j)

end Cert.Proof.Att

end
-- ==== Proof.AttLanes.lean ====
/-
  How the attention body lays out the query rows of its heads, and how it puts the heads' results side by side.
-/
module

public import proofs.«01_k».proof.Proof.Gen.Kernel4Ideal.Skeleton
public import Idealize.ShloMosaic.Lib.Pointwise

@[expose] public section

set_option maxRecDepth 16384

noncomputable section

namespace Cert.Proof.Att

open Cert.Kernel4Ideal Cert.Kernel4Ideal.Gen
open Idealize.ShloMosaic Idealize.ShloMosaic.TcCoe

/-- A column read half a register to the side. -/
theorem roll_rows (x : FVec Ideal S512x128 .f32) (p : Fin 512) (l : Fin 128) (h) :
    dynamicRotate 1 64#32 none x h (ix2 p l) = x (ix2 p ⟨(l.val + 64) % 128, Nat.mod_lt _ (by decide)⟩) := by
  pointwise
  exact congrArg x (congrArg (ix2 p) (Fin.ext (by show (l.val + 128 - 64) % 128 = (l.val + 64) % 128; omega)))

/-- A column of the sums read half a register to the side. -/
theorem roll_all (x : FVec Ideal S2048x128 .f32) (p : Fin 2048) (l : Fin 128) (h) :
    dynamicRotate 1 64#32 none x h (ix2 p l) = x (ix2 p ⟨(l.val + 64) % 128, Nat.mod_lt _ (by decide)⟩) := by
  pointwise
  exact congrArg x (congrArg (ix2 p) (Fin.ext (by show (l.val + 128 - 64) % 128 = (l.val + 64) % 128; omega)))

/-- The results: each sum over the one half a register to the side. -/
theorem pay18_apply (W : Vec Ideal S2048x128 .f32) (p : Fin 2048) (l : Fin 128) :
    k0_pay18 (F := Ideal) W (ix2 p l) = Ideal.div (W (ix2 p l)) (W (ix2 p ⟨(l.val + 64) % 128, Nat.mod_lt _ (by decide)⟩)) := by
  unfold k0_pay18
  exact congrArg (Ideal.div (W (ix2 p l))) (roll_all W p l _)

/-- The first choice, at a word that says yes. -/
theorem pick_yes {α : Type} (x y : α) : Scalar.select 1#1 x y = x := rfl

/-- The second choice, at a word that says no. -/
theorem pick_no {α : Type} (x y : α) : Scalar.select 0#1 x y = y := rfl

/-- The lower half of the lanes. -/
theorem low_word (l : Fin 128) : IntOp.cmpi CmpIPredicate.slt (BitVec.ofNat 32 l.val) 64#32 = BitVec.ofBool (decide (l.val < 64)) := by
  revert l
  decide +kernel

/-- The word of a head's number is that of zero, or that of one. -/
theorem head_word (κ : Fin 2) :
    Scalar.cmpi CmpIPredicate.eq (BitVec.ofNat 32 κ.val) 0#32 = BitVec.ofBool (decide (κ.val = 0))
      ∧ Scalar.cmpi CmpIPredicate.eq (BitVec.ofNat 32 κ.val) 1#32 = BitVec.ofBool (decide (κ.val = 1)) := by
  revert κ
  decide +kernel

/-- A choice by a decided word. -/
theorem pick_of {α : Type} (P : Prop) [Decidable P] (x y : α) : Scalar.select (BitVec.ofBool (decide P)) x y = if P then x else y := by
  by_cases h : P
  · rw [if_pos h, decide_eq_true h]; rfl
  · rw [if_neg h, decide_eq_false h]; rfl

/-- The lanes of the point's own head. -/
theorem pay8_apply (i : grid0.Coords) (r : Fin 512) (l : Fin 128) :
    k0_pay8 i (ix2 r l) = BitVec.ofBool (decide (l.val / 64 = (i 1).val)) := by
  pointwise [k0_pay8]
  obtain ⟨κ, hκ⟩ : ∃ κ : Fin 2, (i 1).val = κ.val := ⟨i 1, rfl⟩
  rw [hκ]
  clear hκ
  clear i r
  revert κ l
  decide +kernel

/-- The query rows of a head in the low half of its register, laid on the own head's lanes. -/
theorem pay9_apply (i : grid0.Coords) (v : Vec Ideal S1x512x128 .bf16) (r : Fin 512) (l : Fin 128) :
    k0_pay9 (F := Ideal) i v (ix2 r l) = if l.val / 64 = (i 1).val then (v (ix3 0 r ⟨l.val % 64, by omega⟩) : EReal) else 0 := by
  have h8 := pay8_apply i r l
  unfold k0_pay9
  generalize k0_pay8 i = M at h8 ⊢
  pointwise
  rw [h8]
  obtain ⟨κ, hκ⟩ : ∃ κ : Fin 2, (i 1).val = κ.val := ⟨i 1, rfl⟩
  rw [hκ, (head_word κ).1, pick_of, pick_of]
  have := κ.isLt
  have := l.isLt
  by_cases h : l.val / 64 = κ.val
  · rw [if_pos h, if_pos h]
    by_cases h0 : κ.val = 0
    · rw [if_pos h0]
      exact congrArg v (congrArg (ix3 0 r) (Fin.ext (by show l.val = l.val % 64; omega)))
    · rw [if_neg h0]
      exact congrArg v (congrArg (ix3 0 r) (Fin.ext (by show (l.val + 128 - 64) % 128 = l.val % 64; omega)))
  · rw [if_neg h, if_neg h]

/-- The query rows of a head in the high half of its register, laid on the own head's lanes. -/
theorem pay10_apply (i : grid0.Coords) (v : Vec Ideal S1x512x128 .bf16) (r : Fin 512) (l : Fin 128) :
    k0_pay10 (F := Ideal) (BitVec.ofNat 32 (i 1).val) (k0_pay8 i) v (ix2 r l)
      = if l.val / 64 = (i 1).val then (v (ix3 0 r ⟨64 + l.val % 64, by omega⟩) : EReal) else 0 := by
  have h8 := pay8_apply i r l
  unfold k0_pay10
  generalize k0_pay8 i = M at h8 ⊢
  pointwise
  rw [h8]
  obtain ⟨κ, hκ⟩ : ∃ κ : Fin 2, (i 1).val = κ.val := ⟨i 1, rfl⟩
  rw [hκ, (head_word κ).2, pick_of, pick_of]
  have := κ.isLt
  have := l.isLt
  by_cases h : l.val / 64 = κ.val
  · rw [if_pos h, if_pos h]
    by_cases h0 : κ.val = 1
    · rw [if_pos h0]
      exact congrArg v (congrArg (ix3 0 r) (Fin.ext (by show l.val = 64 + l.val % 64; omega)))
    · rw [if_neg h0]
      exact congrArg v (congrArg (ix3 0 r) (Fin.ext (by show (l.val + 128 - 64) % 128 = 64 + l.val % 64; omega)))
  · rw [if_neg h, if_neg h]

/-- The third head's rows are laid out as the first's. -/
theorem pay11_eq (i : grid0.Coords) (v : Vec Ideal S1x512x128 .bf16) :
    k0_pay11 (F := Ideal) (BitVec.ofNat 32 (i 1).val) (k0_pay8 i) v = k0_pay9 i v := rfl

/-- The fourth head's rows are laid out as the second's. -/
theorem pay12_eq (i : grid0.Coords) (v : Vec Ideal S1x512x128 .bf16) :
    k0_pay12 (F := Ideal) (BitVec.ofNat 32 (i 1).val) (k0_pay8 i) v = k0_pay10 (BitVec.ofNat 32 (i 1).val) (k0_pay8 i) v := rfl

/-- The first two heads' results side by side. -/
theorem pay19_apply (κ : Fin 2) (W : Vec Ideal S2048x128 .f32) (r : Fin 512) (l : Fin 128) (h) :
    k0_pay19 (F := Ideal) (BitVec.ofNat 32 κ.val) (iota .tc S512x128 32 [1] h) W (ix3 0 r l)
      = k0_pay18 (F := Ideal) W (ix2 ⟨512 * (l.val / 64) + r.val, by omega⟩ ⟨64 * κ.val + l.val % 64, by omega⟩) := by
  unfold k0_pay19
  generalize k0_pay18 (F := Ideal) W = o
  pointwise
  have := κ.isLt
  have := l.isLt
  have := r.isLt
  rw [low_word, (head_word κ).1, (head_word κ).2, pick_of, pick_of, pick_of]
  have key : ∀ (x y : Nat) (hx : x < 2048) (hy : y < 128), x = 512 * (l.val / 64) + r.val → y = 64 * κ.val + l.val % 64 →
      o (ix2 ⟨x, hx⟩ ⟨y, hy⟩) = o (ix2 ⟨512 * (l.val / 64) + r.val, by omega⟩ ⟨64 * κ.val + l.val % 64, by omega⟩) := by
    intro x y hx hy e1 e2
    subst e1 e2
    rfl
  by_cases hl : l.val < 64
  · rw [if_pos hl]
    by_cases h0 : κ.val = 0
    · rw [if_pos h0]; exact key _ l.val _ l.isLt (by omega) (by omega)
    · rw [if_neg h0]; exact key _ _ _ _ (by omega) (by omega)
  · rw [if_neg hl]
    by_cases h0 : κ.val = 1
    · rw [if_pos h0]; exact key _ l.val _ l.isLt (by omega) (by omega)
    · rw [if_neg h0]; exact key _ _ _ _ (by omega) (by omega)

/-- The last two heads' results side by side. -/
theorem pay1_apply (κ : Fin 2) (W : Vec Ideal S2048x128 .f32) (r : Fin 512) (l : Fin 128) (h) :
    k0_pay1 (F := Ideal) (BitVec.ofNat 32 κ.val) (iota .tc S512x128 32 [1] h) (k0_pay20 W) (k0_pay21 (BitVec.ofNat 32 κ.val) W) (ix3 0 r l)
      = k0_pay18 (F := Ideal) W (ix2 ⟨1024 + 512 * (l.val / 64) + r.val, by omega⟩ ⟨64 * κ.val + l.val % 64, by omega⟩) := by
  unfold k0_pay1 k0_pay20 k0_pay21
  generalize k0_pay18 (F := Ideal) W = o
  pointwise
  have := κ.isLt
  have := l.isLt
  have := r.isLt
  rw [low_word, (head_word κ).1, (head_word κ).2, pick_of, pick_of, pick_of]
  have key : ∀ (x y : Nat) (hx : x < 2048) (hy : y < 128), x = 1024 + 512 * (l.val / 64) + r.val → y = 64 * κ.val + l.val % 64 →
      o (ix2 ⟨x, hx⟩ ⟨y, hy⟩) = o (ix2 ⟨1024 + 512 * (l.val / 64) + r.val, by omega⟩ ⟨64 * κ.val + l.val % 64, by omega⟩) := by
    intro x y hx hy e1 e2
    subst e1 e2
    rfl
  by_cases hl : l.val < 64
  · rw [if_pos hl]
    by_cases h0 : κ.val = 0
    · rw [if_pos h0]; exact key _ l.val _ l.isLt (by omega) (by omega)
    · rw [if_neg h0]; exact key _ _ _ _ (by omega) (by omega)
  · rw [if_neg hl]
    by_cases h0 : κ.val = 1
    · rw [if_pos h0]; exact key _ l.val _ l.isLt (by omega) (by omega)
    · rw [if_neg h0]; exact key _ _ _ _ (by omega) (by omega)

end Cert.Proof.Att

end
-- ==== Proof.AttBlock.lean ====
/-
  What the attention body leaves in its output block, entry by entry.
-/
module

public import proofs.«01_k».proof.Proof.AttTrip
public import proofs.«01_k».proof.Proof.AttLanes
public import Idealize.ShloMosaic.Lib.WritesUnit
public import Idealize.ShloMosaic.Lib.Pipeline.ValueKit

@[expose] public section

set_option maxRecDepth 16384

noncomputable section

namespace Cert.Proof.Att

open Cert.Kernel4Ideal Cert.Kernel4Ideal.Gen Cert.Kernel4Ideal.Value
open Idealize.ShloMosaic Idealize.ShloMosaic.TcCoe

/-- The running maximum starts at minus infinity. -/
theorem pay13_apply (p : Fin 2048) (l : Fin 128) : k0_pay13 (F := Ideal) (ix2 p l) = (⊥ : EReal) := by
  pointwise [k0_pay13]
  exact bot_word

/-- The sums start at zero. -/
theorem pay14_apply (p : Fin 2048) (l : Fin 128) : k0_pay14 (F := Ideal) (ix2 p l) = (0 : EReal) := by
  pointwise [k0_pay14]

/-- A part of the block of queries, read. -/
theorem block_read (arg3 : Memref sig .tc .vmem S1x512x256 .bf16) (harg3 : arg3.IsWhole) (x0 : Vec Ideal S1x512x256 .bf16) (o : Nat)
    (inb : ∀ a : Fin 3, (![0, 0, o] : Fin 3 → Nat) a + S1x512x128.size a ≤ S1x512x256.size a) (r : Fin 512) (l : Fin 128) (hl : o + l.val < 256) :
    arg3.view.readAt (Elt Ideal) (Rect.unit (s := S1x512x256) ![0, 0, o] S1x512x128.size inb).toLoadRect (harg3.unread x0) (ix3 0 r l)
      = x0 (ix3 0 r ⟨o + l.val, hl⟩) := by
  refine (congrArg (arg3.view.read (Elt Ideal) (harg3.unread x0)) ?_).trans (congrFun (harg3.read_unread x0) _)
  funext b
  refine Fin.ext ?_
  fin_cases b
  · rfl
  · show 0 + 1 * r.val = r.val; omega
  · show o + 1 * l.val = o + l.val; omega

/-- The query rows as the loop meets them: each head's rows under one another, on the lanes of the head of keys. -/
theorem rows_read (c : Dev nD) (i : grid0.Coords) (arg3 : Memref sig .tc .vmem S1x512x256 .bf16) (harg3 : arg3.IsWhole) (arg7 : Memref sig .tc .vmem S2048x128 .bf16)
    (x0 : Vec Ideal S1x512x256 .bf16) (p : Fin 2048) (e : Fin 128) :
    arg7.view.read (Elt Ideal) (arg7.view.writes (Elt Ideal) arg7.view.junk (kernelRun0_A.sl.HS0_4 (F := Ideal) c i arg3 harg3 x0)) (ix2 p e)
      = if e.val / 64 = (i 1).val then (x0 (ix3 0 ⟨p.val % 512, by omega⟩ ⟨64 * (p.val / 512) + e.val % 64, by omega⟩) : EReal) else 0 := by
  unfold kernelRun0_A.sl.HS0_4
  try unfold kernelRun0_A.sl.HS0_3
  try unfold kernelRun0_A.sl.HS0_2
  try unfold kernelRun0_A.sl.HS0_1
  try unfold kernelRun0_A.sl.r
  dsimp only
  have hc : 1536 ≤ p.val ∨ (1024 ≤ p.val ∧ p.val < 1536) ∨ (512 ≤ p.val ∧ p.val < 1024) ∨ p.val < 512 := by omega
  rcases hc with h | h | h | h
  · have hr : p.val - 1536 < 512 := by omega
    refine (View.read_writes_cons_rows_of_mem (d := ![2048, 128]) (o := 1536) arg7.view _ _ _ _ _ (ix2 ⟨p.val - 1536, hr⟩ e) rfl (by show p.val = 1536 + (p.val - 1536); omega) rfl).trans ?_
    rw [pay12_eq]
    refine (pay10_apply i _ ⟨p.val - 1536, hr⟩ e).trans ?_
    refine if_congr Iff.rfl ?_ rfl
    refine (block_read arg3 harg3 x0 128 inb_S1x512x256_S1x512x128_0_0_128 ⟨p.val - 1536, hr⟩ ⟨64 + e.val % 64, by omega⟩ (by show 128 + (64 + e.val % 64) < 256; omega)).trans ?_
    exact congrArg₂ (fun a b => x0 (ix3 0 a b)) (Fin.ext (by show p.val - 1536 = p.val % 512; omega)) (Fin.ext (by show 128 + (64 + e.val % 64) = 64 * (p.val / 512) + e.val % 64; omega))
  · have hr : p.val - 1024 < 512 := by omega
    refine (View.read_writes_cons_rows_of_not_mem (d := ![2048, 128]) (o := 1536) (W := 512) arg7.view _ _ _ _ _ rfl rfl (Or.inl (by show p.val < 1536; omega))).trans ?_
    refine (View.read_writes_cons_rows_of_mem (d := ![2048, 128]) (o := 1024) arg7.view _ _ _ _ _ (ix2 ⟨p.val - 1024, hr⟩ e) rfl (by show p.val = 1024 + (p.val - 1024); omega) rfl).trans ?_
    rw [pay11_eq]
    refine (pay9_apply i _ ⟨p.val - 1024, hr⟩ e).trans ?_
    refine if_congr Iff.rfl ?_ rfl
    refine (block_read arg3 harg3 x0 128 inb_S1x512x256_S1x512x128_0_0_128 ⟨p.val - 1024, hr⟩ ⟨e.val % 64, by omega⟩ (by show 128 + (e.val % 64) < 256; omega)).trans ?_
    exact congrArg₂ (fun a b => x0 (ix3 0 a b)) (Fin.ext (by show p.val - 1024 = p.val % 512; omega)) (Fin.ext (by show 128 + (e.val % 64) = 64 * (p.val / 512) + e.val % 64; omega))
  · have hr : p.val - 512 < 512 := by omega
    refine (View.read_writes_cons_rows_of_not_mem (d := ![2048, 128]) (o := 1536) (W := 512) arg7.view _ _ _ _ _ rfl rfl (Or.inl (by show p.val < 1536; omega))).trans ?_
    refine (View.read_writes_cons_rows_of_not_mem (d := ![2048, 128]) (o := 1024) (W := 512) arg7.view _ _ _ _ _ rfl rfl (Or.inl (by show p.val < 1024; omega))).trans ?_
    refine (View.read_writes_cons_rows_of_mem (d := ![2048, 128]) (o := 512) arg7.view _ _ _ _ _ (ix2 ⟨p.val - 512, hr⟩ e) rfl (by show p.val = 512 + (p.val - 512); omega) rfl).trans ?_
    refine (pay10_apply i _ ⟨p.val - 512, hr⟩ e).trans ?_
    refine if_congr Iff.rfl ?_ rfl
    refine (block_read arg3 harg3 x0 0 inb_S1x512x256_S1x512x128_0_0_0 ⟨p.val - 512, hr⟩ ⟨64 + e.val % 64, by omega⟩ (by show 0 + (64 + e.val % 64) < 256; omega)).trans ?_
    exact congrArg₂ (fun a b => x0 (ix3 0 a b)) (Fin.ext (by show p.val - 512 = p.val % 512; omega)) (Fin.ext (by show 0 + (64 + e.val % 64) = 64 * (p.val / 512) + e.val % 64; omega))
  · have hr : p.val - 0 < 512 := by omega
    refine (View.read_writes_cons_rows_of_not_mem (d := ![2048, 128]) (o := 1536) (W := 512) arg7.view _ _ _ _ _ rfl rfl (Or.inl (by show p.val < 1536; omega))).trans ?_
    refine (View.read_writes_cons_rows_of_not_mem (d := ![2048, 128]) (o := 1024) (W := 512) arg7.view _ _ _ _ _ rfl rfl (Or.inl (by show p.val < 1024; omega))).trans ?_
    refine (View.read_writes_cons_rows_of_not_mem (d := ![2048, 128]) (o := 512) (W := 512) arg7.view _ _ _ _ _ rfl rfl (Or.inl (by show p.val < 512; omega))).trans ?_
    refine (View.read_writes_cons_rows_of_mem (d := ![2048, 128]) (o := 0) arg7.view _ _ _ _ _ (ix2 ⟨p.val - 0, hr⟩ e) rfl (by show p.val = 0 + (p.val - 0); omega) rfl).trans ?_
    refine (pay9_apply i _ ⟨p.val - 0, hr⟩ e).trans ?_
    refine if_congr Iff.rfl ?_ rfl
    refine (block_read arg3 harg3 x0 0 inb_S1x512x256_S1x512x128_0_0_0 ⟨p.val - 0, hr⟩ ⟨e.val % 64, by omega⟩ (by show 0 + (e.val % 64) < 256; omega)).trans ?_
    exact congrArg₂ (fun a b => x0 (ix3 0 a b)) (Fin.ext (by show p.val - 0 = p.val % 512; omega)) (Fin.ext (by show 0 + (e.val % 64) = 64 * (p.val / 512) + e.val % 64; omega))

/-- A sum over both halves of a register of what stands on one half alone. -/
theorem half_sum (κ : Nat) (hκ : κ < 2) (a b : Fin 128 → EReal) :
    (∑ e : Fin 128, (if e.val / 64 = κ then a e else 0) * b e) = ∑ d : Fin 64, a ⟨64 * κ + d.val, by omega⟩ * b ⟨64 * κ + d.val, by omega⟩ := by
  refine (Fin.sum_univ_add (a := 64) (b := 64) (fun e : Fin (64 + 64) => (if e.val / 64 = κ then a e else 0) * b e)).trans ?_
  have h0 : ∀ d : Fin 64, (Fin.castAdd 64 d).val / 64 = 0 := fun d => by show d.val / 64 = 0; omega
  have h1 : ∀ d : Fin 64, (Fin.natAdd 64 d).val / 64 = 1 := fun d => by show (64 + d.val) / 64 = 1; omega
  rcases (by omega : κ = 0 ∨ κ = 1) with rfl | rfl
  · refine (congrArg₂ (fun x y : EReal => x + y) (Finset.sum_congr rfl fun d _ => ?_) (Finset.sum_eq_zero fun d _ => ?_)).trans (add_zero _)
    · rw [if_pos (h0 d)]
      exact congrArg (fun z => a z * b z) (Fin.ext (by show d.val = 64 * 0 + d.val; omega))
    · rw [if_neg (by rw [h1 d]; decide), zero_mul]
  · refine (congrArg₂ (fun x y : EReal => x + y) (Finset.sum_eq_zero fun d _ => ?_) (Finset.sum_congr rfl fun d _ => ?_)).trans (zero_add _)
    · rw [if_neg (by rw [h0 d]; decide), zero_mul]
    · rw [if_pos (h1 d)]
      exact congrArg (fun z => a z * b z) (Fin.ext (by show 64 + d.val = 64 * 1 + d.val; omega))

/-- What the body leaves in its output block: at each entry the mean of the values weighted by powers of two of the scores. -/
theorem out_apply (c : Dev nD) (i : grid0.Coords) (arg3 : Memref sig .tc .vmem S1x512x256 .bf16) (harg3 : arg3.IsWhole) (arg4 : Memref sig .tc .vmem S128x8192 .bf16) (harg4 : arg4.IsWhole) (arg5 : Memref sig .tc .vmem S1x1x8192x128 .bf16) (harg5 : arg5.IsWhole) (arg6 : Memref sig .tc .vmem S1x512x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole)
     (x0 : Vec Ideal S1x512x256 .bf16) (x1 : Vec Ideal S128x8192 .bf16) (x2 : Vec Ideal S1x1x8192x128 .bf16)
    (q : Fin 512 → Fin 256 → ℝ) (kt : Fin 128 → Fin 8192 → ℝ) (v : Fin 8192 → Fin 128 → ℝ)
    (hq : ∀ r l, x0 (ix3 0 r l) = ((q r l : ℝ) : EReal)) (hk : ∀ e y, x1 (ix2 e y) = ((kt e y : ℝ) : EReal))
    (hv : ∀ y l, x2 (ix4 0 0 y l) = ((v y l : ℝ) : EReal)) (hone : ∀ y (l : Fin 128), l.val / 64 ≠ (i 1).val → v y l = 1)
    (κ : Nat) (hi : (i 1).val = κ) (hκ : κ < 2) (r : Fin 512) (l : Fin 256) :
    out0_A_3 (F := Ideal) c i arg3 harg3 arg4 harg4 arg5 harg5 arg6 harg6 arg7 harg7 arg8 harg8 arg9 harg9 x0 x1 x2 (ix3 0 r l)
      = ((mean (fun y : Fin 8192 => ∑ d : Fin 64, q r ⟨64 * (l.val / 64) + d.val, by omega⟩ * kt ⟨64 * κ + d.val, by omega⟩ y)
          (fun y => v y ⟨64 * κ + l.val % 64, by omega⟩) : ℝ) : EReal) := by
  obtain ⟨κ', rfl⟩ : ∃ κ' : Fin 2, κ = κ'.val := ⟨⟨κ, hκ⟩, rfl⟩
  let s : Fin 2048 → Fin 8192 → ℝ := fun p y => ∑ d : Fin 64, q ⟨p.val % 512, by omega⟩ ⟨64 * (p.val / 512) + d.val, by omega⟩ * kt ⟨64 * κ'.val + d.val, by omega⟩ y
  let S : Fin 2048 → ℕ → Fin 2048 → ℝ := fun p k j => s p ⟨(2048 * k + j.val) % 8192, Nat.mod_lt _ (by decide)⟩
  let V : Fin 128 → ℕ → Fin 2048 → ℝ := fun l k j => v ⟨(2048 * k + j.val) % 8192, Nat.mod_lt _ (by decide)⟩ l
  unfold out0_A_3 kernelRun0_A kernelRun0_A.sl.r_1 kernelRun0_A.sl.r_2 kernelRun0_A.sl.v84 kernelRun0_A.sl.v0
  dsimp only
  generalize hW : View.readCov (Val := Elt Ideal) arg9.view _ _ = W
  have hWr : ∀ (p : Fin 2048) (l : Fin 128), W (ix2 p l) = run (S p) (V l) 4 := by
    intro p l
    rw [← hW]
    unfold View.readCov
    rw [View.readAt_apply, View.writes_append]
    have hidx : (Rect.unit (s := S2048x128) ![0, 0] ![2048, 128] inb_S2048x128_S2048x128_0_0).toLoadRect.idx (ix2 p l) = ix2 p l := by
      funext b
      refine Fin.ext ?_
      fin_cases b
      · show 0 + 1 * p.val = p.val; omega
      · show 0 + 1 * l.val = l.val; omega
    refine (congrArg _ hidx).trans ?_
    refine (loop_read _ c _ i arg3 harg3 arg4 harg4 arg5 harg5 arg6 harg6 arg7 harg7 arg8 harg8 arg9 harg9 _ _ _ _ _ _ _ _
      (fun e y => ((kt e y : ℝ) : EReal)) (fun y l => ((v y l : ℝ) : EReal))
      (fun p e => if e.val / 64 = (i 1).val then ((q ⟨p.val % 512, by omega⟩ ⟨64 * (p.val / 512) + e.val % 64, by omega⟩ : ℝ) : EReal) else 0)
      S V ?_ ?_ ?_ ?_ ?_ ?_ ?_ 4 le_rfl p l).2
    · exact fun e y => (congrFun (harg4.read_unread x1) _).trans (hk e y)
    · exact fun y l => (congrFun (harg5.read_unread x2) _).trans (hv y l)
    · exact fun p e => (rows_read c i arg3 harg3 arg7 x0 p e).trans (if_congr Iff.rfl (hq _ _) rfl)
    · intro p k hk4 j
      dsimp only
      rw [hi]
      refine (half_sum κ'.val hκ (fun e => ((q ⟨p.val % 512, by omega⟩ ⟨64 * (p.val / 512) + e.val % 64, by omega⟩ : ℝ) : EReal)) (fun e => ((kt e ⟨2048 * k + j.val, by omega⟩ : ℝ) : EReal))).trans ?_
      refine Eq.trans (Finset.sum_congr rfl fun d _ => ?_) (sum_coe Finset.univ (fun d : Fin 64 => q ⟨p.val % 512, by omega⟩ ⟨64 * (p.val / 512) + d.val, by omega⟩ * kt ⟨64 * κ'.val + d.val, by omega⟩ ⟨(2048 * k + j.val) % 8192, Nat.mod_lt _ (by decide)⟩))
      rw [← EReal.coe_mul]
      refine congrArg Real.toEReal (congrArg₂ (fun x y : ℝ => x * y) (congrArg (q _) (Fin.ext ?_)) (congrArg (kt _) (Fin.ext ?_)))
      · show 64 * (p.val / 512) + (64 * κ'.val + d.val) % 64 = 64 * (p.val / 512) + d.val
        omega
      · show 2048 * k + j.val = (2048 * k + j.val) % 8192
        omega
    · intro l k hk4 j
      exact congrArg (fun z => ((v z l : ℝ) : EReal)) (Fin.ext (by show 2048 * k + j.val = (2048 * k + j.val) % 8192; omega))
    · intro p l
      unfold kernelRun0_A.sl.HS1_1
      exact (View.read_writes_cons_rows_of_mem (d := ![2048, 128]) (o := 0) arg8.view _ _ _ _ _ (ix2 p l) rfl (Nat.zero_add _).symm rfl).trans (pay13_apply p l)
    · intro p l
      unfold kernelRun0_A.sl.HS2_1
      exact (View.read_writes_cons_rows_of_mem (d := ![2048, 128]) (o := 0) arg9.view _ _ _ _ _ (ix2 p l) rfl (Nat.zero_add _).symm rfl).trans (pay14_apply p l)
  have hquot : ∀ (p : Fin 2048) (d : Nat) (hd : d < 64), k0_pay18 (F := Ideal) W (ix2 p ⟨64 * κ'.val + d, by omega⟩)
      = ((mean (s p) (fun y => v y ⟨64 * κ'.val + d, by omega⟩) : ℝ) : EReal) := by
    intro p d hd
    refine (pay18_apply W p _).trans ?_
    rw [hWr, hWr]
    have hV1 : V ⟨((64 * κ'.val + d) + 64) % 128, Nat.mod_lt _ (by decide)⟩ = fun _ _ => 1 := by
      funext k j
      refine hone _ _ ?_
      show ((64 * κ'.val + d) + 64) % 128 / 64 ≠ (i 1).val
      omega
    refine (congrArg (fun U => Ideal.div (run (S p) (V ⟨64 * κ'.val + d, by omega⟩) 4) (run (S p) U 4)) hV1).trans ?_
    refine chunks_mean (s p) (fun y => v y ⟨64 * κ'.val + d, by omega⟩) (S p) _ (fun k j => ?_) (fun k j => ?_)
    · exact congrArg (s p) (Fin.ext (by show (2048 * k.val + j.val) % 8192 = 2048 * k.val + j.val; omega))
    · exact congrArg (fun z => v z _) (Fin.ext (by show (2048 * k.val + j.val) % 8192 = 2048 * k.val + j.val; omega))
  have hfin : ∀ (p : Fin 2048) (hp : p.val = 512 * (l.val / 64) + r.val), ((mean (s p) (fun y => v y ⟨64 * κ'.val + l.val % 64, by omega⟩) : ℝ) : EReal)
      = ((mean (fun y : Fin 8192 => ∑ d : Fin 64, q r ⟨64 * (l.val / 64) + d.val, by omega⟩ * kt ⟨64 * κ'.val + d.val, by omega⟩ y)
          (fun y => v y ⟨64 * κ'.val + l.val % 64, by omega⟩) : ℝ) : EReal) := by
    intro p hp
    refine congrArg (fun f => ((mean f (fun y => v y ⟨64 * κ'.val + l.val % 64, by omega⟩) : ℝ) : EReal)) (funext fun y => Finset.sum_congr rfl fun d _ => ?_)
    refine congrArg (fun z : ℝ => z * kt _ y) (congrArg₂ q (Fin.ext ?_) (Fin.ext ?_))
    · show p.val % 512 = r.val
      omega
    · show 64 * (p.val / 512) + d.val = 64 * (l.val / 64) + d.val
      omega
  rw [hi]
  by_cases hl : l.val < 128
  · refine (View.read_writes_cons_unit_of_not_mem VO0_3 _ _ _ _ _ rfl (2 : Fin 3) (Or.inl hl)).trans ?_
    refine (View.read_writes_cons_unit_of_mem VO0_3 _ _ _ _ _ (ix3 0 r ⟨l.val, hl⟩) rfl (fun b => ?_)).trans ?_
    · fin_cases b
      · rfl
      · exact (Nat.zero_add _).symm
      · exact (Nat.zero_add _).symm
    · refine (pay19_apply κ' W r ⟨l.val, hl⟩ _).trans ?_
      exact (hquot _ (l.val % 64) (by omega)).trans (hfin _ rfl)
  · refine (View.read_writes_cons_unit_of_mem VO0_3 _ _ _ _ _ (ix3 0 r ⟨l.val - 128, by omega⟩) rfl (fun b => ?_)).trans ?_
    · fin_cases b
      · rfl
      · exact (Nat.zero_add _).symm
      · show l.val = 128 + (l.val - 128); omega
    · refine (pay1_apply κ' W r ⟨l.val - 128, by omega⟩ _).trans ?_
      refine (congrArg (k0_pay18 (F := Ideal) W) (congrArg (ix2 _) (Fin.ext ?_))).trans ((hquot _ (l.val % 64) (by omega)).trans (hfin _ ?_))
      · show 64 * κ'.val + (l.val - 128) % 64 = 64 * κ'.val + l.val % 64
        omega
      · show 1024 + 512 * ((l.val - 128) / 64) + r.val = 512 * (l.val / 64) + r.val
        omega

end Cert.Proof.Att

end
-- ==== Proof.AttValue.lean ====
/-
  The attention call's result from its blocks: every entry is a mean of values weighted by powers of two of scores.
-/
module

public import proofs.«01_k».proof.Proof.AttBlock
public import Idealize.ShloMosaic.Lib.Claim
public import Idealize.ShloMosaic.Lib.Pipeline.ValueKit

@[expose] public section

set_option maxRecDepth 16384

noncomputable section

namespace Cert.Proof.Att

open Cert.Kernel4Ideal Cert.Kernel4Ideal.Gen Cert.Kernel4Ideal.Value
open Idealize.ShloMosaic Idealize.ShloMosaic.TcCoe

variable (m : (ℓ : Loc nD τ sig) → Buf (Elt Ideal) ℓ)

/-- The windows' block numbers, from the grid point: the batch, the head of keys and the tile of queries. -/
theorem idx0 : ∀ t : Fin grid0.N, win0_0.index t 0 = t.val / 32 ∧ win0_0.index t 1 = t.val % 16 ∧ win0_0.index t 2 = t.val / 16 % 2 := by decide +kernel
theorem idx1 : ∀ t : Fin grid0.N, win0_1.index t 0 = 0 ∧ win0_1.index t 1 = t.val / 32 := by decide +kernel
theorem idx2 : ∀ t : Fin grid0.N, win0_2.index t 0 = t.val / 16 % 2 ∧ win0_2.index t 1 = t.val / 32 ∧ win0_2.index t 2 = 0 ∧ win0_2.index t 3 = 0 := by decide +kernel
theorem idx3 : ∀ t : Fin grid0.N, win0_3.index t 0 = t.val / 32 ∧ win0_3.index t 1 = t.val % 16 ∧ win0_3.index t 2 = t.val / 16 % 2 := by decide +kernel
theorem head_of : ∀ t : Fin grid0.N, (grid0.coords t 1).val = t.val / 16 % 2 := by decide +kernel

/-- The grid has 128 points. -/
theorem points (t : Fin cfg0.N) : t.val < 128 := lt_of_lt_of_eq t.isLt (N_0 : grid0.N = 128)

/-- A block of the queries. -/
theorem blk0 (c : Dev nD) (t : Fin cfg0.N) (r : Fin 512) (l : Fin 256) :
    iblk m c 0 t (ix3 0 r l) = m ((c : Thread nD τ).loc main_arg0)
      (ix3 ⟨t.val / 32, by have := points t; omega⟩ ⟨512 * (t.val % 16) + r.val, by omega⟩ ⟨256 * (t.val / 16 % 2) + l.val, by omega⟩) := by
  unfold iblk
  rw [View.read_apply]
  show V m c main_arg0 _ = _
  rw [V_main_arg0]
  congr 1
  funext x
  refine Fin.ext ?_
  refine (Idealize.ShloMosaic.Pipeline.Window.rect_emb_val win0_0 t _ x).trans ?_
  fin_cases x
  · exact (congrArg (· * 1 + 0) (idx0 t).1).trans (Nat.mul_one _)
  · exact (congrArg (· * 512 + r.val) (idx0 t).2.1).trans (congrArg (· + r.val) (Nat.mul_comm _ _))
  · exact (congrArg (· * 256 + l.val) (idx0 t).2.2).trans (congrArg (· + l.val) (Nat.mul_comm _ _))

/-- A block of the keys. -/
theorem blk1 (c : Dev nD) (t : Fin cfg0.N) (e : Fin 128) (y : Fin 8192) :
    iblk m c 1 t (ix2 e y) = m ((c : Thread nD τ).loc main_arg1) (ix2 e ⟨8192 * (t.val / 32) + y.val, by have := points t; omega⟩) := by
  unfold iblk
  rw [View.read_apply]
  show V m c main_arg1 _ = _
  rw [V_main_arg1]
  congr 1
  funext x
  refine Fin.ext ?_
  refine (Idealize.ShloMosaic.Pipeline.Window.rect_emb_val win0_1 t _ x).trans ?_
  fin_cases x
  · exact (congrArg (· * 128 + e.val) (idx1 t).1).trans ((congrArg (· + e.val) (Nat.zero_mul _)).trans (Nat.zero_add _))
  · exact (congrArg (· * 8192 + y.val) (idx1 t).2).trans (congrArg (· + y.val) (Nat.mul_comm _ _))

/-- A block of the values. -/
theorem blk2 (c : Dev nD) (t : Fin cfg0.N) (y : Fin 8192) (l : Fin 128) :
    iblk m c 2 t (ix4 0 0 y l) = m ((c : Thread nD τ).loc main_arg2)
      (ix4 ⟨t.val / 16 % 2, by omega⟩ ⟨t.val / 32, by have := points t; omega⟩ y l) := by
  unfold iblk
  rw [View.read_apply]
  show V m c main_arg2 _ = _
  rw [V_main_arg2]
  congr 1
  funext x
  refine Fin.ext ?_
  refine (Idealize.ShloMosaic.Pipeline.Window.rect_emb_val win0_2 t _ x).trans ?_
  fin_cases x
  · exact (congrArg (· * 1 + 0) (idx2 t).1).trans (Nat.mul_one _)
  · exact (congrArg (· * 1 + 0) (idx2 t).2.1).trans (Nat.mul_one _)
  · exact (congrArg (· * 8192 + y.val) (idx2 t).2.2.1).trans ((congrArg (· + y.val) (Nat.zero_mul _)).trans (Nat.zero_add _))
  · exact (congrArg (· * 128 + l.val) (idx2 t).2.2.2).trans ((congrArg (· + l.val) (Nat.zero_mul _)).trans (Nat.zero_add _))

/-- Where an element of the result's block lies in the array. -/
theorem emb3 (t : Fin cfg0.N) (r : Fin 512) (l : Fin 256) :
    ((cfg0.win 3).blk t).view.emb (ix3 0 r l)
      = ix3 ⟨t.val / 32, by have := points t; omega⟩ ⟨512 * (t.val % 16) + r.val, by omega⟩ ⟨256 * (t.val / 16 % 2) + l.val, by omega⟩ := by
  funext x
  refine Fin.ext ?_
  refine (Idealize.ShloMosaic.Pipeline.Window.rect_emb_val win0_3 t _ x).trans ?_
  fin_cases x
  · exact (congrArg (· * 1 + 0) (idx3 t).1).trans (Nat.mul_one _)
  · exact (congrArg (· * 512 + r.val) (idx3 t).2.1).trans (congrArg (· + r.val) (Nat.mul_comm _ _))
  · exact (congrArg (· * 256 + l.val) (idx3 t).2.2).trans (congrArg (· + l.val) (Nat.mul_comm _ _))

/-- The attention's result at batch `b`, query `x`, and lane `l`: the lane's head attends over the keys of its group. -/
def attendedAt (q : FVec Ideal S4x8192x512 .bf16) (kt : FVec Ideal S128x32768 .bf16) (v : FVec Ideal S2x4x8192x128 .bf16)
    (b : Fin 4) (x : Fin 8192) (l : Fin 512) : EReal :=
  ((mean (fun y : Fin 8192 => ∑ d : Fin 64, (q (ix3 b x ⟨64 * (l.val / 64) + d.val, by omega⟩) : EReal).toReal
      * (kt (ix2 ⟨64 * (l.val / 256) + d.val, by omega⟩ ⟨8192 * b.val + y.val, by omega⟩) : EReal).toReal)
    (fun y => (v (ix4 ⟨l.val / 256, by omega⟩ b y ⟨64 * (l.val / 256) + l.val % 64, by omega⟩) : EReal).toReal) : ℝ) : EReal)

/-- The result's elements, at finite arguments whose other lanes of the values are one. -/
theorem result_apply (c : Dev nD)
    (hq : ∀ i, m ((c : Thread nD τ).loc main_arg0) i = ((m ((c : Thread nD τ).loc main_arg0) i : EReal).toReal : EReal))
    (hk : ∀ i, m ((c : Thread nD τ).loc main_arg1) i = ((m ((c : Thread nD τ).loc main_arg1) i : EReal).toReal : EReal))
    (hv : ∀ i, m ((c : Thread nD τ).loc main_arg2) i = ((m ((c : Thread nD τ).loc main_arg2) i : EReal).toReal : EReal))
    (hone : ∀ (h : Fin 2) (b : Fin 4) (y : Fin 8192) (l : Fin 128), l.val / 64 ≠ h.val → m ((c : Thread nD τ).loc main_arg2) (ix4 h b y l) = (1 : EReal))
    (b : Fin 4) (x : Fin 8192) (l : Fin 512) :
    (dats m 0 c).arrAt 3 cfg0.N (ix3 b x l)
      = attendedAt (m ((c : Thread nD τ).loc main_arg0)) (m ((c : Thread nD τ).loc main_arg1)) (m ((c : Thread nD τ).loc main_arg2)) b x l := by
  let t : Fin cfg0.N := ⟨32 * b.val + 16 * (l.val / 256) + x.val / 512, by show _ < grid0.N; rw [N_0]; omega⟩
  have tb : t.val / 32 = b.val := by show (32 * b.val + 16 * (l.val / 256) + x.val / 512) / 32 = b.val; omega
  have th : t.val / 16 % 2 = l.val / 256 := by show (32 * b.val + 16 * (l.val / 256) + x.val / 512) / 16 % 2 = l.val / 256; omega
  have ti : t.val % 16 = x.val / 512 := by show (32 * b.val + 16 * (l.val / 256) + x.val / 512) % 16 = x.val / 512; omega
  let r : Fin 512 := ⟨x.val % 512, Nat.mod_lt _ (by decide)⟩
  let l' : Fin 256 := ⟨l.val % 256, Nat.mod_lt _ (by decide)⟩
  have eb : (⟨t.val / 32, by have := points t; omega⟩ : Fin 4) = b := Fin.ext tb
  have ex : (⟨512 * (t.val % 16) + r.val, by omega⟩ : Fin 8192) = x := Fin.ext (by show 512 * (t.val % 16) + x.val % 512 = x.val; omega)
  have el : (⟨256 * (t.val / 16 % 2) + l'.val, by omega⟩ : Fin 512) = l := Fin.ext (by show 256 * (t.val / 16 % 2) + l.val % 256 = l.val; omega)
  have hb := congrFun (blocks3 m c t (flush0_3 t)) (ix3 0 r l')
  rw [View.read_apply] at hb
  have he : ((cfg0.win 3).blk t).view.emb (ix3 0 r l') = ix3 b x l := by rw [emb3, eb, ex, el]
  rw [he, flushed3_A] at hb
  refine hb.trans ?_
  have hout := out_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)
    (iblk m c 0 t) (iblk m c 1 t) (iblk m c 2 t)
    (fun r l => (m ((c : Thread nD τ).loc main_arg0) (ix3 ⟨t.val / 32, by have := points t; omega⟩ ⟨512 * (t.val % 16) + r.val, by omega⟩ ⟨256 * (t.val / 16 % 2) + l.val, by omega⟩) : EReal).toReal)
    (fun e y => (m ((c : Thread nD τ).loc main_arg1) (ix2 e ⟨8192 * (t.val / 32) + y.val, by have := points t; omega⟩) : EReal).toReal)
    (fun y l => (m ((c : Thread nD τ).loc main_arg2) (ix4 ⟨t.val / 16 % 2, by omega⟩ ⟨t.val / 32, by have := points t; omega⟩ y l) : EReal).toReal)
    (fun r l => (blk0 m c t r l).trans (hq _)) (fun e y => (blk1 m c t e y).trans (hk _)) (fun y l => (blk2 m c t y l).trans (hv _))
    (fun y l hl => (congrArg EReal.toReal (hone _ _ y l (by rw [head_of] at hl; exact hl))).trans EReal.toReal_one)
    (t.val / 16 % 2) (head_of t) (by omega) r l'
  refine Eq.trans (b := out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (ix3 0 r l')) rfl ?_
  refine hout.trans ?_
  unfold attendedAt
  generalize m ((c : Thread nD τ).loc main_arg0) = q
  generalize m ((c : Thread nD τ).loc main_arg1) = kt
  generalize m ((c : Thread nD τ).loc main_arg2) = v
  refine congrArg Real.toEReal (congrArg₂ mean (funext fun y => Finset.sum_congr rfl fun d _ => congrArg₂ (fun a b : ℝ => a * b) ?_ ?_) (funext fun y => ?_))
  · refine congrArg (fun i => (q i : EReal).toReal) ?_
    refine (congrArg₂ (fun a b => ix3 a b _) eb ex).trans (congrArg (ix3 b x) (Fin.ext ?_))
    show 256 * (t.val / 16 % 2) + (64 * (l.val % 256 / 64) + d.val) = 64 * (l.val / 64) + d.val
    omega
  · refine congrArg (fun i => (kt i : EReal).toReal) (congrArg₂ ix2 (Fin.ext ?_) (Fin.ext ?_))
    · show 64 * (t.val / 16 % 2) + d.val = 64 * (l.val / 256) + d.val
      rw [th]
    · show 8192 * (t.val / 32) + y.val = 8192 * b.val + y.val
      rw [tb]
  · refine congrArg (fun i => (v i : EReal).toReal) ?_
    refine (congrArg₂ (fun a b => ix4 a b y _) (Fin.ext th) eb).trans (congrArg (ix4 _ b y) (Fin.ext ?_))
    show 64 * (t.val / 16 % 2) + l.val % 256 % 64 = 64 * (l.val / 256) + l.val % 64
    omega

end Cert.Proof.Att

end
-- ==== Proof.AttRef.lean ====
/-
  The reference attention, entry by entry: the softmax to base two of the scores, as weights of a mean of the values.
-/
module

public import proofs.«01_k».proof.Proof.Gen.Reference4Ideal.Run
public import proofs.«01_k».proof.Proof.AttMath
public import Idealize.ShloMosaic.Lib.Pointwise

@[expose] public section

set_option maxRecDepth 16384

noncomputable section

namespace Cert.Proof.AttRef

open Cert.Reference4Ideal
open Idealize.ShloMosaic Idealize.ShloMosaic.TcCoe Cert.Proof.Att

/-- The keys by head. -/
theorem keys_apply (kt : FVec Ideal S128x32768 .f32) (h : Fin 2) (d : Fin 64) (b : Fin 4) (y : Fin 8192) (h1) :
    shapeCast S2x64x4x8192 kt h1 (ix4 h d b y) = kt (ix2 ⟨64 * h.val + d.val, by omega⟩ ⟨8192 * b.val + y.val, by omega⟩) := by
  pointwise
  exact congrArg kt (congrArg₂ ix2 (Fin.ext (by show h.val * 64 + d.val = 64 * h.val + d.val; omega)) (Fin.ext (by show b.val * 8192 + y.val = 8192 * b.val + y.val; omega)))

/-- The queries by head. -/
theorem queries_apply (q : FVec Ideal S4x8192x512 .f32) (b : Fin 4) (x : Fin 8192) (h : Fin 2) (g : Fin 4) (d : Fin 64) (h1) :
    shapeCast S4x8192x2x4x64 q h1 (ix5 b x h g d) = q (ix3 b x ⟨256 * h.val + 64 * g.val + d.val, by omega⟩) := by
  pointwise
  exact congrArg q (congrArg (ix3 b x) (Fin.ext (by show h.val * 256 + g.val * 64 + d.val = 256 * h.val + 64 * g.val + d.val; omega)))

/-- The scores. -/
theorem scores_apply (k : FVec Ideal S2x64x4x8192 .f32) (q : FVec Ideal S4x8192x2x4x64 .f32) (b : Fin 4) (h : Fin 2) (g : Fin 4) (x y : Fin 8192) (h1) :
    transpose S4x2x4x8192x8192 [0, 1, 4, 3, 2] (Host.dotGeneral (F := Ideal) (φ₁ := .f32) (φ₂ := .f32) dot_S2x64x4x8192_S4x8192x2x4x64_S4x2x8192x8192x4_1_4_3_13_20_02 none k q) h1 (ix5 b h g x y)
      = (∑ d : Fin 64, (k (ix4 h d b y) : EReal) * q (ix5 b x h g d) : EReal) := by
  pointwise

/-- The greatest of the scores of a query. -/
theorem rowmax_apply (s : FVec Ideal S4x2x4x8192x8192 .f32) (b : Fin 4) (h : Fin 2) (g : Fin 4) (x : Fin 8192) (h1 h2) :
    Host.reduce (FloatOps.maximumf (F := Ideal) (φ := .f32)) s (constant (F := Ideal) S_ .f32 0xFF800000#32) (axes := [4]) (t := S4x2x4x8192) h1 h2 (ix4 b h g x)
      = Finset.fold (max : EReal → EReal → EReal) (Ideal.ofBits FTy.f32 4286578688#32) (fun y : Fin 8192 => (s (ix5 b h g x y) : EReal)) Finset.univ := by
  pointwise

/-- The sum over the keys. -/
theorem rowsum_apply (s : FVec Ideal S4x2x4x8192x8192 .f32) (b : Fin 4) (h : Fin 2) (g : Fin 4) (x : Fin 8192) (h1 h2) :
    Host.reduceAdd (F := Ideal) s (constant (F := Ideal) S_ .f32 0x00000000#32) (axes := [4]) (t := S4x2x4x8192) h1 h2 (ix4 b h g x)
      = (∑ y : Fin 8192, (s (ix5 b h g x y) : EReal) : EReal) := by
  pointwise

/-- A number of each query copied along the keys. -/
theorem spread_apply (s : FVec Ideal S4x2x4x8192 .f32) (b : Fin 4) (h : Fin 2) (g : Fin 4) (x y : Fin 8192) (h1 h2) :
    broadcastInDim S4x2x4x8192x8192 ![0, 1, 2, 3, 4] h1 (broadcastInDim S4x2x4x8192x1 ![0, 1, 2, 3] h2 s) (ix5 b h g x y) = s (ix4 b h g x) := by
  pointwise

/-- The values of the heads' own lanes. -/
theorem values_apply (v : FVec Ideal S2x4x8192x128 .bf16) (h : Fin 2) (b : Fin 4) (y : Fin 8192) (d : Fin 64) (h1 h2 h3 h4 h5 h6 h7 h8) :
    extf (F := Ideal) .f32 (concatenate S2x4x8192x64 0 [⟨S1x4x8192x64, (broadcastInDim S1x4x8192x64 ![1, 2, 3] h1 (shapeCast S4x8192x64 (extractStridedSlice S1x4x8192x64 ![0, 0, 0, 0] v h2) h3))⟩, ⟨S1x4x8192x64, (broadcastInDim S1x4x8192x64 ![1, 2, 3] h4 (shapeCast S4x8192x64 (extractStridedSlice S1x4x8192x64 ![1, 0, 0, 64] v h5) h6))⟩] h7) h8 (ix4 h b y d)
      = v (ix4 h b y ⟨64 * h.val + d.val, by omega⟩) := by
  pointwise
  have hh : h = 0 ∨ h = 1 := by omega
  rcases hh with rfl | rfl
  · refine (dif_pos (by decide)).trans ?_
    exact congrArg v (congrArg (ix4 0 b y) (Fin.ext (by show d.val = 64 * 0 + d.val; omega)))
  · refine (dif_neg (by decide)).trans ?_
    exact congrArg v (congrArg (ix4 1 b y) (Fin.ext (by show 64 + d.val = 64 * 1 + d.val; omega)))

/-- The weighted values, heads and lanes put side by side. -/
theorem mix_apply (v : FVec Ideal S2x4x8192x64 .f32) (p : FVec Ideal S4x2x4x8192x8192 .f32) (b : Fin 4) (x : Fin 8192) (l : Fin 512) (h1 h2) :
    shapeCast S4x8192x512 (transpose S4x8192x2x4x64 [0, 4, 1, 3, 2] (Host.dotGeneral (F := Ideal) (φ₁ := .f32) (φ₂ := .f32) dot_S2x4x8192x64_S4x2x4x8192x8192_S4x2x64x4x8192_2_4_3_23_10_01 none v p) h1) h2 (ix3 b x l)
      = (∑ y : Fin 8192, (v (ix4 ⟨l.val / 256, by omega⟩ b y ⟨l.val % 64, by omega⟩) : EReal) * p (ix5 b ⟨l.val / 256, by omega⟩ ⟨l.val / 64 % 4, by omega⟩ x y) : EReal) := by
  pointwise

/-- The word of two. -/
theorem two_word : Ideal.ofBits .f32 0x40000000#32 = (2 : EReal) := by
  simp [Ideal.ofBits, Ideal.ieee]
  rw [← EReal.coe_mul]
  refine (congrArg Real.toEReal (by norm_num : ((8388608 : ℝ) * (2 ^ 22)⁻¹) = 2)).trans ?_
  norm_cast

/-- The word of minus infinity. -/
theorem bottom_word : Ideal.ofBits .f32 4286578688#32 = (⊥ : EReal) := by
  simp [Ideal.ofBits, Ideal.ieee]

/-- The powers of two of the scores less their greatest. -/
theorem power_apply (s : FVec Ideal S4x2x4x8192x8192 .f32) (b : Fin 4) (h : Fin 2) (g : Fin 4) (x y : Fin 8192) (h0 h1 h2 h3 h4) :
    Host.powf (F := Ideal) (broadcastInDim S4x2x4x8192x8192 ![] h0 (constant (F := Ideal) S_ .f32 0x40000000#32))
      (subf s (broadcastInDim S4x2x4x8192x8192 ![0, 1, 2, 3, 4] h1 (broadcastInDim S4x2x4x8192x1 ![0, 1, 2, 3] h2
        (Host.reduce (FloatOps.maximumf (F := Ideal) (φ := .f32)) s (constant (F := Ideal) S_ .f32 0xFF800000#32) (axes := [4]) (t := S4x2x4x8192) h3 h4)))) (ix5 b h g x y)
      = Ideal.pow 2 ((s (ix5 b h g x y) : EReal) - Finset.fold (max : EReal → EReal → EReal) ⊥ (fun y : Fin 8192 => (s (ix5 b h g x y) : EReal)) Finset.univ) := by
  refine congrArg₂ Ideal.pow two_word (congrArg (fun z : EReal => (s (ix5 b h g x y) : EReal) - z) ?_)
  refine (spread_apply _ b h g x y h1 h2).trans ((rowmax_apply s b h g x h3 h4).trans ?_)
  rw [bottom_word]

/-- The weights: each power over the sum of its row. -/
theorem weights_apply (p : FVec Ideal S4x2x4x8192x8192 .f32) (b : Fin 4) (h : Fin 2) (g : Fin 4) (x y : Fin 8192) (h1 h2 h3 h4) :
    Host.divf (F := Ideal) p (broadcastInDim S4x2x4x8192x8192 ![0, 1, 2, 3, 4] h1 (broadcastInDim S4x2x4x8192x1 ![0, 1, 2, 3] h2
        (Host.reduceAdd (F := Ideal) p (constant (F := Ideal) S_ .f32 0x00000000#32) (axes := [4]) (t := S4x2x4x8192) h3 h4))) (ix5 b h g x y)
      = Ideal.div (p (ix5 b h g x y)) (∑ y : Fin 8192, (p (ix5 b h g x y) : EReal)) :=
  congrArg (Ideal.div _) ((spread_apply _ b h g x y h1 h2).trans (rowsum_apply p b h g x h3 h4))

/-- The score of a query and a key at finite arguments, the lane's head and group read off its number. -/
theorem score_real (q : FVec Ideal S4x8192x512 .bf16) (kt : FVec Ideal S128x32768 .bf16)
    (hq : ∀ i, q i = ((q i : EReal).toReal : EReal)) (hk : ∀ i, kt i = ((kt i : EReal).toReal : EReal))
    (b : Fin 4) (x y : Fin 8192) (l : Fin 512) (h1 h2 h3 h4 h5) :
    transpose S4x2x4x8192x8192 [0, 1, 4, 3, 2] (Host.dotGeneral (F := Ideal) (φ₁ := .f32) (φ₂ := .f32) dot_S2x64x4x8192_S4x8192x2x4x64_S4x2x8192x8192x4_1_4_3_13_20_02 none
      (shapeCast S2x64x4x8192 (extf (F := Ideal) .f32 kt h1) h2) (shapeCast S4x8192x2x4x64 (extf (F := Ideal) .f32 q h3) h4)) h5 (ix5 b ⟨l.val / 256, by omega⟩ ⟨l.val / 64 % 4, by omega⟩ x y)
      = ((∑ d : Fin 64, (q (ix3 b x ⟨64 * (l.val / 64) + d.val, by omega⟩) : EReal).toReal
        * (kt (ix2 ⟨64 * (l.val / 256) + d.val, by omega⟩ ⟨8192 * b.val + y.val, by omega⟩) : EReal).toReal : ℝ) : EReal) := by
  refine (scores_apply _ _ b ⟨l.val / 256, by omega⟩ ⟨l.val / 64 % 4, by omega⟩ x y h5).trans ?_
  rw [← sum_coe]
  refine Finset.sum_congr rfl fun d _ => ?_
  refine (congrArg₂ (fun a b : EReal => a * b) (keys_apply _ ⟨l.val / 256, by omega⟩ d b y h2) (queries_apply _ b x ⟨l.val / 256, by omega⟩ ⟨l.val / 64 % 4, by omega⟩ d h4)).trans ?_
  rw [mul_comm, EReal.coe_mul]
  refine congrArg₂ (fun a b : EReal => a * b) ?_ (hk _)
  refine (congrArg q (congrArg (ix3 b x) (Fin.ext ?_))).trans (hq _)
  show 256 * (l.val / 256) + 64 * (l.val / 64 % 4) + d.val = 64 * (l.val / 64) + d.val
  omega

/-- The reference's result from its scores, given as reals. -/
theorem mean_apply (v : FVec Ideal S2x4x8192x128 .bf16) (sc : FVec Ideal S4x2x4x8192x8192 .f32)
    (hv : ∀ i, v i = ((v i : EReal).toReal : EReal)) (b : Fin 4) (x : Fin 8192) (l : Fin 512) (s : Fin 8192 → ℝ)
    (hs : ∀ y, sc (ix5 b ⟨l.val / 256, by omega⟩ ⟨l.val / 64 % 4, by omega⟩ x y) = ((s y : ℝ) : EReal)) (h1 h2 h3 h4 h5 h6 h7 h8 e1 e2 e3 e4 e5 e6 e7 e8 e9 e10 e11 e12) :
    truncf (F := Ideal) .bf16 (shapeCast S4x8192x512 (transpose S4x8192x2x4x64 [0, 4, 1, 3, 2] (Host.dotGeneral (F := Ideal) (φ₁ := .f32) (φ₂ := .f32) dot_S2x4x8192x64_S4x2x4x8192x8192_S4x2x64x4x8192_2_4_3_23_10_01 none
      (extf (F := Ideal) .f32 (concatenate S2x4x8192x64 0 [⟨S1x4x8192x64, (broadcastInDim S1x4x8192x64 ![1, 2, 3] h1 (shapeCast S4x8192x64 (extractStridedSlice S1x4x8192x64 ![0, 0, 0, 0] v h2) h3))⟩, ⟨S1x4x8192x64, (broadcastInDim S1x4x8192x64 ![1, 2, 3] h4 (shapeCast S4x8192x64 (extractStridedSlice S1x4x8192x64 ![1, 0, 0, 64] v h5) h6))⟩] h7) h8)
      (Host.divf (F := Ideal) (Host.powf (F := Ideal) (broadcastInDim S4x2x4x8192x8192 ![] e1 (constant (F := Ideal) S_ .f32 0x40000000#32))
        (subf sc (broadcastInDim S4x2x4x8192x8192 ![0, 1, 2, 3, 4] e2 (broadcastInDim S4x2x4x8192x1 ![0, 1, 2, 3] e3
          (Host.reduce (FloatOps.maximumf (F := Ideal) (φ := .f32)) sc (constant (F := Ideal) S_ .f32 0xFF800000#32) (axes := [4]) (t := S4x2x4x8192) e4 e5)))))
        (broadcastInDim S4x2x4x8192x8192 ![0, 1, 2, 3, 4] e6 (broadcastInDim S4x2x4x8192x1 ![0, 1, 2, 3] e7
          (Host.reduceAdd (F := Ideal) (Host.powf (F := Ideal) (broadcastInDim S4x2x4x8192x8192 ![] e1 (constant (F := Ideal) S_ .f32 0x40000000#32))
            (subf sc (broadcastInDim S4x2x4x8192x8192 ![0, 1, 2, 3, 4] e2 (broadcastInDim S4x2x4x8192x1 ![0, 1, 2, 3] e3
              (Host.reduce (FloatOps.maximumf (F := Ideal) (φ := .f32)) sc (constant (F := Ideal) S_ .f32 0xFF800000#32) (axes := [4]) (t := S4x2x4x8192) e4 e5)))))
            (constant (F := Ideal) S_ .f32 0x00000000#32) (axes := [4]) (t := S4x2x4x8192) e8 e9))))) e10) e11) e12 (ix3 b x l)
      = ((mean s (fun y => (v (ix4 ⟨l.val / 256, by omega⟩ b y ⟨64 * (l.val / 256) + l.val % 64, by omega⟩) : EReal).toReal) : ℝ) : EReal) := by
  have hP := fun y => (power_apply sc b ⟨l.val / 256, by omega⟩ ⟨l.val / 64 % 4, by omega⟩ x y e1 e2 e3 e4 e5)
  generalize Host.powf (F := Ideal) (φ := .f32) _ _ = P at hP ⊢
  refine (mix_apply _ _ b x l e10 e11).trans ?_
  refine Eq.trans (Finset.sum_congr rfl fun y _ => ?_) (softmax_mean s _)
  refine (congrArg₂ (fun a b : EReal => a * b) (values_apply v ⟨l.val / 256, by omega⟩ b y ⟨l.val % 64, by omega⟩ h1 h2 h3 h4 h5 h6 h7 h8)
    (weights_apply P b ⟨l.val / 256, by omega⟩ ⟨l.val / 64 % 4, by omega⟩ x y e6 e7 e8 e9)).trans ?_
  rw [mul_comm]
  refine congrArg₂ (fun a b : EReal => a * b) ?_ (hv _)
  simp only [hP, hs]

end Cert.Proof.AttRef

end
-- ==== Proof.AttPre.lean ====
/-
  What the precondition of the attention call says of its arguments: finite entries, and ones on the lanes of the other head.
-/
module

public import proofs.«01_k».proof.Proof.Gen.Pre_values_finite
public import Idealize.ShloMosaic.Lib.Pointwise

@[expose] public section

set_option maxRecDepth 16384

noncomputable section

namespace Cert.Proof.AttPre

open Cert.Pre_values_finite
open Idealize.ShloMosaic

/-- The word of plus infinity. -/
theorem infinity_word : Ideal.ofBits .bf16 0x7F80#16 = (⊤ : EReal) := by
  simp [Ideal.ofBits, Ideal.ieee]

/-- The word of one. -/
theorem one_word : Ideal.ofBits .bf16 0x3F80#16 = (1 : EReal) := by
  simp

/-- A number whose size lies below infinity is a real. -/
theorem real_of_small (x : EReal) (h : Ideal.cmp .olt (max x (-x)) (Ideal.ofBits .bf16 0x7F80#16) = 1#1) : x = (x.toReal : EReal) := by
  rw [infinity_word] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact (EReal.coe_toReal h1 h2).symm

/-- Two bits joined by "and" are one only when both are. -/
theorem both_bits (a b : BitVec 1) (h : IntOp.andi a b = 1#1) : a = 1#1 ∧ b = 1#1 := by
  revert a b; decide

/-- Two bits joined by "or" are one only when the second is, the first being zero. -/
theorem second_bit (a b : BitVec 1) (ha : a = 0#1) (h : IntOp.ori a b = 1#1) : b = 1#1 := by
  revert a b; decide

/-- Where a lane belongs to the other head, the test for a head's own lanes fails. -/
theorem other_lane : ∀ (h : Fin 2) (l : Fin 128), l.val / 64 ≠ h.val →
    IntOp.cmpi .eq (IntOp.cmpi .eq (BitVec.ofNat 32 h.val) 0#32) (IntOp.cmpi .slt (BitVec.ofNat 32 l.val) 64#32) = 0#1 := by
  decide +kernel

variable (q : FVec Ideal S4x8192x512 .bf16) (kt : FVec Ideal S128x32768 .bf16) (v : FVec Ideal S2x4x8192x128 .bf16) [Facts]

/-- The queries are reals. -/
theorem queries_real (h : (fn (F := Ideal) q kt v).1 = fun _ => 1#1) (i : S4x8192x512.Idx) : q i = ((q i : EReal).toReal : EReal) :=
  real_of_small _ (congrFun h i)

/-- The keys are reals. -/
theorem keys_real (h : (fn (F := Ideal) q kt v).2.1 = fun _ => 1#1) (i : S128x32768.Idx) : kt i = ((kt i : EReal).toReal : EReal) :=
  real_of_small _ (congrFun h i)

/-- The values are reals. -/
theorem values_real (h : (fn (F := Ideal) q kt v).2.2 = fun _ => 1#1) (i : S2x4x8192x128.Idx) : v i = ((v i : EReal).toReal : EReal) :=
  real_of_small _ (both_bits _ _ (congrFun h i)).1

/-- The values' lanes of the other head are one. -/
theorem others_one (h : (fn (F := Ideal) q kt v).2.2 = fun _ => 1#1) (g : Fin 2) (b : Fin 4) (y : Fin 8192) (l : Fin 128) (hl : l.val / 64 ≠ g.val) :
    v (ix4 g b y l) = (1 : EReal) := by
  have e : Ideal.cmp .oeq (v (ix4 g b y l)) (Ideal.ofBits .bf16 0x3F80#16) = 1#1 :=
    second_bit _ _ (other_lane g l hl) (both_bits _ _ (congrFun h (ix4 g b y l))).2
  rw [one_word] at e
  by_contra hn
  simp [Ideal.cmp, hn] at e

end Cert.Proof.AttPre

end
-- ==== Proof.Words.lean ====
/-
  The copy loop's carried words, trip by trip: before trip `n` the eight carried values are the issue counter, the wait
  counters and the two grid coordinates of block `n`. Every check, condition and offset the loop computes from them is
  evaluated here once for all sixty-four trips.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.Routed
public import Idealize.ShloMosaic.Lib.Ring
public import Idealize.ShloMosaic.Lib.Ring.Trips
public import Idealize.ShloMosaic.Lib.Ring.WriteBehind
public import Idealize.ShloMosaic.Lib.Affine
public import Idealize.ShloMosaic.Lib.Tactic

@[expose] public section

noncomputable section

namespace Cert.Proof.Prep

open Cert.KernelIdeal Cert.KernelIdeal.Gen
open Idealize.ShloMosaic
open Idealize.ShloMosaic.TcCoe Idealize.ShloMosaic.Tactic

/-! ## The carried words before trip `n` -/

/-- The next block to fetch, as the issue counter holds it. -/
def wA (n : ℕ) : BitVec 32 := BitVec.ofNat 32 (min (n + 2) 64)
/-- The trip's own number, as the wait counters hold it. -/
def wB (n : ℕ) : BitVec 32 := BitVec.ofNat 32 n
/-- The number of the trip before (zero at the first), as the write-back wait counters hold it. -/
def wP (n : ℕ) : BitVec 32 := BitVec.ofNat 32 (n - 1)
/-- Block `n`'s expert (zero again after the last). -/
def wE (n : ℕ) : BitVec 32 := BitVec.ofNat 32 (n / 2 % 32)
/-- Block `n`'s column half. -/
def wJ (n : ℕ) : BitVec 32 := BitVec.ofNat 32 (n % 2)
/-- The carried tuple before trip `n`. -/
def car (n : ℕ) : BitVec 32 × BitVec 32 × BitVec 32 × BitVec 32 × BitVec 32 × BitVec 32 × BitVec 32 × BitVec 32 :=
  (wA n, wB n, wB n, wP n, wB n, wP n, wE n, wJ n)

/-- The loop runs sixty-four trips. -/
theorem trips_eq : k0_t1_loop.trips = 64 := by decide +kernel
theorem lt64 (k : Fin k0_t1_loop.trips) : k.val < 64 := Nat.lt_of_lt_of_eq k.isLt trips_eq

/-! ## Offsets -/

abbrev semOff3 (s : Fin 3) : Fin 1 → Nat := ![s.val]
abbrev semOff2 (s : Fin 2) : Fin 1 → Nat := ![s.val]
abbrev slotOff3 (s : Fin 3) : Fin 3 → Nat := ![s.val, 0, 0]
abbrev slotOff2 (s : Fin 2) : Fin 3 → Nat := ![s.val, 0, 0]
/-- Block `b` of the weights: expert `b / 2`, columns `1024 * (b % 2)` on. -/
abbrev inOff (b : Fin 64) : Fin 3 → Nat := ![b.val / 2, 0, 1024 * (b.val % 2)]
/-- Block `b` of a result: expert `b / 2`, rows `512 * (b % 2)` on. -/
abbrev outOff (b : Fin 64) : Fin 3 → Nat := ![b.val / 2, 512 * (b.val % 2), 0]

section Tables
set_option maxRecDepth 100000

theorem t_off6 : ∀ k : Fin k0_t1_loop.trips, k.val < 62 → k0_off6 (wA k.val) = semOff3 (Ring.sl 3 (k.val + 2)) := by decide +kernel
theorem t_off7 : ∀ k : Fin k0_t1_loop.trips, k.val < 62 → k0_off7 (wA k.val) = slotOff3 (Ring.sl 3 (k.val + 2)) := by decide +kernel
theorem t_off8 : ∀ k : Fin k0_t1_loop.trips, k.val < 62 → k0_off8 (wE k.val) (wJ k.val) = inOff (Ring.bk 64 (k.val + 2)) := by decide +kernel
theorem t_off9 : ∀ k : Fin k0_t1_loop.trips, k0_off9 (wB k.val) = semOff3 (Ring.sl 3 k.val) := by decide +kernel
theorem t_off10 : ∀ k : Fin k0_t1_loop.trips, k0_off10 (wB k.val) = slotOff3 (Ring.sl 3 k.val) := by decide +kernel
theorem t_off11 : ∀ k : Fin k0_t1_loop.trips, k0_off11 (wE k.val) (wJ k.val) = inOff (Ring.bk 64 k.val) := by decide +kernel
theorem t_off12 : ∀ k : Fin k0_t1_loop.trips, k0_off12 (wB k.val) = slotOff3 (Ring.sl 3 k.val) := by decide +kernel
theorem t_off13 : ∀ k : Fin k0_t1_loop.trips, k0_off13 (wB k.val) = slotOff2 (Ring.sl 2 k.val) := by decide +kernel
theorem t_off14 : ∀ k : Fin k0_t1_loop.trips, k0_off14 (wB k.val) = slotOff2 (Ring.sl 2 k.val) := by decide +kernel
theorem t_off15 : ∀ k : Fin k0_t1_loop.trips, k0_off15 (wB k.val) = semOff2 (Ring.sl 2 k.val) := by decide +kernel
theorem t_off16 : ∀ k : Fin k0_t1_loop.trips, k0_off16 (wE k.val) (wJ k.val) = outOff (Ring.bk 64 k.val) := by decide +kernel
theorem t_off17 : ∀ k : Fin k0_t1_loop.trips, k0_off17 (wB k.val) = slotOff2 (Ring.sl 2 k.val) := by decide +kernel
theorem t_off18 : ∀ k : Fin k0_t1_loop.trips, k0_off18 (wB k.val) = semOff2 (Ring.sl 2 k.val) := by decide +kernel
theorem t_off19 : ∀ k : Fin k0_t1_loop.trips, k0_off19 (wE k.val) (wJ k.val) = outOff (Ring.bk 64 k.val) := by decide +kernel
theorem t_off20 : ∀ k : Fin k0_t1_loop.trips, k0_off20 (wB k.val) = slotOff2 (Ring.sl 2 k.val) := by decide +kernel
theorem t_off21 : ∀ k : Fin k0_t1_loop.trips, 1 ≤ k.val → k0_off21 (wP k.val) = semOff2 (Ring.sl 2 (k.val + 1)) := by decide +kernel
theorem t_off22 : ∀ k : Fin k0_t1_loop.trips, 1 ≤ k.val → k0_off22 (wE k.val) (wJ k.val) = outOff (Ring.bk 64 (k.val - 1)) := by decide +kernel
theorem t_off23 : ∀ k : Fin k0_t1_loop.trips, 1 ≤ k.val → k0_off23 (wP k.val) = slotOff2 (Ring.sl 2 (k.val + 1)) := by decide +kernel
theorem t_off24 : ∀ k : Fin k0_t1_loop.trips, 1 ≤ k.val → k0_off24 (wP k.val) = semOff2 (Ring.sl 2 (k.val + 1)) := by decide +kernel
theorem t_off25 : ∀ k : Fin k0_t1_loop.trips, 1 ≤ k.val → k0_off25 (wE k.val) (wJ k.val) = outOff (Ring.bk 64 (k.val - 1)) := by decide +kernel
theorem t_off26 : ∀ k : Fin k0_t1_loop.trips, 1 ≤ k.val → k0_off26 (wP k.val) = slotOff2 (Ring.sl 2 (k.val + 1)) := by decide +kernel
theorem t_off27 : k0_off27 (wP 64) = semOff2 1 := by decide +kernel
theorem t_off28 : k0_off28 (wJ 64) (wE 64) = outOff 63 := by decide +kernel
theorem t_off29 : k0_off29 (wP 64) = slotOff2 1 := by decide +kernel
theorem t_off30 : k0_off30 (wP 64) = semOff2 1 := by decide +kernel
theorem t_off31 : k0_off31 (wJ 64) (wE 64) = outOff 63 := by decide +kernel
theorem t_off32 : k0_off32 (wP 64) = slotOff2 1 := by decide +kernel

/-! ## Conditions -/

theorem t_cond1 : k0_cond1 = 1#1 := by decide +kernel
theorem t_cond2 : ∀ k : Fin k0_t1_loop.trips, k.val < 62 → k0_cond2 k (wE k.val) (wJ k.val) = 1#1 := by decide +kernel
theorem t_cond2' : ∀ k : Fin k0_t1_loop.trips, ¬ k.val < 62 → ¬ k0_cond2 k (wE k.val) (wJ k.val) = 1#1 := by decide +kernel
theorem t_cond3 : ∀ k : Fin k0_t1_loop.trips, k0_cond3 k (wE k.val) (wJ k.val) = 1#1 := by decide +kernel
theorem t_cond7 : ∀ k : Fin k0_t1_loop.trips, k0_cond7 k (wE k.val) (wJ k.val) = 1#1 := by decide +kernel
theorem t_cond8 : ∀ k : Fin k0_t1_loop.trips, k0_cond8 k (wE k.val) (wJ k.val) = 1#1 := by decide +kernel
theorem t_cond10 : ∀ k : Fin k0_t1_loop.trips, 1 ≤ k.val → k0_cond10 k (wE k.val) (wJ k.val) = 1#1 := by decide +kernel
theorem t_cond10' : ∀ k : Fin k0_t1_loop.trips, ¬ 1 ≤ k.val → ¬ k0_cond10 k (wE k.val) (wJ k.val) = 1#1 := by decide +kernel
theorem t_cond11 : ∀ k : Fin k0_t1_loop.trips, 1 ≤ k.val → k0_cond11 k (wE k.val) (wJ k.val) = 1#1 := by decide +kernel
theorem t_cond11' : ∀ k : Fin k0_t1_loop.trips, ¬ 1 ≤ k.val → ¬ k0_cond11 k (wE k.val) (wJ k.val) = 1#1 := by decide +kernel

/-! ## Checks -/

theorem t_chk2 : ∀ k : Fin k0_t1_loop.trips, k0_chk2 (wB k.val) := by decide +kernel
theorem t_chk3 : ∀ k : Fin k0_t1_loop.trips, k0_chk3 (wB k.val) := by decide +kernel
theorem t_chk4 : ∀ k : Fin k0_t1_loop.trips, k0_chk4 (wB k.val) := by decide +kernel
theorem t_chk1 : ∀ k : Fin k0_t1_loop.trips,
    k0_chk1 k (wA k.val) (wB k.val) (wB k.val) (wP k.val) (wB k.val) (wP k.val) (wE k.val) (wJ k.val) := by decide +kernel
theorem t_chk5 : k0_chk5 (wP 64) := by decide +kernel
theorem t_chk6 : k0_chk6 (wJ 64) (wE 64) := by decide +kernel
theorem t_chk7 : k0_chk7 (wP 64) := by decide +kernel

end Tables

end Cert.Proof.Prep

end
-- ==== Proof.Names.lean ====
/-
  The copy loop's pieces and values: its input ring of three slots fetched two blocks ahead, its two result rings of two slots
  written back one trip behind, and the invariant that carries the transfers in flight across the trips.
-/
module

public import proofs.«01_k».proof.Proof.Words
public import Idealize.ShloMosaic.Lib.ViewIndex

@[expose] public section

noncomputable section

namespace Cert.Proof.Prep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra: the pipeline library's beside the counters the kernel's own transfers ride on. -/
abbrev UU (nD : Nat) (τ : Topo) : Type := Pipeline.UC sig nD τ
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## Canonical names -/

abbrev wM : Memref sig .tc .hbm S32x1024x2048 .f32 := Memref.whole main_v0
abbrev gM : Memref sig .tc .hbm S32x1024x1024 .bf16 := Memref.whole main_v20_0
abbrev lM : Memref sig .tc .hbm S32x1024x1024 .bf16 := Memref.whole main_v20_1
abbrev bufI : Memref sig .tc .vmem S3x1024x1024 .f32 := Memref.whole cc0_scoped0
abbrev bufG : Memref sig .tc .vmem S2x512x1024 .bf16 := Memref.whole cc0_scoped2
abbrev bufL : Memref sig .tc .vmem S2x512x1024 .bf16 := Memref.whole cc0_scoped4

theorem semOff3_inb (s : Fin 3) : ∀ a, semOff3 s a + S1.size a ≤ S3.size a := by revert s; decide
theorem semOff2_inb (s : Fin 2) : ∀ a, semOff2 s a + S1.size a ≤ S2.size a := by revert s; decide
theorem slotOff3_inb (s : Fin 3) : ∀ a, slotOff3 s a + S1x1024x1024.size a ≤ S3x1024x1024.size a := by revert s; decide
theorem slotOff2_inb (s : Fin 2) : ∀ a, slotOff2 s a + S1x512x1024.size a ≤ S2x512x1024.size a := by revert s; decide
theorem inOff_inb (b : Fin 64) : ∀ a, inOff b a + S1x1024x1024.size a ≤ S32x1024x2048.size a := by revert b; decide +kernel
theorem outOff_inb (b : Fin 64) : ∀ a, outOff b a + S1x512x1024.size a ≤ S32x1024x1024.size a := by revert b; decide +kernel

/-- Slot `s`'s cell of the input ring. -/
def csmI (s : Fin 3) : DmaSems sig S_ := (cc0_scoped1.slice (Rect.unit (s := S3) (semOff3 s) S1.size (semOff3_inb s))).squeeze S_ squeezes_S1_S_
/-- Slot `s`'s cell of the even result's ring. -/
def csmG (s : Fin 2) : DmaSems sig S_ := (cc0_scoped3.slice (Rect.unit (s := S2) (semOff2 s) S1.size (semOff2_inb s))).squeeze S_ squeezes_S1_S_
/-- Slot `s`'s cell of the odd result's ring. -/
def csmL (s : Fin 2) : DmaSems sig S_ := (cc0_scoped5.slice (Rect.unit (s := S2) (semOff2 s) S1.size (semOff2_inb s))).squeeze S_ squeezes_S1_S_
/-- Slot `s` of the input ring. -/
def slotI (s : Fin 3) : Memref sig .tc .vmem S1024x1024 .f32 :=
  (bufI.slice (Rect.unit (s := S3x1024x1024) (slotOff3 s) S1x1024x1024.size (slotOff3_inb s)) (fun _ => rfl)).squeeze S1024x1024 squeezes_S1x1024x1024_S1024x1024
/-- Slot `s` of the even result's ring. -/
def slotG (s : Fin 2) : Memref sig .tc .vmem S512x1024 .bf16 :=
  (bufG.slice (Rect.unit (s := S2x512x1024) (slotOff2 s) S1x512x1024.size (slotOff2_inb s)) (fun _ => rfl)).squeeze S512x1024 squeezes_S1x512x1024_S512x1024
/-- Slot `s` of the odd result's ring. -/
def slotL (s : Fin 2) : Memref sig .tc .vmem S512x1024 .bf16 :=
  (bufL.slice (Rect.unit (s := S2x512x1024) (slotOff2 s) S1x512x1024.size (slotOff2_inb s)) (fun _ => rfl)).squeeze S512x1024 squeezes_S1x512x1024_S512x1024
/-- Block `b` of the weights. -/
def blkI (b : Fin 64) : Memref sig .tc .hbm S1024x1024 .f32 :=
  (wM.slice (Rect.unit (s := S32x1024x2048) (inOff b) S1x1024x1024.size (inOff_inb b)) (fun _ => rfl)).squeeze S1024x1024 squeezes_S1x1024x1024_S1024x1024
/-- Block `b` of the even result. -/
def blkG (b : Fin 64) : Memref sig .tc .hbm S512x1024 .bf16 :=
  (gM.slice (Rect.unit (s := S32x1024x1024) (outOff b) S1x512x1024.size (outOff_inb b)) (fun _ => rfl)).squeeze S512x1024 squeezes_S1x512x1024_S512x1024
/-- Block `b` of the odd result. -/
def blkL (b : Fin 64) : Memref sig .tc .hbm S512x1024 .bf16 :=
  (lM.slice (Rect.unit (s := S32x1024x1024) (outOff b) S1x512x1024.size (outOff_inb b)) (fun _ => rfl)).squeeze S512x1024 squeezes_S1x512x1024_S512x1024

instance (s : Fin 3) : ClosedOff (slotOff3 s) := ⟨slotOff3 s, rfl⟩
instance (s : Fin 2) : ClosedOff (slotOff2 s) := ⟨slotOff2 s, rfl⟩
instance (b : Fin 64) : ClosedOff (inOff b) := ⟨inOff b, rfl⟩
instance (b : Fin 64) : ClosedOff (outOff b) := ⟨outOff b, rfl⟩
instance (k : Fin k0_t1_loop.trips) : ClosedOff (k0_off12 (wB k.val)) := ⟨slotOff3 (Ring.sl 3 k.val), t_off12 k⟩
instance (k : Fin k0_t1_loop.trips) : ClosedOff (k0_off13 (wB k.val)) := ⟨slotOff2 (Ring.sl 2 k.val), t_off13 k⟩
instance (k : Fin k0_t1_loop.trips) : ClosedOff (k0_off14 (wB k.val)) := ⟨slotOff2 (Ring.sl 2 k.val), t_off14 k⟩

section Canon

theorem csmI_congr {off : Fin 1 → Nat} {s : Fin 3} (e : off = semOff3 s) (hh) :
    (cc0_scoped1.slice (Rect.unit (s := S3) off S1.size hh)).squeeze S_ squeezes_S1_S_ = csmI s :=
  congrArg (fun A : DmaSems sig S1 => A.squeeze S_ squeezes_S1_S_) (SemArray.slice_unit_congr _ e _ _)
theorem csmG_congr {off : Fin 1 → Nat} {s : Fin 2} (e : off = semOff2 s) (hh) :
    (cc0_scoped3.slice (Rect.unit (s := S2) off S1.size hh)).squeeze S_ squeezes_S1_S_ = csmG s :=
  congrArg (fun A : DmaSems sig S1 => A.squeeze S_ squeezes_S1_S_) (SemArray.slice_unit_congr _ e _ _)
theorem csmL_congr {off : Fin 1 → Nat} {s : Fin 2} (e : off = semOff2 s) (hh) :
    (cc0_scoped5.slice (Rect.unit (s := S2) off S1.size hh)).squeeze S_ squeezes_S1_S_ = csmL s :=
  congrArg (fun A : DmaSems sig S1 => A.squeeze S_ squeezes_S1_S_) (SemArray.slice_unit_congr _ e _ _)
theorem slotI_congr {off : Fin 3 → Nat} {s : Fin 3} (e : off = slotOff3 s) (hh hs) :
    (bufI.slice (Rect.unit (s := S3x1024x1024) off S1x1024x1024.size hh) hs).squeeze S1024x1024 squeezes_S1x1024x1024_S1024x1024 = slotI s :=
  congrArg (fun M : Memref sig .tc .vmem S1x1024x1024 .f32 => M.squeeze S1024x1024 squeezes_S1x1024x1024_S1024x1024) (Memref.slice_unit_congr _ e _ _ _ _)
theorem slotG_congr {off : Fin 3 → Nat} {s : Fin 2} (e : off = slotOff2 s) (hh hs) :
    (bufG.slice (Rect.unit (s := S2x512x1024) off S1x512x1024.size hh) hs).squeeze S512x1024 squeezes_S1x512x1024_S512x1024 = slotG s :=
  congrArg (fun M : Memref sig .tc .vmem S1x512x1024 .bf16 => M.squeeze S512x1024 squeezes_S1x512x1024_S512x1024) (Memref.slice_unit_congr _ e _ _ _ _)
theorem slotL_congr {off : Fin 3 → Nat} {s : Fin 2} (e : off = slotOff2 s) (hh hs) :
    (bufL.slice (Rect.unit (s := S2x512x1024) off S1x512x1024.size hh) hs).squeeze S512x1024 squeezes_S1x512x1024_S512x1024 = slotL s :=
  congrArg (fun M : Memref sig .tc .vmem S1x512x1024 .bf16 => M.squeeze S512x1024 squeezes_S1x512x1024_S512x1024) (Memref.slice_unit_congr _ e _ _ _ _)
theorem blkI_congr {off : Fin 3 → Nat} {b : Fin 64} (e : off = inOff b) (hh hs) :
    (wM.slice (Rect.unit (s := S32x1024x2048) off S1x1024x1024.size hh) hs).squeeze S1024x1024 squeezes_S1x1024x1024_S1024x1024 = blkI b :=
  congrArg (fun M : Memref sig .tc .hbm S1x1024x1024 .f32 => M.squeeze S1024x1024 squeezes_S1x1024x1024_S1024x1024) (Memref.slice_unit_congr _ e _ _ _ _)
theorem blkG_congr {off : Fin 3 → Nat} {b : Fin 64} (e : off = outOff b) (hh hs) :
    (gM.slice (Rect.unit (s := S32x1024x1024) off S1x512x1024.size hh) hs).squeeze S512x1024 squeezes_S1x512x1024_S512x1024 = blkG b :=
  congrArg (fun M : Memref sig .tc .hbm S1x512x1024 .bf16 => M.squeeze S512x1024 squeezes_S1x512x1024_S512x1024) (Memref.slice_unit_congr _ e _ _ _ _)
theorem blkL_congr {off : Fin 3 → Nat} {b : Fin 64} (e : off = outOff b) (hh hs) :
    (lM.slice (Rect.unit (s := S32x1024x1024) off S1x512x1024.size hh) hs).squeeze S512x1024 squeezes_S1x512x1024_S512x1024 = blkL b :=
  congrArg (fun M : Memref sig .tc .hbm S1x512x1024 .bf16 => M.squeeze S512x1024 squeezes_S1x512x1024_S512x1024) (Memref.slice_unit_congr _ e _ _ _ _)

variable (k : Fin k0_t1_loop.trips)
-- the fetch issued by trip `k`: block `k + 2`
@[sl_canon] theorem n6 (h : k.val < 62) (hh) : (cc0_scoped1.slice (Rect.unit (s := S3) (k0_off6 (wA k.val)) S1.size hh)).squeeze S_ squeezes_S1_S_ = csmI (Ring.sl 3 (k.val + 2)) := csmI_congr (t_off6 k h) _
@[sl_canon] theorem n7 (h : k.val < 62) (hh hs) : (bufI.slice (Rect.unit (s := S3x1024x1024) (k0_off7 (wA k.val)) S1x1024x1024.size hh) hs).squeeze S1024x1024 squeezes_S1x1024x1024_S1024x1024 = slotI (Ring.sl 3 (k.val + 2)) := slotI_congr (t_off7 k h) _ _
@[sl_canon] theorem n8 (h : k.val < 62) (hh hs) : (wM.slice (Rect.unit (s := S32x1024x2048) (k0_off8 (wE k.val) (wJ k.val)) S1x1024x1024.size hh) hs).squeeze S1024x1024 squeezes_S1x1024x1024_S1024x1024 = blkI (Ring.bk 64 (k.val + 2)) := blkI_congr (t_off8 k h) _ _
-- the fetch waited by trip `k`: block `k`
@[sl_canon] theorem n9 (hh) : (cc0_scoped1.slice (Rect.unit (s := S3) (k0_off9 (wB k.val)) S1.size hh)).squeeze S_ squeezes_S1_S_ = csmI (Ring.sl 3 k.val) := csmI_congr (t_off9 k) _
@[sl_canon] theorem n10 (hh hs) : (bufI.slice (Rect.unit (s := S3x1024x1024) (k0_off10 (wB k.val)) S1x1024x1024.size hh) hs).squeeze S1024x1024 squeezes_S1x1024x1024_S1024x1024 = slotI (Ring.sl 3 k.val) := slotI_congr (t_off10 k) _ _
@[sl_canon] theorem n11 (hh hs) : (wM.slice (Rect.unit (s := S32x1024x2048) (k0_off11 (wE k.val) (wJ k.val)) S1x1024x1024.size hh) hs).squeeze S1024x1024 squeezes_S1x1024x1024_S1024x1024 = blkI (Ring.bk 64 k.val) := blkI_congr (t_off11 k) _ _
-- the write-backs issued by trip `k`: block `k`
@[sl_canon] theorem n15 (hh) : (cc0_scoped3.slice (Rect.unit (s := S2) (k0_off15 (wB k.val)) S1.size hh)).squeeze S_ squeezes_S1_S_ = csmG (Ring.sl 2 k.val) := csmG_congr (t_off15 k) _
@[sl_canon] theorem n16 (hh hs) : (gM.slice (Rect.unit (s := S32x1024x1024) (k0_off16 (wE k.val) (wJ k.val)) S1x512x1024.size hh) hs).squeeze S512x1024 squeezes_S1x512x1024_S512x1024 = blkG (Ring.bk 64 k.val) := blkG_congr (t_off16 k) _ _
@[sl_canon] theorem n17 (hh hs) : (bufG.slice (Rect.unit (s := S2x512x1024) (k0_off17 (wB k.val)) S1x512x1024.size hh) hs).squeeze S512x1024 squeezes_S1x512x1024_S512x1024 = slotG (Ring.sl 2 k.val) := slotG_congr (t_off17 k) _ _
@[sl_canon] theorem n18 (hh) : (cc0_scoped5.slice (Rect.unit (s := S2) (k0_off18 (wB k.val)) S1.size hh)).squeeze S_ squeezes_S1_S_ = csmL (Ring.sl 2 k.val) := csmL_congr (t_off18 k) _
@[sl_canon] theorem n19 (hh hs) : (lM.slice (Rect.unit (s := S32x1024x1024) (k0_off19 (wE k.val) (wJ k.val)) S1x512x1024.size hh) hs).squeeze S512x1024 squeezes_S1x512x1024_S512x1024 = blkL (Ring.bk 64 k.val) := blkL_congr (t_off19 k) _ _
@[sl_canon] theorem n20 (hh hs) : (bufL.slice (Rect.unit (s := S2x512x1024) (k0_off20 (wB k.val)) S1x512x1024.size hh) hs).squeeze S512x1024 squeezes_S1x512x1024_S512x1024 = slotL (Ring.sl 2 k.val) := slotL_congr (t_off20 k) _ _
-- the write-backs waited by trip `k`: block `k - 1`
@[sl_canon] theorem n21 (h : 1 ≤ k.val) (hh) : (cc0_scoped3.slice (Rect.unit (s := S2) (k0_off21 (wP k.val)) S1.size hh)).squeeze S_ squeezes_S1_S_ = csmG (Ring.sl 2 (k.val + 1)) := csmG_congr (t_off21 k h) _
@[sl_canon] theorem n22 (h : 1 ≤ k.val) (hh hs) : (gM.slice (Rect.unit (s := S32x1024x1024) (k0_off22 (wE k.val) (wJ k.val)) S1x512x1024.size hh) hs).squeeze S512x1024 squeezes_S1x512x1024_S512x1024 = blkG (Ring.bk 64 (k.val - 1)) := blkG_congr (t_off22 k h) _ _
@[sl_canon] theorem n23 (h : 1 ≤ k.val) (hh hs) : (bufG.slice (Rect.unit (s := S2x512x1024) (k0_off23 (wP k.val)) S1x512x1024.size hh) hs).squeeze S512x1024 squeezes_S1x512x1024_S512x1024 = slotG (Ring.sl 2 (k.val + 1)) := slotG_congr (t_off23 k h) _ _
@[sl_canon] theorem n24 (h : 1 ≤ k.val) (hh) : (cc0_scoped5.slice (Rect.unit (s := S2) (k0_off24 (wP k.val)) S1.size hh)).squeeze S_ squeezes_S1_S_ = csmL (Ring.sl 2 (k.val + 1)) := csmL_congr (t_off24 k h) _
@[sl_canon] theorem n25 (h : 1 ≤ k.val) (hh hs) : (lM.slice (Rect.unit (s := S32x1024x1024) (k0_off25 (wE k.val) (wJ k.val)) S1x512x1024.size hh) hs).squeeze S512x1024 squeezes_S1x512x1024_S512x1024 = blkL (Ring.bk 64 (k.val - 1)) := blkL_congr (t_off25 k h) _ _
@[sl_canon] theorem n26 (h : 1 ≤ k.val) (hh hs) : (bufL.slice (Rect.unit (s := S2x512x1024) (k0_off26 (wP k.val)) S1x512x1024.size hh) hs).squeeze S512x1024 squeezes_S1x512x1024_S512x1024 = slotL (Ring.sl 2 (k.val + 1)) := slotL_congr (t_off26 k h) _ _
-- the epilogue's waits: block 63, slot 1
@[sl_canon] theorem n27 (hh) : (cc0_scoped3.slice (Rect.unit (s := S2) (k0_off27 (wP 64)) S1.size hh)).squeeze S_ squeezes_S1_S_ = csmG 1 := csmG_congr t_off27 _
@[sl_canon] theorem n28 (hh hs) : (gM.slice (Rect.unit (s := S32x1024x1024) (k0_off28 (wJ 64) (wE 64)) S1x512x1024.size hh) hs).squeeze S512x1024 squeezes_S1x512x1024_S512x1024 = blkG 63 := blkG_congr t_off28 _ _
@[sl_canon] theorem n29 (hh hs) : (bufG.slice (Rect.unit (s := S2x512x1024) (k0_off29 (wP 64)) S1x512x1024.size hh) hs).squeeze S512x1024 squeezes_S1x512x1024_S512x1024 = slotG 1 := slotG_congr t_off29 _ _
@[sl_canon] theorem n30 (hh) : (cc0_scoped5.slice (Rect.unit (s := S2) (k0_off30 (wP 64)) S1.size hh)).squeeze S_ squeezes_S1_S_ = csmL 1 := csmL_congr t_off30 _
@[sl_canon] theorem n31 (hh hs) : (lM.slice (Rect.unit (s := S32x1024x1024) (k0_off31 (wJ 64) (wE 64)) S1x512x1024.size hh) hs).squeeze S512x1024 squeezes_S1x512x1024_S512x1024 = blkL 63 := blkL_congr t_off31 _ _
@[sl_canon] theorem n32 (hh hs) : (bufL.slice (Rect.unit (s := S2x512x1024) (k0_off32 (wP 64)) S1x512x1024.size hh) hs).squeeze S512x1024 squeezes_S1x512x1024_S512x1024 = slotL 1 := slotL_congr t_off32 _ _
-- the prologue's issues: blocks 0 and 1 into slots 0 and 1
@[sl_canon] theorem n1 (hh) : (cc0_scoped1.slice (Rect.unit (s := S3) k0_off1 S1.size hh)).squeeze S_ squeezes_S1_S_ = csmI 0 := csmI_congr (by decide +kernel) _
@[sl_canon] theorem n2 (hh hs) : (bufI.slice (Rect.unit (s := S3x1024x1024) k0_off2 S1x1024x1024.size hh) hs).squeeze S1024x1024 squeezes_S1x1024x1024_S1024x1024 = slotI 0 := slotI_congr (by decide +kernel) _ _
@[sl_canon] theorem n0 (hh hs) : (wM.slice (Rect.unit (s := S32x1024x2048) ![0, 0, 0] S1x1024x1024.size hh) hs).squeeze S1024x1024 squeezes_S1x1024x1024_S1024x1024 = blkI 0 := blkI_congr (by decide +kernel) _ _
@[sl_canon] theorem n3 (hh) : (cc0_scoped1.slice (Rect.unit (s := S3) k0_off3 S1.size hh)).squeeze S_ squeezes_S1_S_ = csmI 1 := csmI_congr (by decide +kernel) _
@[sl_canon] theorem n4 (hh hs) : (bufI.slice (Rect.unit (s := S3x1024x1024) k0_off4 S1x1024x1024.size hh) hs).squeeze S1024x1024 squeezes_S1x1024x1024_S1024x1024 = slotI 1 := slotI_congr (by decide +kernel) _ _
@[sl_canon] theorem n5 (hh hs) : (wM.slice (Rect.unit (s := S32x1024x2048) k0_off5 S1x1024x1024.size hh) hs).squeeze S1024x1024 squeezes_S1x1024x1024_S1024x1024 = blkI 1 := blkI_congr (by decide +kernel) _ _

end Canon

/-! ## The pieces -/

section Pieces
variable (c : Dev nD) (X : Buf (Elt F) (wM.view.loc (c : Thread nD τ)))

abbrev cellI (s : Fin 3) : sProp 𝕄 := semVal ((c : Thread nD τ), SemLoc.dma (csmI s).sem) 0
abbrev cellG (s : Fin 2) : sProp 𝕄 := semVal ((c : Thread nD τ), SemLoc.dma (csmG s).sem) 0
abbrev cellL (s : Fin 2) : sProp 𝕄 := semVal ((c : Thread nD τ), SemLoc.dma (csmL s).sem) 0
abbrev atI (s : Fin 3) (f : Buf (Elt F) ((slotI s).view.loc (c : Thread nD τ))) : sProp 𝕄 := (slotI s).view.loc (c : Thread nD τ) ↦[(slotI s).view.set]{fullShare} f
abbrev atG (s : Fin 2) (f : Buf (Elt F) ((slotG s).view.loc (c : Thread nD τ))) : sProp 𝕄 := (slotG s).view.loc (c : Thread nD τ) ↦[(slotG s).view.set]{fullShare} f
abbrev atL (s : Fin 2) (f : Buf (Elt F) ((slotL s).view.loc (c : Thread nD τ))) : sProp 𝕄 := (slotL s).view.loc (c : Thread nD τ) ↦[(slotL s).view.set]{fullShare} f
/-- Block `b` of the weights at home, the weights at `X`. -/
abbrev homeI (b : Fin 64) : sProp 𝕄 := (blkI b).view.loc (c : Thread nD τ) ↦[(blkI b).view.set]{fullShare} X
/-- Block `b` of the even result at contents `Y`. -/
abbrev homeG (Y : Buf (Elt F) (gM.view.loc (c : Thread nD τ))) (b : Fin 64) : sProp 𝕄 := (blkG b).view.loc (c : Thread nD τ) ↦[(blkG b).view.set]{fullShare} Y
/-- Block `b` of the odd result at contents `Y`. -/
abbrev homeL (Y : Buf (Elt F) (lM.view.loc (c : Thread nD τ))) (b : Fin 64) : sProp 𝕄 := (blkL b).view.loc (c : Thread nD τ) ↦[(blkL b).view.set]{fullShare} Y

/-- Slot `s` in flight with block `b` of the weights. -/
def flyI (s : Fin 3) (b : Fin 64) : sProp 𝕄 :=
  iprop(∃ f, ⌜(slotI s).view.read (Elt F) f = (blkI b).view.read (Elt F) X⌝
    ∗ Transfers.Flight countersEmb (c : Thread nD τ) (SemLoc.dma (csmI s).sem) () 131072 iprop(atI c s f ∗ homeI c X b))
/-- Slot `s` free. -/
def freeI (s : Fin 3) : sProp 𝕄 := iprop((∃ f, atI (F := F) c s f) ∗ cellI c s)
/-- Slot `s` of the even ring on its way to block `b`, which it leaves at `Y`. -/
def flyG (Y : Buf (Elt F) (gM.view.loc (c : Thread nD τ))) (s : Fin 2) (b : Fin 64) : sProp 𝕄 :=
  iprop(∃ f g, ⌜(blkG b).view.read (Elt F) f = (blkG b).view.read (Elt F) Y⌝
    ∗ Transfers.Flight countersEmb (c : Thread nD τ) (SemLoc.dma (csmG s).sem) () 32768 iprop(homeG c f b ∗ atG c s g))
def freeG (s : Fin 2) : sProp 𝕄 := iprop((∃ f, atG (F := F) c s f) ∗ cellG c s)
/-- Slot `s` of the odd ring on its way to block `b`, which it leaves at `Y`. -/
def flyL (Y : Buf (Elt F) (lM.view.loc (c : Thread nD τ))) (s : Fin 2) (b : Fin 64) : sProp 𝕄 :=
  iprop(∃ f g, ⌜(blkL b).view.read (Elt F) f = (blkL b).view.read (Elt F) Y⌝
    ∗ Transfers.Flight countersEmb (c : Thread nD τ) (SemLoc.dma (csmL s).sem) () 32768 iprop(homeL c f b ∗ atL c s g))
def freeL (s : Fin 2) : sProp 𝕄 := iprop((∃ f, atL (F := F) c s f) ∗ cellL c s)

end Pieces

/-! ## What a trip computes -/

section Values
variable (c : Dev nD) (X : Buf (Elt F) (wM.view.loc (c : Thread nD τ)))

omit [FloatOps F] in
/-- Contents that a view reads alike are the same contents held on the view's elements. -/
theorem held_of_read {sp : Space} {s : Shape} {e : EltTy} (M : Memref sig .tc sp s e) {f g : Buf (Elt F) (M.view.loc (c : Thread nD τ))}
    (h : M.view.read (Elt F) f = M.view.read (Elt F) g) :
    (M.view.loc (c : Thread nD τ) ↦[M.view.set]{fullShare} f : sProp 𝕄) ⊢ M.view.loc (c : Thread nD τ) ↦[M.view.set]{fullShare} g :=
  entails_of_eq (pointsTo_congr fun i hi => by
    obtain ⟨x, -, rfl⟩ := Finset.mem_map.mp hi
    exact View.eq_of_read_eq (congrFun h x))

/-- Block `b` of the weights, as a load of the slot that holds it reads it. -/
def wblk (b : Fin 64) : Vec F S1x1024x1024 .f32 :=
  (wM.access (Rect.unit (s := S32x1024x2048) (inOff b) S1x1024x1024.size (inOff_inb b))).read (Elt F) X

omit [FloatOps F] in
/-- A load of the slot the fetch of block `b` landed in reads the block. -/
theorem load_slotI {off : Fin 3 → Nat} {s : Fin 3} {b : Fin 64} (e : off = slotOff3 s) (hh) (f : Buf (Elt F) ((slotI s).view.loc (c : Thread nD τ)))
    (h : (slotI s).view.read (Elt F) f = (blkI b).view.read (Elt F) X) :
    bufI.view.readAt (Elt F) (Rect.unit (s := S3x1024x1024) off S1x1024x1024.size hh).toLoadRect f = wblk c X b := by
  subst e
  funext j
  obtain ⟨y, rfl⟩ := (Shape.reshapeEquiv (Shape.Squeezes.numel_eq squeezes_S1x1024x1024_S1024x1024)).surjective j
  exact congrFun h y

omit [FloatOps F] in
/-- A block stored whole in a slot is what the slot then reads. -/
theorem store_slotG {off : Fin 3 → Nat} {s : Fin 2} (e : off = slotOff2 s) (hh) (f : Buf (Elt F) ((slotG s).view.loc (c : Thread nD τ)))
    (w : Vec F S1x512x1024 .bf16) :
    (slotG s).view.read (Elt F) (View.write (Elt F) (bufG.access (Rect.unit (s := S2x512x1024) off S1x512x1024.size hh)) f w Finset.univ)
      = fun y => w (Shape.reshapeEquiv (Shape.Squeezes.numel_eq squeezes_S1x512x1024_S512x1024) y) := by
  subst e
  funext y
  exact congrFun (View.read_write_univ (v := bufG.access (Rect.unit (s := S2x512x1024) (slotOff2 s) S1x512x1024.size hh)) f w) _
omit [FloatOps F] in
theorem store_slotL {off : Fin 3 → Nat} {s : Fin 2} (e : off = slotOff2 s) (hh) (f : Buf (Elt F) ((slotL s).view.loc (c : Thread nD τ)))
    (w : Vec F S1x512x1024 .bf16) :
    (slotL s).view.read (Elt F) (View.write (Elt F) (bufL.access (Rect.unit (s := S2x512x1024) off S1x512x1024.size hh)) f w Finset.univ)
      = fun y => w (Shape.reshapeEquiv (Shape.Squeezes.numel_eq squeezes_S1x512x1024_S512x1024) y) := by
  subst e
  funext y
  exact congrFun (View.read_write_univ (v := bufL.access (Rect.unit (s := S2x512x1024) (slotOff2 s) S1x512x1024.size hh)) f w) _

/-- The selection matrix as the body loads it. -/
abbrev selV (arg1 : Memref sig .tc .vmem S1024x1024 .bf16) (g1 : Buf (Elt F) (arg1.view.loc (c : Thread nD τ))) : Vec F S1024x1024 .bf16 :=
  arg1.view.readAt (Elt F) (Rect.unit (s := S1024x1024) ![0, 0] S1024x1024.size inb_S1024x1024_S1024x1024_0_0).toLoadRect g1

/-- The even result is, block by block, what the trips store. -/
def IsG (G : Buf (Elt F) (gM.view.loc (c : Thread nD τ))) (sel : Vec F S1024x1024 .bf16) : Prop :=
  ∀ b : Fin 64, (blkG b).view.read (Elt F) G
    = fun y => k0_pay3 (k0_pay2 sel (wblk c X b)) (Shape.reshapeEquiv (Shape.Squeezes.numel_eq squeezes_S1x512x1024_S512x1024) y)
/-- The odd result is, block by block, what the trips store. -/
def IsL (L : Buf (Elt F) (lM.view.loc (c : Thread nD τ))) (sel : Vec F S1024x1024 .bf16) : Prop :=
  ∀ b : Fin 64, (blkL b).view.read (Elt F) L
    = fun y => k0_pay4 (k0_pay1 sel (wblk c X b)) (Shape.reshapeEquiv (Shape.Squeezes.numel_eq squeezes_S1x512x1024_S512x1024) y)

variable {c X}
/-- What lands in block `b` of the even result. -/
theorem landG {arg1 : Memref sig .tc .vmem S1024x1024 .bf16} {g1 : Buf (Elt F) (arg1.view.loc (c : Thread nD τ))}
    {G : Buf (Elt F) (gM.view.loc (c : Thread nD τ))} (hG : IsG c X G (selV c arg1 g1)) (G₀ : Buf (Elt F) (gM.view.loc (c : Thread nD τ)))
    {b : Fin 64} {s3 : Fin 3} {s2 : Fin 2} {offI offG : Fin 3 → Nat} (eI : offI = slotOff3 s3) (eG : offG = slotOff2 s2) (hI hh)
    {fI : Buf (Elt F) ((slotI s3).view.loc (c : Thread nD τ))} (hfI : (slotI s3).view.read (Elt F) fI = (blkI b).view.read (Elt F) X)
    (fg : Buf (Elt F) ((slotG s2).view.loc (c : Thread nD τ))) :
    (blkG b).view.read (Elt F) ((blkG b).view.writes (Elt F) G₀ [⟨Rect.whole S512x1024, (slotG s2).view.read (Elt F)
        (View.write (Elt F) (bufG.access (Rect.unit (s := S2x512x1024) offG S1x512x1024.size hh)) fg
          (k0_pay3 (k0_pay2 (selV c arg1 g1) (bufI.view.readAt (Elt F) (Rect.unit (s := S3x1024x1024) offI S1x1024x1024.size hI).toLoadRect fI))) Finset.univ)⟩])
      = (blkG b).view.read (Elt F) G :=
  (View.read_writes_whole _ _ _).trans (by rw [store_slotG c eG, load_slotI c X eI hI fI hfI]; exact (hG b).symm)
/-- What lands in block `b` of the odd result. -/
theorem landL {arg1 : Memref sig .tc .vmem S1024x1024 .bf16} {g1 : Buf (Elt F) (arg1.view.loc (c : Thread nD τ))}
    {L : Buf (Elt F) (lM.view.loc (c : Thread nD τ))} (hL : IsL c X L (selV c arg1 g1)) (L₀ : Buf (Elt F) (lM.view.loc (c : Thread nD τ)))
    {b : Fin 64} {s3 : Fin 3} {s2 : Fin 2} {offI offL : Fin 3 → Nat} (eI : offI = slotOff3 s3) (eL : offL = slotOff2 s2) (hI hh)
    {fI : Buf (Elt F) ((slotI s3).view.loc (c : Thread nD τ))} (hfI : (slotI s3).view.read (Elt F) fI = (blkI b).view.read (Elt F) X)
    (fl : Buf (Elt F) ((slotL s2).view.loc (c : Thread nD τ))) :
    (blkL b).view.read (Elt F) ((blkL b).view.writes (Elt F) L₀ [⟨Rect.whole S512x1024, (slotL s2).view.read (Elt F)
        (View.write (Elt F) (bufL.access (Rect.unit (s := S2x512x1024) offL S1x512x1024.size hh)) fl
          (k0_pay4 (k0_pay1 (selV c arg1 g1) (bufI.view.readAt (Elt F) (Rect.unit (s := S3x1024x1024) offI S1x1024x1024.size hI).toLoadRect fI))) Finset.univ)⟩])
      = (blkL b).view.read (Elt F) L :=
  (View.read_writes_whole _ _ _).trans (by rw [store_slotL c eL, load_slotI c X eI hI fI hfI]; exact (hL b).symm)

end Values

end Cert.Proof.Prep

end
-- ==== Proof.Trip.lean ====
/-
  A middle trip of the copy loop, and the first.
-/
module

public import proofs.«01_k».proof.Proof.Names

@[expose] public section

noncomputable section

namespace Cert.Proof.Prep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The trips -/

section Trip
variable (c : Dev nD) (X : Buf (Elt F) (wM.view.loc (c : Thread nD τ)))
  (arg1 : Memref sig .tc .vmem S1024x1024 .bf16) (harg1 : arg1.IsWhole)
  (G₀ G : Buf (Elt F) (gM.view.loc (c : Thread nD τ))) (L₀ L : Buf (Elt F) (lM.view.loc (c : Thread nD τ)))
  (g1 : Buf (Elt F) (arg1.view.loc (c : Thread nD τ)))

abbrev tripG (k : Fin k0_t1_loop.trips) :=
  k0_t1_body (F := F) wM (Memref.isWhole_whole _) arg1 harg1 gM (Memref.isWhole_whole _) lM (Memref.isWhole_whole _)
    bufI (Memref.isWhole_whole _) cc0_scoped1 bufG (Memref.isWhole_whole _) cc0_scoped3 bufL (Memref.isWhole_whole _) cc0_scoped5 2#32 0#32 0#32 0#32 0#32 0#32 0#32 0#32 0#32 k

abbrev selP : sProp 𝕄 := arg1.view.loc (c : Thread nD τ) ↦[arg1.view.set]{fullShare} g1
abbrev owesP : sProp 𝕄 := iprop(∃ W, owes (c : Thread nD τ) 0 W)

set_option backward.proofsInPublic true in
/-- A trip in the middle: it fetches block `k + 2`, computes block `k` and collects block `k - 1`. -/
theorem trip_mid (k : Fin k0_t1_loop.trips) (h1 : 1 ≤ k.val) (h62 : k.val < 62) (hG : IsG c X G (selV c arg1 g1)) (hL : IsL c X L (selV c arg1 g1)) :
    iprop(selP c arg1 g1 ∗ owesP (F := F) c ∗ homeI c X (Ring.bk 64 (k.val + 2)) ∗ flyI c X (Ring.sl 3 k.val) (Ring.bk 64 k.val) ∗ freeI (F := F) c (Ring.sl 3 (k.val + 2)) ∗ homeG c G₀ (Ring.bk 64 k.val) ∗ freeG (F := F) c (Ring.sl 2 k.val) ∗ flyG c G (Ring.sl 2 (k.val + 1)) (Ring.bk 64 (k.val - 1)) ∗ homeL c L₀ (Ring.bk 64 k.val) ∗ freeL (F := F) c (Ring.sl 2 k.val) ∗ flyL c L (Ring.sl 2 (k.val + 1)) (Ring.bk 64 (k.val - 1)))
    ⊢ wp frame (wpE (defs₀ (F := F)) 𝒱₀ (c : Thread nD τ) none) Set.univ (tripG arg1 harg1 k (car k.val))
      (fun acc => iprop(⌜acc = car (k.val + 1)⌝ ∗ selP c arg1 g1 ∗ owesP (F := F) c ∗ homeI c X (Ring.bk 64 k.val) ∗ freeI (F := F) c (Ring.sl 3 k.val) ∗ flyI c X (Ring.sl 3 (k.val + 2)) (Ring.bk 64 (k.val + 2)) ∗ homeG c G (Ring.bk 64 (k.val - 1)) ∗ freeG (F := F) c (Ring.sl 2 (k.val + 1)) ∗ flyG c G (Ring.sl 2 k.val) (Ring.bk 64 k.val) ∗ homeL c L (Ring.bk 64 (k.val - 1)) ∗ freeL (F := F) c (Ring.sl 2 (k.val + 1)) ∗ flyL c L (Ring.sl 2 k.val) (Ring.bk 64 k.val))) := by
  have hc2 := t_cond2 k h62
  have hc3 := t_cond3 k
  have hc7 := t_cond7 k
  have hc8 := t_cond8 k
  have hc10 := t_cond10 k h1
  have hc11 := t_cond11 k h1
  have k1 := t_chk1 k
  have k2 := t_chk2 k
  have k3 := t_chk3 k
  have k4 := t_chk4 k
  unfold flyI freeG flyG freeL flyL freeI
  iintro ⟨HS, ⟨%W, HW⟩, Hi2, ⟨%fI, %hfI, HfI⟩, ⟨⟨%f2, Hs2⟩, Hc2⟩, Hg, ⟨⟨%fg, Hsg⟩, Hcg⟩, ⟨%fG, %gG, %hfG, HfG⟩, Hl, ⟨⟨%fl, Hsl⟩, Hcl⟩, ⟨%fL, %gL, %hfL, HfL⟩⟩
  dsimp only [tripG, car]
  sl_unfold [k0_t1_body]
  sl_exec
  sl_step
  isplitr; · ipureintro; clear * -; simp only [Prod.mk.injEq]; refine ⟨?_, ?_, ?_, ?_, ?_, ?_, ?_, ?_⟩ <;> (revert k; decide +kernel)
  isplitl [HS]; · iexact HS
  isplitl [HW]; · iexists _; iexact HW
  isplitl [HfI_src]; · iexact HfI_src
  isplitl [HfI_dst HfI]
  · isplitl [HfI_dst]; · iexists _; iexact HfI_dst
    iexact HfI
  isplitl [Hc2]
  · iexists _; isplitr [Hc2]; rotate_left 1
    · iexact Hc2
    ipureintro; exact View.read_writes_whole _ _ _
  isplitl [HfG_dst]; · iapply (held_of_read c (blkG (Ring.bk 64 (k.val - 1))) hfG); iexact HfG_dst
  isplitl [HfG_src HfG]
  · isplitl [HfG_src]; · iexists _; iexact HfG_src
    iexact HfG
  isplitl [Hcg]
  · iexists _, _; isplitr [Hcg]
    rotate_left 1
    · iexact Hcg
    ipureintro; exact landG hG G₀ (t_off12 k) (t_off13 k) _ _ hfI fg
  isplitl [HfL_dst]; · iapply (held_of_read c (blkL (Ring.bk 64 (k.val - 1))) hfL); iexact HfL_dst
  isplitl [HfL_src HfL]
  · isplitl [HfL_src]; · iexists _; iexact HfL_src
    iexact HfL
  iexists _, _; isplitr [Hcl]
  rotate_left 1
  · iexact Hcl
  ipureintro; exact landL hL L₀ (t_off12 k) (t_off14 k) _ _ hfI fl

set_option backward.proofsInPublic true in
/-- The first trip: nothing to collect yet. -/
theorem trip_first (k : Fin k0_t1_loop.trips) (h1 : ¬ 1 ≤ k.val) (h62 : k.val < 62) (hG : IsG c X G (selV c arg1 g1)) (hL : IsL c X L (selV c arg1 g1)) :
    iprop(selP c arg1 g1 ∗ owesP (F := F) c ∗ homeI c X (Ring.bk 64 (k.val + 2)) ∗ flyI c X (Ring.sl 3 k.val) (Ring.bk 64 k.val) ∗ freeI (F := F) c (Ring.sl 3 (k.val + 2)) ∗ homeG c G₀ (Ring.bk 64 k.val) ∗ freeG (F := F) c (Ring.sl 2 k.val) ∗ homeL c L₀ (Ring.bk 64 k.val) ∗ freeL (F := F) c (Ring.sl 2 k.val))
    ⊢ wp frame (wpE (defs₀ (F := F)) 𝒱₀ (c : Thread nD τ) none) Set.univ (tripG arg1 harg1 k (car k.val))
      (fun acc => iprop(⌜acc = car (k.val + 1)⌝ ∗ selP c arg1 g1 ∗ owesP (F := F) c ∗ homeI c X (Ring.bk 64 k.val) ∗ freeI (F := F) c (Ring.sl 3 k.val) ∗ flyI c X (Ring.sl 3 (k.val + 2)) (Ring.bk 64 (k.val + 2)) ∗ flyG c G (Ring.sl 2 k.val) (Ring.bk 64 k.val) ∗ flyL c L (Ring.sl 2 k.val) (Ring.bk 64 k.val))) := by
  have hc2 := t_cond2 k h62
  have hc3 := t_cond3 k
  have hc7 := t_cond7 k
  have hc8 := t_cond8 k
  have hc10 := t_cond10' k h1
  have hc11 := t_cond11' k h1
  have k1 := t_chk1 k
  have k2 := t_chk2 k
  have k3 := t_chk3 k
  have k4 := t_chk4 k
  unfold flyI freeG flyG freeL flyL freeI
  iintro ⟨HS, ⟨%W, HW⟩, Hi2, ⟨%fI, %hfI, HfI⟩, ⟨⟨%f2, Hs2⟩, Hc2⟩, Hg, ⟨⟨%fg, Hsg⟩, Hcg⟩, Hl, ⟨⟨%fl, Hsl⟩, Hcl⟩⟩
  dsimp only [tripG, car]
  sl_unfold [k0_t1_body]
  sl_exec
  sl_step
  isplitr; · ipureintro; clear * -; simp only [Prod.mk.injEq]; refine ⟨?_, ?_, ?_, ?_, ?_, ?_, ?_, ?_⟩ <;> (revert k; decide +kernel)
  isplitl [HS]; · iexact HS
  isplitl [HW]; · iexists _; iexact HW
  isplitl [HfI_src]; · iexact HfI_src
  isplitl [HfI_dst HfI]
  · isplitl [HfI_dst]; · iexists _; iexact HfI_dst
    iexact HfI
  isplitl [Hc2]
  · iexists _; isplitr [Hc2]; rotate_left 1
    · iexact Hc2
    ipureintro; exact View.read_writes_whole _ _ _
  isplitl [Hcg]
  · iexists _, _; isplitr [Hcg]
    rotate_left 1
    · iexact Hcg
    ipureintro; exact landG hG G₀ (t_off12 k) (t_off13 k) _ _ hfI fg
  iexists _, _; isplitr [Hcl]
  rotate_left 1
  · iexact Hcl
  ipureintro; exact landL hL L₀ (t_off12 k) (t_off14 k) _ _ hfI fl

end Trip

end Cert.Proof.Prep

end
-- ==== Proof.TripLast.lean ====
/-
  The last two trips of the copy loop.
-/
module

public import proofs.«01_k».proof.Proof.Trip

@[expose] public section

noncomputable section

namespace Cert.Proof.Prep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The trips -/

section Trip
variable (c : Dev nD) (X : Buf (Elt F) (wM.view.loc (c : Thread nD τ)))
  (arg1 : Memref sig .tc .vmem S1024x1024 .bf16) (harg1 : arg1.IsWhole)
  (G₀ G : Buf (Elt F) (gM.view.loc (c : Thread nD τ))) (L₀ L : Buf (Elt F) (lM.view.loc (c : Thread nD τ)))
  (g1 : Buf (Elt F) (arg1.view.loc (c : Thread nD τ)))

set_option backward.proofsInPublic true in
/-- One of the last two trips: nothing left to fetch. -/
theorem trip_last (k : Fin k0_t1_loop.trips) (h1 : 1 ≤ k.val) (h62 : ¬ k.val < 62) (hG : IsG c X G (selV c arg1 g1)) (hL : IsL c X L (selV c arg1 g1)) :
    iprop(selP c arg1 g1 ∗ owesP (F := F) c ∗ flyI c X (Ring.sl 3 k.val) (Ring.bk 64 k.val) ∗ homeG c G₀ (Ring.bk 64 k.val) ∗ freeG (F := F) c (Ring.sl 2 k.val) ∗ flyG c G (Ring.sl 2 (k.val + 1)) (Ring.bk 64 (k.val - 1)) ∗ homeL c L₀ (Ring.bk 64 k.val) ∗ freeL (F := F) c (Ring.sl 2 k.val) ∗ flyL c L (Ring.sl 2 (k.val + 1)) (Ring.bk 64 (k.val - 1)))
    ⊢ wp frame (wpE (defs₀ (F := F)) 𝒱₀ (c : Thread nD τ) none) Set.univ (tripG arg1 harg1 k (car k.val))
      (fun acc => iprop(⌜acc = car (k.val + 1)⌝ ∗ selP c arg1 g1 ∗ owesP (F := F) c ∗ homeI c X (Ring.bk 64 k.val) ∗ freeI (F := F) c (Ring.sl 3 k.val) ∗ homeG c G (Ring.bk 64 (k.val - 1)) ∗ freeG (F := F) c (Ring.sl 2 (k.val + 1)) ∗ flyG c G (Ring.sl 2 k.val) (Ring.bk 64 k.val) ∗ homeL c L (Ring.bk 64 (k.val - 1)) ∗ freeL (F := F) c (Ring.sl 2 (k.val + 1)) ∗ flyL c L (Ring.sl 2 k.val) (Ring.bk 64 k.val))) := by
  have hc2 := t_cond2' k h62
  have hc3 := t_cond3 k
  have hc7 := t_cond7 k
  have hc8 := t_cond8 k
  have hc10 := t_cond10 k h1
  have hc11 := t_cond11 k h1
  have k1 := t_chk1 k
  have k2 := t_chk2 k
  have k3 := t_chk3 k
  have k4 := t_chk4 k
  unfold flyI freeG flyG freeL flyL
  iintro ⟨HS, ⟨%W, HW⟩, ⟨%fI, %hfI, HfI⟩, Hg, ⟨⟨%fg, Hsg⟩, Hcg⟩, ⟨%fG, %gG, %hfG, HfG⟩, Hl, ⟨⟨%fl, Hsl⟩, Hcl⟩, ⟨%fL, %gL, %hfL, HfL⟩⟩
  dsimp only [tripG, car]
  sl_unfold [k0_t1_body]
  sl_exec
  sl_step
  unfold freeI
  isplitr; · ipureintro; clear * -; simp only [Prod.mk.injEq]; refine ⟨?_, ?_, ?_, ?_, ?_, ?_, ?_, ?_⟩ <;> (revert k; decide +kernel)
  isplitl [HS]; · iexact HS
  isplitl [HW]; · iexists _; iexact HW
  isplitl [HfI_src]; · iexact HfI_src
  isplitl [HfI_dst HfI]
  · isplitl [HfI_dst]; · iexists _; iexact HfI_dst
    iexact HfI
  isplitl [HfG_dst]; · iapply (held_of_read c (blkG (Ring.bk 64 (k.val - 1))) hfG); iexact HfG_dst
  isplitl [HfG_src HfG]
  · isplitl [HfG_src]; · iexists _; iexact HfG_src
    iexact HfG
  isplitl [Hcg]
  · iexists _, _; isplitr [Hcg]
    rotate_left 1
    · iexact Hcg
    ipureintro; exact landG hG G₀ (t_off12 k) (t_off13 k) _ _ hfI fg
  isplitl [HfL_dst]; · iapply (held_of_read c (blkL (Ring.bk 64 (k.val - 1))) hfL); iexact HfL_dst
  isplitl [HfL_src HfL]
  · isplitl [HfL_src]; · iexists _; iexact HfL_src
    iexact HfL
  iexists _, _; isplitr [Hcl]
  rotate_left 1
  · iexact Hcl
  ipureintro; exact landL hL L₀ (t_off12 k) (t_off14 k) _ _ hfI fl

end Trip

end Cert.Proof.Prep

end
-- ==== Proof.Rings.lean ====
/-
  The two shapes of ring the copy loop keeps, over any pieces: three slots fetched two blocks ahead, and two slots
  written back one trip behind. How each is opened before a trip and closed after it.
-/
module

public import Idealize.ShloMosaic.Lib.Ring.Trips
public import Idealize.ShloMosaic.Lib.Ring.WriteBehind

@[expose] public section

noncomputable section

namespace Cert.Proof.Prep

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {M : Type _} [URA M]

/-- The pieces of a set with one more member: that member's beside the rest. -/
theorem bigSep_cons {ι : Type} [DecidableEq ι] {Φ : ι → sProp M} {a : ι} {S : Finset ι} (h : a ∉ S) :
    bigSep (insert a S) Φ = iprop(Φ a ∗ bigSep S Φ) := bigSep_insert h

section In
variable (home : Fin 64 → sProp M) (free : Fin 3 → sProp M) (fly : Fin 3 → Fin 64 → sProp M)

/-- Before trip `k`: blocks `k` and `k + 1` in flight while they exist, their slots free otherwise; the rest home. -/
def InRing (k : ℕ) : sProp M :=
  iprop(bigSep (Ring.homeSet 2 k) home ∗ Ring.roleAt (free (Ring.sl 3 k)) (fly (Ring.sl 3 k)) k
    ∗ Ring.roleAt (free (Ring.sl 3 (k + 1))) (fly (Ring.sl 3 (k + 1))) (k + 1) ∗ free (Ring.sl 3 (k + 2)))

theorem in_start : iprop(bigSep (Ring.homeSet 2 0) home ∗ fly 0 0 ∗ fly 1 1 ∗ free 2) ⊢ InRing home free fly 0 := by
  unfold InRing
  rw [Ring.roleAt_of_lt _ _ _ (show 0 < 64 by decide), Ring.roleAt_of_lt _ _ _ (show 0 + 1 < 64 by decide)]
  exact .rfl

theorem in_split : bigSep Finset.univ home ⊢ iprop(home 0 ∗ home 1 ∗ bigSep (Ring.homeSet 2 0) home) := by
  have e : (Finset.univ : Finset (Fin 64)) = insert 0 (insert 1 (Ring.homeSet (NB := 64) 2 0)) := by
    ext b; simp only [Finset.mem_univ, Finset.mem_insert, Ring.mem_homeSet, true_iff, Fin.ext_iff]
    have := b.isLt; have h0 : ((0 : Fin 64) : ℕ) = 0 := rfl; have h1 : ((1 : Fin 64) : ℕ) = 1 := rfl; omega
  rw [e, bigSep_cons (by simp [Ring.mem_homeSet, Fin.ext_iff]), bigSep_cons (by simp [Ring.mem_homeSet])]

theorem in_end : InRing home free fly 64 ⊢ iprop(bigSep Finset.univ home ∗ free 0 ∗ free 1 ∗ free 2) := by
  unfold InRing
  rw [Ring.roleAt_of_le _ _ _ (show 64 ≤ 64 by decide), Ring.roleAt_of_le _ _ _ (show 64 ≤ 64 + 1 by decide), Ring.homeSet_last 2 64 le_rfl,
    show Ring.sl 3 64 = 1 from rfl, show Ring.sl 3 (64 + 1) = 2 from rfl, show Ring.sl 3 (64 + 2) = 0 from rfl]
  iintro ⟨H, H1, H2, H0⟩
  isplitl [H]; · iexact H
  isplitl [H0]; · iexact H0
  isplitl [H1] <;> iassumption

theorem in_open (k : ℕ) (h : k + 2 < 64) : InRing home free fly k
    ⊢ iprop(home (Ring.bk 64 (k + 2)) ∗ fly (Ring.sl 3 k) (Ring.bk 64 k) ∗ free (Ring.sl 3 (k + 2))
      ∗ bigSep ((Ring.homeSet 2 k).erase (Ring.bk 64 (k + 2))) home ∗ fly (Ring.sl 3 (k + 1)) (Ring.bk 64 (k + 1))) := by
  unfold InRing
  rw [Ring.roleAt_of_lt _ _ _ (show k < 64 by omega), Ring.roleAt_of_lt _ _ _ (show k + 1 < 64 by omega), Ring.homeSet_out 2 k h,
    bigSep_cons (Finset.notMem_erase _ _), ← Ring.homeSet_out 2 k h]
  iintro ⟨⟨Ho, Hh⟩, H0, H1, H2⟩
  isplitl [Ho]; · iexact Ho
  isplitl [H0]; · iexact H0
  isplitl [H2]; · iexact H2
  isplitl [Hh] <;> iassumption

theorem in_close (k : ℕ) (h : k + 2 < 64) :
    iprop(home (Ring.bk 64 k) ∗ free (Ring.sl 3 k) ∗ fly (Ring.sl 3 (k + 2)) (Ring.bk 64 (k + 2))
      ∗ bigSep ((Ring.homeSet 2 k).erase (Ring.bk 64 (k + 2))) home ∗ fly (Ring.sl 3 (k + 1)) (Ring.bk 64 (k + 1)))
    ⊢ InRing home free fly (k + 1) := by
  unfold InRing
  rw [Ring.roleAt_of_lt _ _ _ (show k + 1 < 64 by omega), Ring.roleAt_of_lt _ _ _ (show k + 1 + 1 < 64 by omega), Ring.homeSet_succ 2 k h,
    bigSep_cons (Ring.bk_not_mem_erase 2 k (by omega) (by decide)), show Ring.sl 3 (k + 1 + 2) = Ring.sl 3 k from Ring.sl_add 3 k]
  iintro ⟨Hb, Hf, H2, Hh, H1⟩
  isplitl [Hb Hh]; · isplitl [Hb] <;> iassumption
  isplitl [H1]; · iexact H1
  isplitl [H2] <;> iassumption

theorem in_open_tail (k : ℕ) (h : k < 64) : InRing home free fly k
    ⊢ iprop(fly (Ring.sl 3 k) (Ring.bk 64 k) ∗ bigSep (Ring.homeSet 2 k) home
      ∗ Ring.roleAt (free (Ring.sl 3 (k + 1))) (fly (Ring.sl 3 (k + 1))) (k + 1) ∗ free (Ring.sl 3 (k + 2))) := by
  unfold InRing
  rw [Ring.roleAt_of_lt _ _ _ h]
  iintro ⟨Hh, H0, H1, H2⟩
  isplitl [H0]; · iexact H0
  isplitl [Hh]; · iexact Hh
  isplitl [H1] <;> iassumption

theorem in_close_tail (k : ℕ) (h : k < 64) (h62 : ¬ k < 62) :
    iprop(home (Ring.bk 64 k) ∗ free (Ring.sl 3 k) ∗ bigSep (Ring.homeSet 2 k) home
      ∗ Ring.roleAt (free (Ring.sl 3 (k + 1))) (fly (Ring.sl 3 (k + 1))) (k + 1) ∗ free (Ring.sl 3 (k + 2)))
    ⊢ InRing home free fly (k + 1) := by
  unfold InRing
  rw [Ring.roleAt_of_le _ (fly (Ring.sl 3 (k + 1 + 1))) _ (show 64 ≤ k + 1 + 1 by omega), Ring.homeSet_succ_tail 2 k (by omega) h,
    bigSep_cons (Ring.bk_not_mem_homeSet 2 k h (by decide)), show Ring.sl 3 (k + 1 + 2) = Ring.sl 3 k from Ring.sl_add 3 k]
  iintro ⟨Hb, Hf, Hh, H1, H2⟩
  isplitl [Hb Hh]; · isplitl [Hb] <;> iassumption
  isplitl [H1]; · iexact H1
  isplitl [H2] <;> iassumption
end In

section Out
variable (home₀ home₁ : Fin 64 → sProp M) (free : Fin 2 → sProp M) (fly : Fin 2 → Fin 64 → sProp M)

/-- Before trip `k`: blocks from `k` on as found, those before `k - 1` as left, `k - 1` on its way out. -/
def OutRing (k : ℕ) : sProp M :=
  iprop(bigSep (Ring.aheadSet k) home₀ ∗ bigSep (Ring.behindSet 1 k) home₁ ∗ free (Ring.sl 2 k)
    ∗ Ring.roleBAt 1 (free (Ring.sl 2 (k + 1))) (fly (Ring.sl 2 (k + 1))) k)

theorem out_start : iprop(bigSep Finset.univ home₀ ∗ free 0 ∗ free 1) ⊢ OutRing home₀ home₁ free fly 0 := by
  unfold OutRing
  rw [Ring.roleBAt_of_lt _ _ _ _ (show 0 < 1 by decide), Ring.aheadSet_zero, Ring.behindSet_boot 1 0 (by decide), bigSep_empty]
  iintro ⟨H, H0, H1⟩
  isplitl [H]; · iexact H
  isplitr; · iempintro
  isplitl [H0] <;> iassumption

theorem out_end : OutRing home₀ home₁ free fly 64 ⊢ iprop(fly 1 63 ∗ free 0 ∗ bigSep (Ring.behindSet 1 64) home₁) := by
  unfold OutRing
  rw [Ring.roleBAt_of_le _ _ _ _ (show 1 ≤ 64 by decide), Ring.aheadSet_end 64 le_rfl, bigSep_empty,
    show Ring.sl 2 64 = 0 from rfl, show Ring.sl 2 (64 + 1) = 1 from rfl, show Ring.bk 64 (64 - 1) = 63 from rfl]
  iintro ⟨-, H, H0, H1⟩
  isplitl [H1]; · iexact H1
  isplitl [H0] <;> iassumption

theorem out_join : iprop(home₁ 63 ∗ bigSep (Ring.behindSet 1 64) home₁) ⊢ bigSep Finset.univ home₁ := by
  have e : (Finset.univ : Finset (Fin 64)) = insert 63 (Ring.behindSet (NB := 64) 1 64) := by
    ext b; simp only [Finset.mem_univ, Finset.mem_insert, Ring.mem_behindSet, true_iff, Fin.ext_iff]
    have := b.isLt; have h0 : ((63 : Fin 64) : ℕ) = 63 := rfl; omega
  rw [e, bigSep_cons (by rw [Ring.mem_behindSet]; decide)]

theorem out_open (k : ℕ) (h1 : 1 ≤ k) (h : k < 64) : OutRing home₀ home₁ free fly k
    ⊢ iprop(home₀ (Ring.bk 64 k) ∗ free (Ring.sl 2 k) ∗ fly (Ring.sl 2 (k + 1)) (Ring.bk 64 (k - 1))
      ∗ bigSep (Ring.aheadSet (k + 1)) home₀ ∗ bigSep (Ring.behindSet 1 k) home₁) := by
  unfold OutRing
  rw [Ring.roleBAt_of_le _ _ _ _ h1, Ring.aheadSet_open k h, bigSep_cons (Ring.bk_not_mem_aheadSet_succ k h)]
  iintro ⟨⟨Ho, Ha⟩, Hb, H0, H1⟩
  isplitl [Ho]; · iexact Ho
  isplitl [H0]; · iexact H0
  isplitl [H1]; · iexact H1
  isplitl [Ha] <;> iassumption

theorem out_close (k : ℕ) (h1 : 1 ≤ k) (h : k < 64) :
    iprop(home₁ (Ring.bk 64 (k - 1)) ∗ free (Ring.sl 2 (k + 1)) ∗ fly (Ring.sl 2 k) (Ring.bk 64 k)
      ∗ bigSep (Ring.aheadSet (k + 1)) home₀ ∗ bigSep (Ring.behindSet 1 k) home₁)
    ⊢ OutRing home₀ home₁ free fly (k + 1) := by
  unfold OutRing
  rw [Ring.roleBAt_of_le _ _ _ _ (show 1 ≤ k + 1 by omega), Ring.behindSet_close 1 k h1 h, bigSep_cons (Ring.bk_not_mem_behindSet 1 k h1 h),
    show Ring.sl 2 (k + 1 + 1) = Ring.sl 2 k from Ring.sl_add 2 k, show k + 1 - 1 = k from rfl]
  iintro ⟨Hb, Hf, H1, Ha, Hh⟩
  isplitl [Ha]; · iexact Ha
  isplitl [Hb Hh]; · isplitl [Hb] <;> iassumption
  isplitl [Hf] <;> iassumption

theorem out_open_first (k : ℕ) (h1 : ¬ 1 ≤ k) : OutRing home₀ home₁ free fly k
    ⊢ iprop(home₀ (Ring.bk 64 k) ∗ free (Ring.sl 2 k) ∗ free (Ring.sl 2 (k + 1)) ∗ bigSep (Ring.aheadSet (k + 1)) home₀) := by
  unfold OutRing
  rw [Ring.roleBAt_of_lt _ _ _ _ (show k < 1 by omega), Ring.aheadSet_open k (show k < 64 by omega), bigSep_cons (Ring.bk_not_mem_aheadSet_succ k (by omega)),
    Ring.behindSet_boot 1 k (by omega), bigSep_empty]
  iintro ⟨⟨Ho, Ha⟩, -, H0, H1⟩
  isplitl [Ho]; · iexact Ho
  isplitl [H0]; · iexact H0
  isplitl [H1] <;> iassumption

theorem out_close_first (k : ℕ) (h1 : ¬ 1 ≤ k) :
    iprop(fly (Ring.sl 2 k) (Ring.bk 64 k) ∗ free (Ring.sl 2 (k + 1)) ∗ bigSep (Ring.aheadSet (k + 1)) home₀)
    ⊢ OutRing home₀ home₁ free fly (k + 1) := by
  unfold OutRing
  rw [Ring.roleBAt_of_le _ _ _ _ (show 1 ≤ k + 1 by omega), Ring.behindSet_boot 1 (k + 1) (by omega), bigSep_empty,
    show Ring.sl 2 (k + 1 + 1) = Ring.sl 2 k from Ring.sl_add 2 k, show k + 1 - 1 = k from rfl]
  iintro ⟨H1, Hf, Ha⟩
  isplitl [Ha]; · iexact Ha
  isplitr; · iempintro
  isplitl [Hf] <;> iassumption
end Out

end Cert.Proof.Prep

end
-- ==== Proof.Body.lean ====
/-
  The two results block by block, the copy loop's invariant, and the kernel body from it.
-/
module

public import proofs.«01_k».proof.Proof.TripLast
public import proofs.«01_k».proof.Proof.Rings
public import Idealize.ShloMosaic.Lib.Pipeline.ValueKit.Geometry

@[expose] public section

noncomputable section

namespace Cert.Proof.Prep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The results, element by element -/

/-- The block an element of a result lies in. -/
def ownBlk (i : S32x1024x1024.Idx) : Fin 64 := ⟨2 * (i 0).val + (i 1).val / 512, by have h0 : (i 0).val < 32 := (i 0).isLt; have h1 : (i 1).val < 1024 := (i 1).isLt; omega⟩
/-- Its place in that block. -/
def ownPos (i : S32x1024x1024.Idx) : S1x512x1024.Idx := fun
  | 0 => ⟨0, by decide⟩
  | 1 => ⟨(i 1).val % 512, Nat.mod_lt _ (by decide)⟩
  | 2 => ⟨(i 2).val, (i 2).isLt⟩

/-- The even result the blocks make. -/
def evenOf (c : Dev nD) (X : Buf (Elt F) (wM.view.loc (c : Thread nD τ))) (sel : Vec F S1024x1024 .bf16) : S32x1024x1024.Idx → Elt F .bf16 :=
  fun i => k0_pay3 (k0_pay2 sel (wblk c X (ownBlk i))) (ownPos i)
/-- The odd result the blocks make. -/
def oddOf (c : Dev nD) (X : Buf (Elt F) (wM.view.loc (c : Thread nD τ))) (sel : Vec F S1024x1024 .bf16) : S32x1024x1024.Idx → Elt F .bf16 :=
  fun i => k0_pay4 (k0_pay1 sel (wblk c X (ownBlk i))) (ownPos i)

/-- Where block `b`'s place `y` is in a result. -/
abbrev placed (b : Fin 64) (y : S1x512x1024.Idx) : S32x1024x1024.Idx :=
  (Rect.unit (s := S32x1024x1024) (outOff b) S1x512x1024.size (outOff_inb b)).emb y

theorem placed_val (b : Fin 64) (y : S1x512x1024.Idx) (a : Fin 3) : (placed b y a : ℕ) = outOff b a + y a :=
  ValueKit.rect_emb_unit_val (s := S32x1024x1024) _ _ (outOff_inb b) y a

theorem outOff_spec : ∀ b : Fin 64, outOff b 0 = b.val / 2 ∧ outOff b 1 = 512 * (b.val % 2) ∧ outOff b 2 = 0 := by decide +kernel
theorem inOff_spec : ∀ b : Fin 64, inOff b 0 = b.val / 2 ∧ inOff b 1 = 0 ∧ inOff b 2 = 1024 * (b.val % 2) := by decide +kernel

theorem ownBlk_placed (b : Fin 64) (y : S1x512x1024.Idx) : ownBlk (placed b y) = b := by
  obtain ⟨e0, e1, e2⟩ := outOff_spec b
  have h0 := placed_val b y 0; have h1 := placed_val b y 1
  have y0 : (y 0).val < 1 := (y 0).isLt; have y1 : (y 1).val < 512 := (y 1).isLt
  apply Fin.ext; show 2 * (placed b y 0).val + (placed b y 1).val / 512 = b.val
  omega
theorem ownPos_placed (b : Fin 64) (y : S1x512x1024.Idx) : ownPos (placed b y) = y := by
  obtain ⟨e0, e1, e2⟩ := outOff_spec b
  have h1 := placed_val b y 1; have h2 := placed_val b y 2
  have y0 : (y 0).val < 1 := (y 0).isLt; have y1 : (y 1).val < 512 := (y 1).isLt
  funext a
  fin_cases a
  · apply Fin.ext; show 0 = (y 0).val; omega
  · apply Fin.ext; show (placed b y 1).val % 512 = (y 1).val; omega
  · apply Fin.ext; show (placed b y 2).val = (y 2).val; omega

/-- The even result is block by block what the trips store. -/
theorem isG (c : Dev nD) (X : Buf (Elt F) (wM.view.loc (c : Thread nD τ))) (sel : Vec F S1024x1024 .bf16) : IsG c X (evenOf c X sel) sel := fun b => by
  funext y
  show evenOf c X sel (placed b (Shape.reshapeEquiv (Shape.Squeezes.numel_eq squeezes_S1x512x1024_S512x1024) y)) = _
  unfold evenOf; rw [ownBlk_placed, ownPos_placed]
/-- The odd result is block by block what the trips store. -/
theorem isL (c : Dev nD) (X : Buf (Elt F) (wM.view.loc (c : Thread nD τ))) (sel : Vec F S1024x1024 .bf16) : IsL c X (oddOf c X sel) sel := fun b => by
  funext y
  show oddOf c X sel (placed b (Shape.reshapeEquiv (Shape.Squeezes.numel_eq squeezes_S1x512x1024_S512x1024) y)) = _
  unfold oddOf; rw [ownBlk_placed, ownPos_placed]

/-! ## The loop's invariant -/

section Loop
variable (c : Dev nD) (X : Buf (Elt F) (wM.view.loc (c : Thread nD τ)))
  (arg1 : Memref sig .tc .vmem S1024x1024 .bf16) (harg1 : arg1.IsWhole)
  (G₀ : Buf (Elt F) (gM.view.loc (c : Thread nD τ))) (L₀ : Buf (Elt F) (lM.view.loc (c : Thread nD τ)))
  (g1 : Buf (Elt F) (arg1.view.loc (c : Thread nD τ)))

abbrev GG : Buf (Elt F) (gM.view.loc (c : Thread nD τ)) := evenOf c X (selV c arg1 g1)
abbrev LL : Buf (Elt F) (lM.view.loc (c : Thread nD τ)) := oddOf c X (selV c arg1 g1)

abbrev ringI (k : ℕ) : sProp 𝕄 := InRing (homeI c X) (freeI (F := F) c) (flyI c X) k
abbrev ringG (k : ℕ) : sProp 𝕄 := OutRing (homeG c G₀) (homeG c (GG c X arg1 g1)) (freeG (F := F) c) (flyG c (GG c X arg1 g1)) k
abbrev ringL (k : ℕ) : sProp 𝕄 := OutRing (homeL c L₀) (homeL c (LL c X arg1 g1)) (freeL (F := F) c) (flyL c (LL c X arg1 g1)) k

/-- The words a trip carries. -/
abbrev Words : Type := BitVec 32 × BitVec 32 × BitVec 32 × BitVec 32 × BitVec 32 × BitVec 32 × BitVec 32 × BitVec 32

/-- Before trip `k`: the carried words, the selection matrix, and the three rings. -/
def invAt (k : ℕ) (acc : Words) : sProp 𝕄 :=
  iprop(⌜acc = car k⌝ ∗ selP c arg1 g1 ∗ owesP (F := F) c ∗ ringI c X k ∗ ringG c X arg1 G₀ g1 k ∗ ringL c X arg1 L₀ g1 k)

end Loop

end Cert.Proof.Prep

end
-- ==== Proof.Step.lean ====
/-
  Every trip keeps the copy loop's invariant.
-/
module

public import proofs.«01_k».proof.Proof.Body

@[expose] public section

noncomputable section

namespace Cert.Proof.Prep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Loop
variable (c : Dev nD) (X : Buf (Elt F) (wM.view.loc (c : Thread nD τ)))
  (arg1 : Memref sig .tc .vmem S1024x1024 .bf16) (harg1 : arg1.IsWhole)
  (G₀ : Buf (Elt F) (gM.view.loc (c : Thread nD τ))) (L₀ : Buf (Elt F) (lM.view.loc (c : Thread nD τ)))
  (g1 : Buf (Elt F) (arg1.view.loc (c : Thread nD τ)))

set_option maxHeartbeats 800000 in
/-- A trip in the middle keeps the invariant. -/
theorem inv_mid (k : Fin k0_t1_loop.trips) (h1 : 1 ≤ k.val) (h62 : k.val < 62) :
    iprop(selP c arg1 g1 ∗ owesP (F := F) c ∗ ringI c X k.val ∗ ringG c X arg1 G₀ g1 k.val ∗ ringL c X arg1 L₀ g1 k.val)
    ⊢ wp frame (wpE (defs₀ (F := F)) 𝒱₀ (c : Thread nD τ) none) Set.univ (tripG arg1 harg1 k (car k.val)) (invAt c X arg1 G₀ L₀ g1 (k.val + 1)) := by
  have hk : k.val < 64 := lt64 k
  unfold invAt
  iintro ⟨HS, HW, HI, HG, HL⟩
  ihave HI' := (in_open (homeI c X) (freeI (F := F) c) (flyI c X) k.val (by omega)) $$ HI
  icases HI' with ⟨Hh2, Hf, Hfr, HIr⟩
  ihave HG' := (out_open _ _ _ _ k.val h1 hk) $$ HG
  icases HG' with ⟨Hg, Hgf, Hgfl, HGr⟩
  ihave HL' := (out_open _ _ _ _ k.val h1 hk) $$ HL
  icases HL' with ⟨Hl, Hlf, Hlfl, HLr⟩
  ihave HT := (trip_mid c X arg1 harg1 G₀ (GG c X arg1 g1) L₀ (LL c X arg1 g1) g1 k h1 h62 (isG c X (selV c arg1 g1)) (isL c X (selV c arg1 g1))) $$ [HS HW Hh2 Hf Hfr Hg Hgf Hgfl Hl Hlf Hlfl]
  · isplitl [HS]; · iexact HS
    isplitl [HW]; · iexact HW
    isplitl [Hh2]; · iexact Hh2
    isplitl [Hf]; · iexact Hf
    isplitl [Hfr]; · iexact Hfr
    isplitl [Hg]; · iexact Hg
    isplitl [Hgf]; · iexact Hgf
    isplitl [Hgfl]; · iexact Hgfl
    isplitl [Hl]; · iexact Hl
    isplitl [Hlf]; · iexact Hlf
    iexact Hlfl
  iapply (wp_wand_r Idealize.ShloMosaic.frame (wpE (defs₀ (F := F)) 𝒱₀ (c : Thread nD τ) none) Set.univ)
  isplitl [HT]; · iexact HT
  iintro %_ ⟨%e, HS, HW, Hh, Hfr, Hf, Hg, Hgf, Hgfl, Hl, Hlf, Hlfl⟩
  isplitr; · ipureintro; exact e
  isplitl [HS]; · iexact HS
  isplitl [HW]; · iexact HW
  isplitl [Hh Hfr Hf HIr]
  · iapply (in_close (homeI c X) (freeI (F := F) c) (flyI c X) k.val (by omega))
    isplitl [Hh]; · iexact Hh
    isplitl [Hfr]; · iexact Hfr
    isplitl [Hf]; · iexact Hf
    iexact HIr
  isplitl [Hg Hgf Hgfl HGr]
  · iapply (out_close _ _ _ _ k.val h1 hk)
    isplitl [Hg]; · iexact Hg
    isplitl [Hgf]; · iexact Hgf
    isplitl [Hgfl]; · iexact Hgfl
    iexact HGr
  iapply (out_close _ _ _ _ k.val h1 hk)
  isplitl [Hl]; · iexact Hl
  isplitl [Hlf]; · iexact Hlf
  isplitl [Hlfl]; · iexact Hlfl
  iexact HLr

set_option maxHeartbeats 800000 in
/-- The first trip keeps the invariant. -/
theorem inv_first (k : Fin k0_t1_loop.trips) (h1 : ¬ 1 ≤ k.val) (h62 : k.val < 62) :
    iprop(selP c arg1 g1 ∗ owesP (F := F) c ∗ ringI c X k.val ∗ ringG c X arg1 G₀ g1 k.val ∗ ringL c X arg1 L₀ g1 k.val)
    ⊢ wp frame (wpE (defs₀ (F := F)) 𝒱₀ (c : Thread nD τ) none) Set.univ (tripG arg1 harg1 k (car k.val)) (invAt c X arg1 G₀ L₀ g1 (k.val + 1)) := by
  have hk : k.val < 64 := lt64 k
  unfold invAt
  iintro ⟨HS, HW, HI, HG, HL⟩
  ihave HI' := (in_open (homeI c X) (freeI (F := F) c) (flyI c X) k.val (by omega)) $$ HI
  icases HI' with ⟨Hh2, Hf, Hfr, HIr⟩
  ihave HG' := (out_open_first _ _ _ _ k.val h1) $$ HG
  icases HG' with ⟨Hg, Hgf, HGr⟩
  ihave HL' := (out_open_first _ _ _ _ k.val h1) $$ HL
  icases HL' with ⟨Hl, Hlf, HLr⟩
  ihave HT := (trip_first c X arg1 harg1 G₀ (GG c X arg1 g1) L₀ (LL c X arg1 g1) g1 k h1 h62 (isG c X (selV c arg1 g1)) (isL c X (selV c arg1 g1))) $$ [HS HW Hh2 Hf Hfr Hg Hgf Hl Hlf]
  · isplitl [HS]; · iexact HS
    isplitl [HW]; · iexact HW
    isplitl [Hh2]; · iexact Hh2
    isplitl [Hf]; · iexact Hf
    isplitl [Hfr]; · iexact Hfr
    isplitl [Hg]; · iexact Hg
    isplitl [Hgf]; · iexact Hgf
    isplitl [Hl]; · iexact Hl
    iexact Hlf
  iapply (wp_wand_r Idealize.ShloMosaic.frame (wpE (defs₀ (F := F)) 𝒱₀ (c : Thread nD τ) none) Set.univ)
  isplitl [HT]; · iexact HT
  iintro %_ ⟨%e, HS, HW, Hh, Hfr, Hf, Hgfl, Hlfl⟩
  isplitr; · ipureintro; exact e
  isplitl [HS]; · iexact HS
  isplitl [HW]; · iexact HW
  isplitl [Hh Hfr Hf HIr]
  · iapply (in_close (homeI c X) (freeI (F := F) c) (flyI c X) k.val (by omega))
    isplitl [Hh]; · iexact Hh
    isplitl [Hfr]; · iexact Hfr
    isplitl [Hf]; · iexact Hf
    iexact HIr
  isplitl [Hgfl HGr]
  · iapply (out_close_first _ _ _ _ k.val h1)
    isplitl [Hgfl]; · iexact Hgfl
    iexact HGr
  iapply (out_close_first _ _ _ _ k.val h1)
  isplitl [Hlfl]; · iexact Hlfl
  iexact HLr

set_option maxHeartbeats 800000 in
/-- The last two trips keep the invariant. -/
theorem inv_last (k : Fin k0_t1_loop.trips) (h1 : 1 ≤ k.val) (h62 : ¬ k.val < 62) :
    iprop(selP c arg1 g1 ∗ owesP (F := F) c ∗ ringI c X k.val ∗ ringG c X arg1 G₀ g1 k.val ∗ ringL c X arg1 L₀ g1 k.val)
    ⊢ wp frame (wpE (defs₀ (F := F)) 𝒱₀ (c : Thread nD τ) none) Set.univ (tripG arg1 harg1 k (car k.val)) (invAt c X arg1 G₀ L₀ g1 (k.val + 1)) := by
  have hk : k.val < 64 := lt64 k
  unfold invAt
  iintro ⟨HS, HW, HI, HG, HL⟩
  ihave HI' := (in_open_tail (homeI c X) (freeI (F := F) c) (flyI c X) k.val hk) $$ HI
  icases HI' with ⟨Hf, HIr⟩
  ihave HG' := (out_open _ _ _ _ k.val h1 hk) $$ HG
  icases HG' with ⟨Hg, Hgf, Hgfl, HGr⟩
  ihave HL' := (out_open _ _ _ _ k.val h1 hk) $$ HL
  icases HL' with ⟨Hl, Hlf, Hlfl, HLr⟩
  ihave HT := (trip_last c X arg1 harg1 G₀ (GG c X arg1 g1) L₀ (LL c X arg1 g1) g1 k h1 h62 (isG c X (selV c arg1 g1)) (isL c X (selV c arg1 g1))) $$ [HS HW Hf Hg Hgf Hgfl Hl Hlf Hlfl]
  · isplitl [HS]; · iexact HS
    isplitl [HW]; · iexact HW
    isplitl [Hf]; · iexact Hf
    isplitl [Hg]; · iexact Hg
    isplitl [Hgf]; · iexact Hgf
    isplitl [Hgfl]; · iexact Hgfl
    isplitl [Hl]; · iexact Hl
    isplitl [Hlf]; · iexact Hlf
    iexact Hlfl
  iapply (wp_wand_r Idealize.ShloMosaic.frame (wpE (defs₀ (F := F)) 𝒱₀ (c : Thread nD τ) none) Set.univ)
  isplitl [HT]; · iexact HT
  iintro %_ ⟨%e, HS, HW, Hh, Hfr, Hg, Hgf, Hgfl, Hl, Hlf, Hlfl⟩
  isplitr; · ipureintro; exact e
  isplitl [HS]; · iexact HS
  isplitl [HW]; · iexact HW
  isplitl [Hh Hfr HIr]
  · iapply (in_close_tail (homeI c X) (freeI (F := F) c) (flyI c X) k.val hk h62)
    isplitl [Hh]; · iexact Hh
    isplitl [Hfr]; · iexact Hfr
    iexact HIr
  isplitl [Hg Hgf Hgfl HGr]
  · iapply (out_close _ _ _ _ k.val h1 hk)
    isplitl [Hg]; · iexact Hg
    isplitl [Hgf]; · iexact Hgf
    isplitl [Hgfl]; · iexact Hgfl
    iexact HGr
  iapply (out_close _ _ _ _ k.val h1 hk)
  isplitl [Hl]; · iexact Hl
  isplitl [Hlf]; · iexact Hlf
  isplitl [Hlfl]; · iexact Hlfl
  iexact HLr

/-- One trip keeps the invariant. -/
theorem inv_step (k : Fin k0_t1_loop.trips) (acc : Words) :
    invAt c X arg1 G₀ L₀ g1 k.val acc
    ⊢ wp frame (wpE (defs₀ (F := F)) 𝒱₀ (c : Thread nD τ) none) Set.univ (tripG arg1 harg1 k acc) (invAt c X arg1 G₀ L₀ g1 (k.val + 1)) := by
  have hk : k.val < 64 := lt64 k
  rw [invAt]
  iintro ⟨%hacc, H⟩
  subst hacc
  by_cases h62 : k.val < 62
  · by_cases h1 : 1 ≤ k.val
    · iapply (inv_mid c X arg1 harg1 G₀ L₀ g1 k h1 h62); iexact H
    · iapply (inv_first c X arg1 harg1 G₀ L₀ g1 k h1 h62); iexact H
  · iapply (inv_last c X arg1 harg1 G₀ L₀ g1 k (by omega) h62); iexact H

end Loop

end Cert.Proof.Prep

end
-- ==== Proof.Run.lean ====
/-
  The kernel body: two fetches ahead, the copy loop, and the last blocks' arrivals.
-/
module

public import proofs.«01_k».proof.Proof.Step

@[expose] public section

noncomputable section

namespace Cert.Proof.Prep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Body
variable (c : Dev nD) (X : Buf (Elt F) (wM.view.loc (c : Thread nD τ)))
  (arg1 : Memref sig .tc .vmem S1024x1024 .bf16) (harg1 : arg1.IsWhole)
  (G₀ : Buf (Elt F) (gM.view.loc (c : Thread nD τ))) (L₀ : Buf (Elt F) (lM.view.loc (c : Thread nD τ)))
  (g1 : Buf (Elt F) (arg1.view.loc (c : Thread nD τ)))

/-- The body on the given staging memref, the arrays, the rings and the cells its own. -/
abbrev bodyG : Prog (TpuEff nD τ sig (Elt F) Λ₀ .tc) PUnit :=
  cc0_prep_w1 wM (Memref.isWhole_whole _) arg1 harg1 gM (Memref.isWhole_whole _) lM (Memref.isWhole_whole _)
    bufI (Memref.isWhole_whole _) cc0_scoped1 bufG (Memref.isWhole_whole _) cc0_scoped3 bufL (Memref.isWhole_whole _) cc0_scoped5

/-- Everything the body owns besides the selection matrix: the weights' blocks at `X`, the two results' at `G` and `L`, the free slots. -/
def ownAt (G : Buf (Elt F) (gM.view.loc (c : Thread nD τ))) (L : Buf (Elt F) (lM.view.loc (c : Thread nD τ))) : sProp 𝕄 :=
  iprop(bigSep Finset.univ (homeI c X) ∗ bigSep Finset.univ (homeG c G) ∗ bigSep Finset.univ (homeL c L)
    ∗ freeI (F := F) c 0 ∗ freeI (F := F) c 1 ∗ freeI (F := F) c 2 ∗ freeG (F := F) c 0 ∗ freeG (F := F) c 1 ∗ freeL (F := F) c 0 ∗ freeL (F := F) c 1)

set_option backward.proofsInPublic true in
set_option maxHeartbeats 1600000 in
/-- The body copies every block: afterwards the two results are what the blocks make, and everything else is as it was. -/
theorem bodyRun (Q : PUnit → sProp 𝕄) :
    iprop((selP c arg1 g1 ∗ owesP (F := F) c ∗ ownAt c X G₀ L₀)
      ∗ ((selP c arg1 g1 ∗ owesP (F := F) c ∗ ownAt c X (GG c X arg1 g1) (LL c X arg1 g1)) -∗ Q ⟨⟩))
      ⊢ wp frame (wpE (defs₀ (F := F)) 𝒱₀ (c : Thread nD τ) none) Set.univ (bodyG arg1 harg1) Q := by
  have hc1 := t_cond1
  have hchk5 := t_chk5
  have hchk6 := t_chk6
  have hchk7 := t_chk7
  unfold ownAt freeI freeG freeL
  iintro ⟨⟨HS, ⟨%W, HW⟩, HX, HG, HL, ⟨⟨%f0, Hs0⟩, Hc0⟩, ⟨⟨%f1, Hs1⟩, Hc1⟩, Hi2, Hg0, Hg1, Hl0, Hl1⟩, Hk⟩
  ihave HX' := (in_split (homeI c X)) $$ HX
  icases HX' with ⟨Hh0, Hh1, Hh⟩
  sl_exec
  sl_for (invAt c X arg1 G₀ L₀ g1) $$ [HS HW Hh Hi2 HG HL Hg0 Hg1 Hl0 Hl1 Hc0 Hc1]
  case region => exact fun k acc => inv_step c X arg1 harg1 G₀ L₀ g1 k acc
  · unfold invAt
    isplitr; · ipureintro; unfold car; simp only [Prod.mk.injEq]; refine ⟨?_, ?_, ?_, ?_, ?_, ?_, ?_, ?_⟩ <;> decide +kernel
    isplitl [HS]; · iexact HS
    isplitl [HW]; · iexists _; iexact HW
    isplitl [Hh Hc0 Hc1 Hi2]
    · iapply (in_start (homeI c X) (freeI (F := F) c) (flyI c X))
      isplitl [Hh]; · iexact Hh
      unfold flyI freeI
      isplitl [Hc0]
      · iexists _
        isplitr [Hc0]; rotate_left 1; · iexact Hc0
        ipureintro; exact View.read_writes_whole _ _ _
      isplitl [Hc1]
      · iexists _
        isplitr [Hc1]; rotate_left 1; · iexact Hc1
        ipureintro; exact View.read_writes_whole _ _ _
      iexact Hi2
    isplitl [HG Hg0 Hg1]
    · iapply (out_start (homeG c G₀) (homeG c (GG c X arg1 g1)) (freeG (F := F) c) (flyG c (GG c X arg1 g1)))
      unfold freeG
      isplitl [HG]; · iexact HG
      isplitl [Hg0]; · iexact Hg0
      iexact Hg1
    iapply (out_start (homeL c L₀) (homeL c (LL c X arg1 g1)) (freeL (F := F) c) (flyL c (LL c X arg1 g1)))
    unfold freeL
    isplitl [HL]; · iexact HL
    isplitl [Hl0]; · iexact Hl0
    iexact Hl1
  · iintro %acc HI
    ihave HI' := (entails_of_eq (congrArg (fun n => invAt c X arg1 G₀ L₀ g1 n acc) trips_eq)) $$ HI
    unfold invAt
    icases HI' with ⟨%hacc, HS, ⟨%W', HW⟩, HI, HG, HL⟩
    subst hacc
    ihave HI' := (in_end (homeI c X) (freeI (F := F) c) (flyI c X)) $$ HI
    icases HI' with ⟨HX, Hi0, Hi1, Hi2⟩
    ihave HG' := (out_end (homeG c G₀) (homeG c (GG c X arg1 g1)) (freeG (F := F) c) (flyG c (GG c X arg1 g1))) $$ HG
    icases HG' with ⟨Hgf, Hg0, HG⟩
    ihave HL' := (out_end (homeL c L₀) (homeL c (LL c X arg1 g1)) (freeL (F := F) c) (flyL c (LL c X arg1 g1))) $$ HL
    icases HL' with ⟨Hlf, Hl0, HL⟩
    unfold flyG flyL freeI freeG freeL
    icases Hgf with ⟨%fg, %gg, %hfg, Hgf⟩
    icases Hlf with ⟨%fl, %gl, %hfl, Hlf⟩
    dsimp only [car]
    sl_exec
    sl_step
    ihave HGe := (held_of_read c (blkG 63) hfg) $$ Hgf_dst
    ihave HLe := (held_of_read c (blkL 63) hfl) $$ Hlf_dst
    iapply Hk
    isplitl [HS]; · iexact HS
    isplitl [HW]; · iexists _; iexact HW
    isplitl [HX]; · iexact HX
    isplitl [HG HGe]
    · iapply (out_join (homeG c (GG c X arg1 g1)))
      isplitl [HGe]; · iexact HGe
      iexact HG
    isplitl [HL HLe]
    · iapply (out_join (homeL c (LL c X arg1 g1)))
      isplitl [HLe]; · iexact HLe
      iexact HL
    isplitl [Hi0]; · iexact Hi0
    isplitl [Hi1]; · iexact Hi1
    isplitl [Hi2]; · iexact Hi2
    isplitl [Hg0]; · iexact Hg0
    isplitl [Hgf_src Hgf]
    · isplitl [Hgf_src]; · iexists _; iexact Hgf_src
      iexact Hgf
    isplitl [Hl0]; · iexact Hl0
    isplitl [Hlf_src]; · iexists _; iexact Hlf_src
    iexact Hlf

end Body

end Cert.Proof.Prep

end
-- ==== Proof.Blocks.lean ====
/-
  The launch: the arrays and rings in blocks and slots, the kernel's own cells, and the run of the whole program.
-/
module

public import proofs.«01_k».proof.Proof.Run

@[expose] public section

noncomputable section

namespace Cert.Proof.Prep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The blocks and the slots -/

abbrev SI (s : Fin 3) : Finset S3x1024x1024.Idx := (Rect.unit (s := S3x1024x1024) (slotOff3 s) S1x1024x1024.size (slotOff3_inb s)).set
theorem mem_SI (s : Fin 3) (y : S3x1024x1024.Idx) : y ∈ SI s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem SI_disjoint : ∀ s s' : Fin 3, s ≠ s' → Disjoint (SI s) (SI s') := by
  intro s s' hne; rw [Finset.disjoint_left]; intro y hy hy'; rw [mem_SI] at hy hy'; exact hne (Fin.ext (hy.symm.trans hy'))
theorem SI_cover : (Finset.univ : Finset (Fin 3)).biUnion SI = Finset.univ := by
  ext y; simp only [Finset.mem_biUnion, Finset.mem_univ, true_and, iff_true]; exact ⟨(y 0).cast (by decide), by rw [mem_SI]; rfl⟩

abbrev SO (s : Fin 2) : Finset S2x512x1024.Idx := (Rect.unit (s := S2x512x1024) (slotOff2 s) S1x512x1024.size (slotOff2_inb s)).set
theorem mem_SO (s : Fin 2) (y : S2x512x1024.Idx) : y ∈ SO s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem SO_disjoint : ∀ s s' : Fin 2, s ≠ s' → Disjoint (SO s) (SO s') := by
  intro s s' hne; rw [Finset.disjoint_left]; intro y hy hy'; rw [mem_SO] at hy hy'; exact hne (Fin.ext (hy.symm.trans hy'))
theorem SO_cover : (Finset.univ : Finset (Fin 2)).biUnion SO = Finset.univ := by
  ext y; simp only [Finset.mem_biUnion, Finset.mem_univ, true_and, iff_true]; exact ⟨(y 0).cast (by decide), by rw [mem_SO]; rfl⟩

abbrev BI (b : Fin 64) : Finset S32x1024x2048.Idx := (Rect.unit (s := S32x1024x2048) (inOff b) S1x1024x1024.size (inOff_inb b)).set
theorem mem_BI (b : Fin 64) (y : S32x1024x2048.Idx) : y ∈ BI b ↔ 2 * (y 0).val + (y 2).val / 1024 = b.val := by
  rw [Rect.mem_set_unit]
  obtain ⟨e0, e1, e2⟩ := inOff_spec b
  have hb := b.isLt
  have h1 : (y 1).val < 1024 := (y 1).isLt
  have h2 : (y 2).val < 2048 := (y 2).isLt
  constructor
  · intro H
    have a0 : inOff b 0 ≤ (y 0).val ∧ (y 0).val < inOff b 0 + 1 := H 0
    have a1 : inOff b 1 ≤ (y 1).val ∧ (y 1).val < inOff b 1 + 1024 := H 1
    have a2 : inOff b 2 ≤ (y 2).val ∧ (y 2).val < inOff b 2 + 1024 := H 2
    omega
  · intro H i; fin_cases i
    · show inOff b 0 ≤ (y 0).val ∧ (y 0).val < inOff b 0 + 1; omega
    · show inOff b 1 ≤ (y 1).val ∧ (y 1).val < inOff b 1 + 1024; omega
    · show inOff b 2 ≤ (y 2).val ∧ (y 2).val < inOff b 2 + 1024; omega
theorem BI_disjoint : ∀ b b' : Fin 64, b ≠ b' → Disjoint (BI b) (BI b') := by
  intro s s' hne; rw [Finset.disjoint_left]; intro y hy hy'; rw [mem_BI] at hy hy'; exact hne (Fin.ext (hy.symm.trans hy'))
theorem BI_cover : (Finset.univ : Finset (Fin 64)).biUnion BI = Finset.univ := by
  ext y; simp only [Finset.mem_biUnion, Finset.mem_univ, true_and, iff_true]
  have h0 : (y 0).val < 32 := (y 0).isLt
  have h1 : (y 1).val < 1024 := (y 1).isLt
  have h2 : (y 2).val < 2048 := (y 2).isLt
  exact ⟨⟨2 * (y 0).val + (y 2).val / 1024, by omega⟩, by rw [mem_BI]⟩

abbrev BO (b : Fin 64) : Finset S32x1024x1024.Idx := (Rect.unit (s := S32x1024x1024) (outOff b) S1x512x1024.size (outOff_inb b)).set
theorem mem_BO (b : Fin 64) (y : S32x1024x1024.Idx) : y ∈ BO b ↔ 2 * (y 0).val + (y 1).val / 512 = b.val := by
  rw [Rect.mem_set_unit]
  obtain ⟨e0, e1, e2⟩ := outOff_spec b
  have hb := b.isLt
  have h1 : (y 1).val < 1024 := (y 1).isLt
  have h2 : (y 2).val < 1024 := (y 2).isLt
  constructor
  · intro H
    have a0 : outOff b 0 ≤ (y 0).val ∧ (y 0).val < outOff b 0 + 1 := H 0
    have a1 : outOff b 1 ≤ (y 1).val ∧ (y 1).val < outOff b 1 + 512 := H 1
    have a2 : outOff b 2 ≤ (y 2).val ∧ (y 2).val < outOff b 2 + 1024 := H 2
    omega
  · intro H i; fin_cases i
    · show outOff b 0 ≤ (y 0).val ∧ (y 0).val < outOff b 0 + 1; omega
    · show outOff b 1 ≤ (y 1).val ∧ (y 1).val < outOff b 1 + 512; omega
    · show outOff b 2 ≤ (y 2).val ∧ (y 2).val < outOff b 2 + 1024; omega
theorem BO_disjoint : ∀ b b' : Fin 64, b ≠ b' → Disjoint (BO b) (BO b') := by
  intro s s' hne; rw [Finset.disjoint_left]; intro y hy hy'; rw [mem_BO] at hy hy'; exact hne (Fin.ext (hy.symm.trans hy'))
theorem BO_cover : (Finset.univ : Finset (Fin 64)).biUnion BO = Finset.univ := by
  ext y; simp only [Finset.mem_biUnion, Finset.mem_univ, true_and, iff_true]
  have h0 : (y 0).val < 32 := (y 0).isLt
  have h1 : (y 1).val < 1024 := (y 1).isLt
  have h2 : (y 2).val < 1024 := (y 2).isLt
  exact ⟨⟨2 * (y 0).val + (y 1).val / 512, by omega⟩, by rw [mem_BO]⟩

omit [FloatOps F] in
theorem blkI_set (b : Fin 64) : (blkI b).view.set = BI b := (View.set_reshape _ _).trans (View.set_slice_whole _ _)
omit [FloatOps F] in
/-- The weights whole are their blocks. -/
theorem wholeI (c : Dev nD) (f : Buf (Elt F) ((c : Thread nD τ).loc main_v0)) :
    (((c : Thread nD τ).loc main_v0) ↦{fullShare} f : sProp 𝕄) = bigSep Finset.univ (homeI c f) := by
  rw [Ring.pointsTo_blocks (ℓ := (c : Thread nD τ).loc main_v0) BI BI_disjoint BI_cover]
  exact bigSep_congr fun b _ => by rw [← blkI_set]; rfl

omit [FloatOps F] in
theorem blkG_set (b : Fin 64) : (blkG b).view.set = BO b := (View.set_reshape _ _).trans (View.set_slice_whole _ _)
omit [FloatOps F] in
/-- The even result whole is its blocks. -/
theorem wholeG (c : Dev nD) (f : Buf (Elt F) ((c : Thread nD τ).loc main_v20_0)) :
    (((c : Thread nD τ).loc main_v20_0) ↦{fullShare} f : sProp 𝕄) = bigSep Finset.univ (homeG c f) := by
  rw [Ring.pointsTo_blocks (ℓ := (c : Thread nD τ).loc main_v20_0) BO BO_disjoint BO_cover]
  exact bigSep_congr fun b _ => by rw [← blkG_set]; rfl

omit [FloatOps F] in
theorem blkL_set (b : Fin 64) : (blkL b).view.set = BO b := (View.set_reshape _ _).trans (View.set_slice_whole _ _)
omit [FloatOps F] in
/-- The odd result whole is its blocks. -/
theorem wholeL (c : Dev nD) (f : Buf (Elt F) ((c : Thread nD τ).loc main_v20_1)) :
    (((c : Thread nD τ).loc main_v20_1) ↦{fullShare} f : sProp 𝕄) = bigSep Finset.univ (homeL c f) := by
  rw [Ring.pointsTo_blocks (ℓ := (c : Thread nD τ).loc main_v20_1) BO BO_disjoint BO_cover]
  exact bigSep_congr fun b _ => by rw [← blkL_set]; rfl
theorem slotI_set (s) : (slotI s).view.set = SI s := (View.set_reshape _ _).trans (View.set_slice_whole _ _)
theorem slotG_set (s) : (slotG s).view.set = SO s := (View.set_reshape _ _).trans (View.set_slice_whole _ _)
theorem slotL_set (s) : (slotL s).view.set = SO s := (View.set_reshape _ _).trans (View.set_slice_whole _ _)

omit [FloatOps F] in
theorem atI_eq (c : Dev nD) (s : Fin 3) (f) : atI c s f = (((c : Thread nD τ).loc cc0_scoped0) ↦[SI s]{fullShare} f : sProp 𝕄) :=
  congrArg (fun S => (_ ↦[S]{fullShare} f : sProp 𝕄)) (slotI_set s)
omit [FloatOps F] in
/-- The ring's buffer whole is its slots. -/
theorem splitI (c : Dev nD) :
    iprop(∃ f : Buf (Elt F) ((c : Thread nD τ).loc cc0_scoped0), ((c : Thread nD τ).loc cc0_scoped0) ↦{fullShare} f)
      ⊢ (bigSep Finset.univ (fun s : Fin 3 => iprop(∃ f, atI c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scoped0) SI SI_disjoint SI_cover f)) $$ H
  have h : (bigSep Finset.univ (fun s : Fin 3 => (((c : Thread nD τ).loc cc0_scoped0) ↦[SI s]{fullShare} f : sProp 𝕄))) ⊢ bigSep Finset.univ (fun s : Fin 3 => iprop(∃ f, atI c s f)) :=
    bigSep_mono fun s _ => (show ((((c : Thread nD τ).loc cc0_scoped0) ↦[SI s]{fullShare} f : sProp 𝕄)) ⊢ iprop(∃ f, atI c s f) from by
      iintro H; iexists f; iapply (entails_of_eq (atI_eq c s f).symm); iexact H)
  iapply h
  iexact H2
/-- The ring's slots are its buffer whole. -/
theorem joinI (c : Dev nD) :
    (bigSep Finset.univ (fun s : Fin 3 => iprop(∃ f, atI c s f)) : sProp 𝕄)
      ⊢ iprop(∃ f : Buf (Elt F) ((c : Thread nD τ).loc cc0_scoped0), ((c : Thread nD τ).loc cc0_scoped0) ↦{fullShare} f) := by
  iintro H
  iapply (Ring.pointsTo_blocks_join_exists (ℓ := (c : Thread nD τ).loc cc0_scoped0) SI SI_disjoint SI_cover ((slotI 0).view.junk))
  have h : (bigSep Finset.univ (fun s : Fin 3 => iprop(∃ f, atI (F := F) c s f)) : sProp 𝕄) ⊢ bigSep Finset.univ (fun s : Fin 3 => iprop(∃ f, ((c : Thread nD τ).loc cc0_scoped0) ↦[SI s]{fullShare} f)) :=
    bigSep_mono fun s _ => (show iprop(∃ f, atI (F := F) c s f) ⊢ iprop(∃ f, ((c : Thread nD τ).loc cc0_scoped0) ↦[SI s]{fullShare} f) from by
      iintro ⟨%f, H⟩; iexists f; iapply (entails_of_eq (atI_eq c s f)); iexact H)
  iapply h
  iexact H

omit [FloatOps F] in
theorem atG_eq (c : Dev nD) (s : Fin 2) (f) : atG c s f = (((c : Thread nD τ).loc cc0_scoped2) ↦[SO s]{fullShare} f : sProp 𝕄) :=
  congrArg (fun S => (_ ↦[S]{fullShare} f : sProp 𝕄)) (slotG_set s)
omit [FloatOps F] in
/-- The ring's buffer whole is its slots. -/
theorem splitG (c : Dev nD) :
    iprop(∃ f : Buf (Elt F) ((c : Thread nD τ).loc cc0_scoped2), ((c : Thread nD τ).loc cc0_scoped2) ↦{fullShare} f)
      ⊢ (bigSep Finset.univ (fun s : Fin 2 => iprop(∃ f, atG c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scoped2) SO SO_disjoint SO_cover f)) $$ H
  have h : (bigSep Finset.univ (fun s : Fin 2 => (((c : Thread nD τ).loc cc0_scoped2) ↦[SO s]{fullShare} f : sProp 𝕄))) ⊢ bigSep Finset.univ (fun s : Fin 2 => iprop(∃ f, atG c s f)) :=
    bigSep_mono fun s _ => (show ((((c : Thread nD τ).loc cc0_scoped2) ↦[SO s]{fullShare} f : sProp 𝕄)) ⊢ iprop(∃ f, atG c s f) from by
      iintro H; iexists f; iapply (entails_of_eq (atG_eq c s f).symm); iexact H)
  iapply h
  iexact H2
/-- The ring's slots are its buffer whole. -/
theorem joinG (c : Dev nD) :
    (bigSep Finset.univ (fun s : Fin 2 => iprop(∃ f, atG c s f)) : sProp 𝕄)
      ⊢ iprop(∃ f : Buf (Elt F) ((c : Thread nD τ).loc cc0_scoped2), ((c : Thread nD τ).loc cc0_scoped2) ↦{fullShare} f) := by
  iintro H
  iapply (Ring.pointsTo_blocks_join_exists (ℓ := (c : Thread nD τ).loc cc0_scoped2) SO SO_disjoint SO_cover ((slotG 0).view.junk))
  have h : (bigSep Finset.univ (fun s : Fin 2 => iprop(∃ f, atG (F := F) c s f)) : sProp 𝕄) ⊢ bigSep Finset.univ (fun s : Fin 2 => iprop(∃ f, ((c : Thread nD τ).loc cc0_scoped2) ↦[SO s]{fullShare} f)) :=
    bigSep_mono fun s _ => (show iprop(∃ f, atG (F := F) c s f) ⊢ iprop(∃ f, ((c : Thread nD τ).loc cc0_scoped2) ↦[SO s]{fullShare} f) from by
      iintro ⟨%f, H⟩; iexists f; iapply (entails_of_eq (atG_eq c s f)); iexact H)
  iapply h
  iexact H

omit [FloatOps F] in
theorem atL_eq (c : Dev nD) (s : Fin 2) (f) : atL c s f = (((c : Thread nD τ).loc cc0_scoped4) ↦[SO s]{fullShare} f : sProp 𝕄) :=
  congrArg (fun S => (_ ↦[S]{fullShare} f : sProp 𝕄)) (slotL_set s)
omit [FloatOps F] in
/-- The ring's buffer whole is its slots. -/
theorem splitL (c : Dev nD) :
    iprop(∃ f : Buf (Elt F) ((c : Thread nD τ).loc cc0_scoped4), ((c : Thread nD τ).loc cc0_scoped4) ↦{fullShare} f)
      ⊢ (bigSep Finset.univ (fun s : Fin 2 => iprop(∃ f, atL c s f)) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scoped4) SO SO_disjoint SO_cover f)) $$ H
  have h : (bigSep Finset.univ (fun s : Fin 2 => (((c : Thread nD τ).loc cc0_scoped4) ↦[SO s]{fullShare} f : sProp 𝕄))) ⊢ bigSep Finset.univ (fun s : Fin 2 => iprop(∃ f, atL c s f)) :=
    bigSep_mono fun s _ => (show ((((c : Thread nD τ).loc cc0_scoped4) ↦[SO s]{fullShare} f : sProp 𝕄)) ⊢ iprop(∃ f, atL c s f) from by
      iintro H; iexists f; iapply (entails_of_eq (atL_eq c s f).symm); iexact H)
  iapply h
  iexact H2
/-- The ring's slots are its buffer whole. -/
theorem joinL (c : Dev nD) :
    (bigSep Finset.univ (fun s : Fin 2 => iprop(∃ f, atL c s f)) : sProp 𝕄)
      ⊢ iprop(∃ f : Buf (Elt F) ((c : Thread nD τ).loc cc0_scoped4), ((c : Thread nD τ).loc cc0_scoped4) ↦{fullShare} f) := by
  iintro H
  iapply (Ring.pointsTo_blocks_join_exists (ℓ := (c : Thread nD τ).loc cc0_scoped4) SO SO_disjoint SO_cover ((slotL 0).view.junk))
  have h : (bigSep Finset.univ (fun s : Fin 2 => iprop(∃ f, atL (F := F) c s f)) : sProp 𝕄) ⊢ bigSep Finset.univ (fun s : Fin 2 => iprop(∃ f, ((c : Thread nD τ).loc cc0_scoped4) ↦[SO s]{fullShare} f)) :=
    bigSep_mono fun s _ => (show iprop(∃ f, atL (F := F) c s f) ⊢ iprop(∃ f, ((c : Thread nD τ).loc cc0_scoped4) ↦[SO s]{fullShare} f) from by
      iintro ⟨%f, H⟩; iexists f; iapply (entails_of_eq (atL_eq c s f)); iexact H)
  iapply h
  iexact H

omit [FloatOps F] in
theorem three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
omit [FloatOps F] in
theorem two (Φ : Fin 2 → sProp 𝕄) : bigSep Finset.univ Φ = iprop(Φ 0 ∗ Φ 1) :=
  bigSep_univ_eq_bigSepL [(0 : Fin 2), (1 : Fin 2)] (by decide) (by decide) Φ

/-! ## The kernel's own cells -/

/-- The three input cells, then the even result's two, then the odd one's two. -/
abbrev osem : Fin 7 → SemLoc sig := ![.dma (csmI 0).sem, .dma (csmI 1).sem, .dma (csmI 2).sem, .dma (csmG 0).sem, .dma (csmG 1).sem, .dma (csmL 0).sem, .dma (csmL 1).sem]
theorem ownSemFacts : Pipeline.OwnSemFacts spec0 osem := by decide
omit [FloatOps F] in
/-- The kernel's own cells at zero are the slots' cells. -/
theorem ownSems0_eq (c : Dev nD) : (Pipeline.ownSems0 (Ix := Unit) (Name := ℕ) (U := UU nD τ) (Lvl := ℕ) (Val := Elt F) (τ := τ) osem c : sProp 𝕄)
    = iprop(cellI c 0 ∗ cellI c 1 ∗ cellI c 2 ∗ cellG c 0 ∗ cellG c 1 ∗ cellL c 0 ∗ cellL c 1) := by
  unfold Pipeline.ownSems0
  rw [bigSep_univ_eq_bigSepL [(0 : Fin 7), (1 : Fin 7), (2 : Fin 7), (3 : Fin 7), (4 : Fin 7), (5 : Fin 7), (6 : Fin 7)] (by decide) (by decide)]
  rfl

/-! ## The routed arrays -/

abbrev RR : Finset (Ref sig .tc) := {main_v0, main_v20_0, main_v20_1}
theorem RR_sub : RR ⊆ Pipeline.restRefs sig spec0 := by
  intro b hb
  simp only [RR, Finset.mem_insert, Finset.mem_singleton] at hb
  rcases hb with rfl | rfl | rfl <;> exact Pipeline.mem_restRefs_of _ (by decide) (by decide)
omit [FloatOps F] in
theorem routed_eq (c : Dev nD) (W : (b : Ref sig .tc) → Buf (Elt F) ((c.tc : Thread nD τ).loc b)) :
    (Pipeline.routed (τ := τ) RR c W : sProp 𝕄) = iprop(bigSep Finset.univ (homeI c (W main_v0)) ∗ bigSep Finset.univ (homeG c (W main_v20_0)) ∗ bigSep Finset.univ (homeL c (W main_v20_1))) := by
  unfold Pipeline.routed RR
  rw [bigSep_cons (by decide), bigSep_cons (by decide), bigSep_singleton, wholeI, wholeG, wholeL]

omit [FloatOps F] in
/-- What surrounds the body is what it owns, and its generator register. -/
theorem ends_eq (c : Dev nD) (W : (b : Ref sig .tc) → Buf (Elt F) ((c.tc : Thread nD τ).loc b)) :
    (Pipeline.Ends (τ := τ) spec0 osem RR c W : sProp 𝕄) ⊢ iprop(ownAt c (W main_v0) (W main_v20_0) (W main_v20_1) ∗ ∃ r, prngReg c r) := by
  unfold Pipeline.Ends ownAt freeI freeG freeL
  rw [routed_eq, ownSems0_eq, scopedRest0_eq]
  iintro ⟨⟨HX, HG, HL⟩, ⟨C0, C1, C2, D0, D1, E0, E1⟩, ⟨BI, BG, BL⟩, HP⟩
  ihave BI' := ((splitI c).trans (entails_of_eq (three _))) $$ BI
  icases BI' with ⟨I0, I1, I2⟩
  ihave BG' := ((splitG c).trans (entails_of_eq (two _))) $$ BG
  icases BG' with ⟨G0, G1⟩
  ihave BL' := ((splitL c).trans (entails_of_eq (two _))) $$ BL
  icases BL' with ⟨L0, L1⟩
  isplitr [HP]; rotate_left 1; · iexact HP
  isplitl [HX]; · iexact HX
  isplitl [HG]; · iexact HG
  isplitl [HL]; · iexact HL
  isplitl [I0 C0]; · isplitl [I0]; · iexact I0
                     iexact C0
  isplitl [I1 C1]; · isplitl [I1]; · iexact I1
                     iexact C1
  isplitl [I2 C2]; · isplitl [I2]; · iexact I2
                     iexact C2
  isplitl [G0 D0]; · isplitl [G0]; · iexact G0
                     iexact D0
  isplitl [G1 D1]; · isplitl [G1]; · iexact G1
                     iexact D1
  isplitl [L0 E0]; · isplitl [L0]; · iexact L0
                     iexact E0
  isplitl [L1]; · iexact L1
  iexact E1
/-- What the body leaves is what surrounds it. -/
theorem ends_of (c : Dev nD) (W : (b : Ref sig .tc) → Buf (Elt F) ((c.tc : Thread nD τ).loc b)) :
    iprop(ownAt c (W main_v0) (W main_v20_0) (W main_v20_1) ∗ ∃ r, prngReg c r) ⊢ (Pipeline.Ends (τ := τ) spec0 osem RR c W : sProp 𝕄) := by
  unfold Pipeline.Ends ownAt freeI freeG freeL
  rw [routed_eq, ownSems0_eq, scopedRest0_eq]
  iintro ⟨⟨HX, HG, HL, ⟨I0, C0⟩, ⟨I1, C1⟩, ⟨I2, C2⟩, ⟨G0, D0⟩, ⟨G1, D1⟩, ⟨L0, E0⟩, ⟨L1, E1⟩⟩, HP⟩
  isplitl [HX HG HL]
  · isplitl [HX]; · iexact HX
    isplitl [HG]; · iexact HG
    iexact HL
  isplitl [C0 C1 C2 D0 D1 E0 E1]
  · isplitl [C0]; · iexact C0
    isplitl [C1]; · iexact C1
    isplitl [C2]; · iexact C2
    isplitl [D0]; · iexact D0
    isplitl [D1]; · iexact D1
    isplitl [E0]; · iexact E0
    iexact E1
  isplitr [HP]; rotate_left 1; · iexact HP
  isplitl [I0 I1 I2]
  · iapply ((entails_of_eq (three _).symm).trans (joinI c))
    isplitl [I0]; · iexact I0
    isplitl [I1]; · iexact I1
    iexact I2
  isplitl [G0 G1]
  · iapply ((entails_of_eq (two _).symm).trans (joinG c))
    isplitl [G0]; · iexact G0
    iexact G1
  iapply ((entails_of_eq (two _).symm).trans (joinL c))
  isplitl [L0]; · iexact L0
  iexact L1

end Cert.Proof.Prep

end
-- ==== Proof.Launched.lean ====
/-
  The run of the whole program, and what it leaves in the two results.
-/
module

public import proofs.«01_k».proof.Proof.Blocks

@[expose] public section

noncomputable section

namespace Cert.Proof.Prep

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Launch
variable (m : (ℓ : Loc nD τ sig) → Buf (Elt F) ℓ) (ρ : Dev nD → PrngReg)

abbrev st0 (t : Fin cfg0.N) : Memref sig .tc .vmem S1024x1024 .bf16 := win0_0.stage (cfg0.slots t 0)
abbrev hst0 (t : Fin cfg0.N) : (st0 t).IsWhole := hstage0_0 0

/-- The selection matrix as the body reads it. -/
def selOf (c : Dev nD) : Vec F S1024x1024 .bf16 := iblk m c 0 t0_0
/-- The selection matrix a staging buffer holding the block is read as. -/
theorem selV_rep (c : Dev nD) (t : Fin cfg0.N) : selV c (st0 t) ((st0 t).view.rep (iblk m c 0 t)) = selOf m c := by
  obtain rfl := fin_N0 t
  funext j
  unfold selV selOf
  rw [View.readAt_apply, View.read_rep]
  refine congrArg (iblk m c 0 t0_0) (funext fun a => Fin.ext ?_)
  fin_cases a
  · exact (ValueKit.rect_emb_unit_val (s := S1024x1024) ![0, 0] S1024x1024.size inb_S1024x1024_S1024x1024_0_0 j 0).trans (Nat.zero_add _)
  · exact (ValueKit.rect_emb_unit_val (s := S1024x1024) ![0, 0] S1024x1024.size inb_S1024x1024_S1024x1024_0_0 j 1).trans (Nat.zero_add _)

/-- The even result the program leaves. -/
abbrev evenR (c : Dev nD) : Buf (Elt F) ((c : Thread nD τ).loc main_v20_0) := evenOf c (V m c main_v0) (selOf m c)
/-- The odd result the program leaves. -/
abbrev oddR (c : Dev nD) : Buf (Elt F) ((c : Thread nD τ).loc main_v20_1) := oddOf c (V m c main_v0) (selOf m c)

/-- The buffers after the body. -/
def Y (c : Dev nD) : (b : Ref sig .tc) → Buf (Elt F) ((c.tc : Thread nD τ).loc b) :=
  Function.update (Function.update (V m c) main_v20_0 (evenR m c)) main_v20_1 (oddR m c)
theorem Y_v0 (c : Dev nD) : Y m c main_v0 = V m c main_v0 := by
  unfold Y; rw [Function.update_of_ne (by decide), Function.update_of_ne (by decide)]
theorem Y_v20_0 (c : Dev nD) : Y m c main_v20_0 = evenR m c := by
  unfold Y; rw [Function.update_of_ne (by decide), Function.update_self]
theorem Y_v20_1 (c : Dev nD) : Y m c main_v20_1 = oddR m c := by
  unfold Y; rw [Function.update_self]

/-- What the body owns before point `n`. -/
def ΦAt (c : Dev nD) (n : ℕ) : sProp 𝕄 :=
  if n = 0 then iprop(ownAt c (V m c main_v0) (V m c main_v20_0) (V m c main_v20_1) ∗ ∃ r, prngReg c r)
  else iprop(ownAt c (V m c main_v0) (evenR m c) (oddR m c) ∗ ∃ r, prngReg c r)

theorem ΦAt_zero (c : Dev nD) : ΦAt m c 0 = iprop(ownAt c (V m c main_v0) (V m c main_v20_0) (V m c main_v20_1) ∗ ∃ r, prngReg c r) := if_pos rfl
theorem ΦAt_pos (c : Dev nD) {n : ℕ} (h : n ≠ 0) : ΦAt m c n = iprop(ownAt c (V m c main_v0) (evenR m c) (oddR m c) ∗ ∃ r, prngReg c r) := if_neg h

/-- The launch's proof data. -/
def dats (_ : Fin 1) (c : Dev nD) : Dat τ (Elt F) Unit ℕ (UU nD τ) ℕ cfg0 c where
  A w := V m c (Pipeline.arrRef spec0 w)
  after w t := match w with
    | ⟨0, _⟩ => iblk m c 0 t
  Φ i := ΦAt m c i.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

theorem Φ_before (c : Dev nD) (t : Fin cfg0.N) : (dats m 0 c).Φ t.castSucc = iprop(ownAt c (V m c main_v0) (V m c main_v20_0) (V m c main_v20_1) ∗ ∃ r, prngReg c r) := by
  obtain rfl := fin_N0 t; exact ΦAt_zero m c
theorem Φ_after (c : Dev nD) (t : Fin cfg0.N) : (dats m 0 c).Φ t.succ = iprop(ownAt c (V m c main_v0) (evenR m c) (oddR m c) ∗ ∃ r, prngReg c r) := by
  exact ΦAt_pos m c (Nat.succ_ne_zero t.val)

set_option backward.isDefEq.respectTransparency.types false in
/-- The body does what the launch asks at its one point. -/
theorem body_obligation (c : Dev nD) : BodyObligation (dats (F := F) m 0 c) (defs₀ (F := F)) 𝒱₀ () Set.univ := fun t => by
  rw [bigSep_W0, bigSep_W0]
  dsimp only
  simp only [before_w0, after_w0]
  rw [Φ_before, Φ_after]
  unfold Dat.owesAt Pipeline.owesWithin
  rw [show (dats m 0 c).owed t.castSucc = 0 from rfl, show (dats m 0 c).owed t.succ = 0 from rfl]
  unfold owns
  iintro ⟨⟨HO, HP⟩, ⟨%W, -, HW⟩, ⟨%d0, %g0, %hg0, HS⟩⟩
  ihave HS' := (pointsTo_rep_entails (c : Thread nD τ) (st0 t) g0 fullShare) $$ HS
  rw [hg0]
  sl_rw [prog_eq t]
  iapply (bodyRun c (V m c main_v0) (st0 t) (hst0 t) (V m c main_v20_0) (V m c main_v20_1) ((st0 t).view.rep (iblk m c 0 t)))
  isplitl [HS' HO HW]
  · isplitl [HS']; · iexact HS'
    isplitl [HW]; · iexists W; iexact HW
    iexact HO
  · unfold GG LL
    rw [selV_rep]
    iintro ⟨HS, ⟨%W', HW⟩, HO⟩
    isplitl [HO HP]
    · isplitl [HO]; · iexact HO
      iexact HP
    isplitl [HW]
    · iexists W'; isplitr; · ipureintro; exact fun _ _ => Or.inl trivial
      iexact HW
    iexists _; isplitr; · ipureintro; exact View.read_rep _ _
    iexact HS

set_option maxHeartbeats 800000 in
theorem hmain' : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- The whole program: every execution ends, with the two results what the blocks make, the argument as it was, every counter at zero. -/
theorem run_main : θ_run defs (onTc (τ := τ) (main (F := F))) ⟨m, fun _ => 0, ρ⟩ (fun r =>
    (∀ c : Dev nD, r.2.mem ((c : Thread nD τ).loc main_v20_0) = evenR m c ∧ r.2.mem ((c : Thread nD τ).loc main_v20_1) = oddR m c
      ∧ r.2.mem ((c : Thread nD τ).loc main_arg0) = m ((c : Thread nD τ).loc main_arg0)) ∧ r.2.sem = fun _ => 0) :=
  Pipeline.θ_run_frame_routed cfgs (dats m) (0 : Fin 1) launch0 ownSemFacts defs₀ 𝒱₀ m ρ main
    (hbody := fun c => (body_obligation m c).loose) (hshare := fun c => (dats m 0 c).share_full fun _ => rfl)
    (howed := fun _ _ => rfl) (V := V m) (hmain := hmain' m) (hA := fun _ _ => rfl) (R := RR) (hR := RR_sub) (Y := Y m)
    (hin := fun c => (ends_eq c (V m c)).trans (entails_of_eq (ΦAt_zero m c).symm))
    (hout := fun c => (entails_of_eq (show (dats m 0 c).Φ (Fin.last cfg0.N) = iprop(ownAt c (Y m c main_v0) (Y m c main_v20_0) (Y m c main_v20_1) ∗ ∃ r, prngReg c r) by
      rw [Y_v0, Y_v20_0, Y_v20_1]; exact ΦAt_pos m c (n := cfg0.N) (by rw [show cfg0.N = 1 from N_0]; decide))).trans (ends_of c (Y m c)))
    (Q' := _)
    (hQ' := fun r h => ⟨fun c =>
      ⟨((h.1 c).2.1 main_v20_0 (by decide)).trans (Y_v20_0 m c), ((h.1 c).2.1 main_v20_1 (by decide)).trans (Y_v20_1 m c),
        ((h.1 c).2.2 main_arg0 (Finset.mem_sdiff.mpr ⟨Pipeline.mem_restRefs_of main_arg0 (by decide) (by decide), by decide⟩)).trans (V_main_arg0 m c)⟩, h.2⟩)

end Launch

end Cert.Proof.Prep

end
-- ==== Proof.Value.lean ====
/-
  Over the extended reals: the product with the selection matrix picks one column of the block, so the two results are
  the even and the odd columns of the weights, transposed.
-/
module

public import proofs.«01_k».proof.Proof.Launched
public import proofs.«01_k».proof.Proof.Gen.ReferenceIdeal.Run
public import Idealize.ShloMosaic.Lib.Pointwise
public import Idealize.ShloMosaic.Lib.Claim

@[expose] public section

set_option maxRecDepth 16384

noncomputable section

namespace Cert.Proof.Prep

open Cert.KernelIdeal Cert.KernelIdeal.Gen
open Idealize.ShloMosaic
open Idealize.ShloMosaic.TcCoe

/-! ## The host's two arrays -/

section Host
variable {F : FTy → Type} [FloatOps F] (m : (ℓ : Loc nD τ sig) → Buf (Elt F) ℓ)

/-- The column of a block that row `r` of the selection matrix picks. -/
def pick (r : ℕ) : ℕ := if r < 512 then 2 * r else 2 * (r - 512) + 1

/-- The word the host compares with a column's number. -/
def pickW (r : BitVec 32) : BitVec 32 := Scalar.select (Scalar.cmpi .slt r 512#32) (2#32 * r) (2#32 * (r - 512#32) + 1#32)
theorem pickW_eq : ∀ r : Fin 1024, pickW (BitVec.ofNat 32 r.val) = BitVec.ofNat 32 (pick r.val) := by decide +kernel

/-- The weights as the region finds them. -/
theorem V_v0 (c : Dev nD) : V m c main_v0 = shapeCast _ (m ((c : Thread nD τ).loc main_arg0)) shapeCasts_S1x32x1024x2048_S32x1024x2048 := by
  dsimp only [V, hostOps0, hostOps0_1, hostOps0_2, List.flatten_cons, List.flatten_nil, List.append_nil, List.cons_append, List.nil_append]
  after_results_simp
  rfl

/-- The selection matrix, element by element. -/
theorem V_v19 (c : Dev nD) (r x : Fin 1024) :
    V m c main_v19 (ix2 r x) = FloatOps.uitofp .bf16 (Scalar.cmpi .eq (pickW (BitVec.ofNat 32 r.val)) (BitVec.ofNat 32 x.val)) := by
  dsimp only [V, hostOps0, hostOps0_1, hostOps0_2, List.flatten_cons, List.flatten_nil, List.append_nil, List.cons_append, List.nil_append]
  after_results_simp
  simp only [StableHlo.TRef.toBuf, StableHlo.TRef.ofBuf]
  pointwise [pickW]
  rfl

end Host

/-! ## The two results -/

section Results
variable (m : (ℓ : Loc nD τ sig) → Buf (Elt Ideal) ℓ)

/-- The selection matrix has a one at the column its row picks and zeros elsewhere. -/
theorem sel_apply (c : Dev nD) (r x : Fin 1024) : selOf m c (ix2 r x) = if x.val = pick r.val then (1 : EReal) else 0 := by
  have h : selOf m c (ix2 r x) = V m c main_v19 (ix2 r x) := by
    unfold selOf iblk
    rw [View.read_apply]
    show V m c main_v19 _ = V m c main_v19 _
    congr 1
    funext a
    refine Fin.ext ?_
    refine (Idealize.ShloMosaic.Pipeline.Window.rect_emb_val_of_index_zero win0_0 t0_0 a (by fin_cases a <;> rfl) _).trans rfl
  rw [h, V_v19, pickW_eq]
  have hp : pick r.val < 2048 := by unfold pick; split <;> omega
  by_cases hx : x.val = pick r.val
  · rw [if_pos hx, hx]
    simp [Scalar.cmpi, IntOp.cmpi, FloatOps.uitofp]
  · rw [if_neg hx]
    have hne : BitVec.ofNat 32 (pick r.val) ≠ BitVec.ofNat 32 x.val := by
      intro hc
      have := congrArg BitVec.toNat hc
      simp only [BitVec.toNat_ofNat] at this
      omega
    simp [Scalar.cmpi, IntOp.cmpi, FloatOps.uitofp, hne]

/-- A block's element is the weights' own. -/
theorem wblk_apply (c : Dev nD) (X : Buf (Elt Ideal) (wM.view.loc (c : Thread nD τ))) (b : Fin 64) (d x : Fin 1024) :
    wblk c X b (ix3 0 d x) = X (ix3 ⟨b.val / 2, by omega⟩ d ⟨1024 * (b.val % 2) + x.val, by omega⟩) := by
  unfold wblk
  rw [View.read_apply]
  refine congrArg X ?_
  funext a
  refine Fin.ext ?_
  refine (Idealize.ShloMosaic.ValueKit.rect_emb_unit_val (s := S32x1024x2048) _ _ (inOff_inb b) _ a).trans ?_
  obtain ⟨h0, h1, h2⟩ := inOff_spec b
  fin_cases a
  · exact (Nat.add_zero _).trans h0
  · exact (congrArg (· + d.val) h1).trans (Nat.zero_add _)
  · exact congrArg (· + x.val) h2

/-- The launched weights, read at an index: the argument's own. -/
theorem V_v0_apply (c : Dev nD) (e : Fin 32) (d : Fin 1024) (x : Fin 2048) :
    V m c main_v0 (ix3 e d x) = m ((c : Thread nD τ).loc main_arg0) (ix4 0 e d x) := by
  rw [V_v0]
  refine (shapeCast_dropUnit_apply ![32, 1024, 2048] _ _ (ix3 e d x)).trans (congrArg (m _) ?_)
  funext a
  fin_cases a <;> rfl

theorem ownPos_eq (i : S32x1024x1024.Idx) : ownPos i = ix3 0 ⟨(i 1).val % 512, Nat.mod_lt _ (by decide)⟩ (i 2) := by
  funext a; fin_cases a <;> rfl

/-- The product of the selection matrix with a block: row `r` is the picked column. -/
theorem pay1_apply (c : Dev nD) (w : Vec Ideal S1x1024x1024 .f32) (r d : Fin 1024) (h : pick r.val < 1024) :
    k0_pay1 (selOf m c) w (ix2 r d) = w (ix3 0 d ⟨pick r.val, h⟩) := by
  pointwise [k0_pay1]
  rw [Finset.sum_eq_single ⟨pick r.val, h⟩]
  · rw [sel_apply, if_pos rfl, one_mul]
  · intro x _ hx
    rw [sel_apply, if_neg (fun hc => hx (Fin.ext hc)), zero_mul]
  · intro hn; exact absurd (Finset.mem_univ _) hn

/-- The even result's elements. -/
theorem even_apply (c : Dev nD) (e : Fin 32) (f d : Fin 1024) :
    evenR m c (ix3 e f d) = m ((c : Thread nD τ).loc main_arg0) (ix4 0 e d ⟨2 * f.val, by omega⟩) := by
  unfold evenR evenOf
  rw [ownPos_eq]
  pointwise [k0_pay3, k0_pay2]
  rw [pay1_apply m c _ _ _ (by unfold pick; split <;> dsimp only at * <;> omega), wblk_apply, V_v0_apply]
  congr 1
  refine congr (congrArg (fun e' => ix4 0 e' d) (Fin.ext ?_)) (Fin.ext ?_)
  · show (2 * e.val + f.val / 512) / 2 = e.val
    omega
  · have hp : pick (f.val % 512) = 2 * (f.val % 512) := if_pos (Nat.mod_lt _ (by decide))
    show 1024 * ((2 * e.val + f.val / 512) % 2) + pick (f.val % 512) = 2 * f.val
    omega
/-- The odd result's elements. -/
theorem odd_apply (c : Dev nD) (e : Fin 32) (f d : Fin 1024) :
    oddR m c (ix3 e f d) = m ((c : Thread nD τ).loc main_arg0) (ix4 0 e d ⟨2 * f.val + 1, by omega⟩) := by
  unfold oddR oddOf
  rw [ownPos_eq]
  pointwise [k0_pay4]
  rw [pay1_apply m c _ _ _ (by unfold pick; split <;> dsimp only at * <;> omega), wblk_apply, V_v0_apply]
  congr 1
  refine congr (congrArg (fun e' => ix4 0 e' d) (Fin.ext ?_)) (Fin.ext ?_)
  · show (2 * e.val + f.val / 512) / 2 = e.val
    omega
  · have hp : pick (512 + f.val % 512) = 2 * (512 + f.val % 512 - 512) + 1 := if_neg (by omega)
    show 1024 * ((2 * e.val + f.val / 512) % 2) + pick (512 + f.val % 512) = 2 * f.val + 1
    omega

/-- A stride-two slice of the weights' last axis, transposed: element `(e, f, d)` is column `2 f + o` of row `d`. -/
theorem ref_apply (X : FVec Ideal S1x32x1024x2048 .f32) (o : Nat) (ho : o ≤ 1)
    (hs : S32x1024x2048.SlicesBy ![0, 0, o] ![1, 1, 2] S32x1024x1024) (hc : S1x32x1024x2048.ShapeCasts S32x1024x2048)
    (ht : S32x1024x1024.Transposes [0, 2, 1] S32x1024x1024) (e : Fin 32) (f d : Fin 1024) :
    transpose S32x1024x1024 [0, 2, 1] (Host.slice S32x1024x1024 ![0, 0, o] ![1, 1, 2] (shapeCast S32x1024x2048 X hc) hs) ht (ix3 e f d)
      = X (ix4 0 e d ⟨2 * f.val + o, by omega⟩) := by
  have h : transpose S32x1024x1024 [0, 2, 1] (Host.slice S32x1024x1024 ![0, 0, o] ![1, 1, 2] (shapeCast S32x1024x2048 X hc) hs) ht (ix3 e f d)
      = shapeCast S32x1024x2048 X hc (ix3 e d ⟨2 * f.val + o, by omega⟩) := by
    generalize shapeCast S32x1024x2048 X hc = Y
    pointwise
    exact congrArg (fun x => Y (ix3 e d x)) (Fin.ext (Nat.add_comm _ _))
  refine h.trans ((shapeCast_dropUnit_apply ![32, 1024, 2048] _ _ _).trans (congrArg X ?_))
  funext a
  fin_cases a <;> rfl

/-- The reference's even columns of an argument that is the kernel's are the kernel's even result. -/
theorem even_ref (c : Dev nD) (X : FVec Ideal S1x32x1024x2048 .f32) (hX : X = m ((c : Thread nD τ).loc main_arg0))
    {hs : S32x1024x2048.SlicesBy ![0, 0, 0] ![1, 1, 2] S32x1024x1024} {hc : S1x32x1024x2048.ShapeCasts S32x1024x2048}
    {ht : S32x1024x1024.Transposes [0, 2, 1] S32x1024x1024} {hb} :
    (truncf (F := Ideal) .bf16 (transpose S32x1024x1024 [0, 2, 1] (Host.slice S32x1024x1024 ![0, 0, 0] ![1, 1, 2] (shapeCast S32x1024x2048 X hc) hs) ht) hb)
      = evenR m c := by
  subst hX
  funext j
  idx_vars j
  rw [even_apply]
  exact ref_apply _ 0 (by decide) hs hc ht _ _ _

/-- The reference's odd columns of an argument that is the kernel's are the kernel's odd result. -/
theorem odd_ref (c : Dev nD) (X : FVec Ideal S1x32x1024x2048 .f32) (hX : X = m ((c : Thread nD τ).loc main_arg0))
    {hs : S32x1024x2048.SlicesBy ![0, 0, 1] ![1, 1, 2] S32x1024x1024} {hc : S1x32x1024x2048.ShapeCasts S32x1024x2048}
    {ht : S32x1024x1024.Transposes [0, 2, 1] S32x1024x1024} {hb} :
    (truncf (F := Ideal) .bf16 (transpose S32x1024x1024 [0, 2, 1] (Host.slice S32x1024x1024 ![0, 0, 1] ![1, 1, 2] (shapeCast S32x1024x2048 X hc) hs) ht) hb)
      = oddR m c := by
  subst hX
  funext j
  idx_vars j
  rw [odd_apply]
  exact ref_apply _ 1 (by decide) hs hc ht _ _ _

end Results

end Cert.Proof.Prep

end
-- ==== Proof.Combine.lean ====
/-
  The weighted sum of the experts' outputs: block by block in the kernel, one sum over the four choices in the reference.
-/
module

public import proofs.«01_k».proof.Proof.Gen.Kernel2Ideal.Value
public import proofs.«01_k».proof.Proof.Gen.Reference2Ideal.Run
public import Idealize.ShloMosaic.Lib.Pointwise
public import Idealize.ShloMosaic.Lib.Claim
public import Idealize.ShloMosaic.Lib.Pipeline.ValueKit

@[expose] public section

set_option maxRecDepth 16384

noncomputable section

namespace Cert.Proof.Combine

open Cert.Kernel2Ideal Cert.Kernel2Ideal.Gen Cert.Kernel2Ideal.Value
open Idealize.ShloMosaic Idealize.ShloMosaic.TcCoe

/-- The combined row: the residual plus the four experts' rows, each times its gate. -/
def combined (h : FVec Ideal S32768x1024 .f32) (y : FVec Ideal S4x32768x1024 .bf16) (g : FVec Ideal S32768x4 .f32) :
    FVec Ideal S32768x1024 .f32 := fun i => (h i : EReal) + ∑ k : Fin 4, (g (ix2 (i 0) k) : EReal) * y (ix3 k (i 0) (i 1))

section Ref

/-- The reference's term is the combined array. -/
theorem ref_eq (h : FVec Ideal S32768x1024 .f32) (y : FVec Ideal S4x32768x1024 .bf16) (g : FVec Ideal S32768x4 .f32)
    {h1 h2 h3 h4} {h5 : S4x32768x1024.ReducesTo [0] S32768x1024} {h6} :
    addf h (Host.reduceAdd (F := Ideal) (mulf (broadcastInDim S4x32768x1024 ![0, 1, 2] h1 (broadcastInDim Cert.Reference2Ideal.S4x32768x1 ![0, 1] h2 (transpose Cert.Reference2Ideal.S4x32768 [1, 0] g h3))) (extf .f32 y h4)) (constant (F := Ideal) Cert.Reference2Ideal.S_ .f32 0x00000000#32) h5 h6)
      = combined h y g := by
  funext i
  idx_vars i
  unfold combined
  pointwise

end Ref

variable (m : (ℓ : Loc nD τ sig) → Buf (Elt Ideal) ℓ)

/-- The windows' block numbers along the rows are the grid point. -/
theorem idx0 : ∀ t : Fin grid0.N, win0_0.index t 0 = t.val ∧ win0_0.index t 1 = 0 := by decide +kernel
theorem idx1 : ∀ t : Fin grid0.N, win0_1.index t 0 = 0 ∧ win0_1.index t 1 = t.val ∧ win0_1.index t 2 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

/-- The row of the array that row `a` of block `t` is. -/
def row (t : Fin grid0.N) (a : Fin 512) : Fin 32768 := ⟨512 * t.val + a.val, by have := t.isLt; have h : grid0.N = 64 := N_0; omega⟩

/-- A block of the residual. -/
theorem blk0 (c : Dev nD) (t : Fin cfg0.N) (a : Fin 512) (b : Fin 1024) :
    iblk m c 0 t (ix2 a b) = m ((c : Thread nD τ).loc main_arg0) (ix2 (row t a) b) := by
  unfold iblk
  rw [View.read_apply]
  show V m c main_arg0 _ = _
  rw [V_main_arg0]
  congr 1
  funext x
  refine Fin.ext ?_
  refine (Idealize.ShloMosaic.Pipeline.Window.rect_emb_val win0_0 t _ x).trans ?_
  fin_cases x
  · exact (congrArg (· * 512 + a.val) (idx0 t).1).trans (congrArg (· + a.val) (Nat.mul_comm _ _))
  · exact (congrArg (· * 1024 + b.val) (idx0 t).2).trans ((congrArg (· + b.val) (Nat.zero_mul _)).trans (Nat.zero_add _))

/-- A block of the experts' rows. -/
theorem blk1 (c : Dev nD) (t : Fin cfg0.N) (k : Fin 4) (a : Fin 512) (b : Fin 1024) :
    iblk m c 1 t (ix3 k a b) = m ((c : Thread nD τ).loc main_arg1) (ix3 k (row t a) b) := by
  unfold iblk
  rw [View.read_apply]
  show V m c main_arg1 _ = _
  rw [V_main_arg1]
  congr 1
  funext x
  refine Fin.ext ?_
  refine (Idealize.ShloMosaic.Pipeline.Window.rect_emb_val win0_1 t _ x).trans ?_
  fin_cases x
  · exact (congrArg (· * 4 + k.val) (idx1 t).1).trans ((congrArg (· + k.val) (Nat.zero_mul _)).trans (Nat.zero_add _))
  · exact (congrArg (· * 512 + a.val) (idx1 t).2.1).trans (congrArg (· + a.val) (Nat.mul_comm _ _))
  · exact (congrArg (· * 1024 + b.val) (idx1 t).2.2).trans ((congrArg (· + b.val) (Nat.zero_mul _)).trans (Nat.zero_add _))

/-- A block of the gates. -/
theorem blk2 (c : Dev nD) (t : Fin cfg0.N) (a : Fin 512) (k : Fin 4) :
    iblk m c 2 t (ix2 a k) = m ((c : Thread nD τ).loc main_arg2) (ix2 (row t a) k) := by
  unfold iblk
  rw [View.read_apply]
  show V m c main_arg2 _ = _
  rw [V_main_arg2]
  congr 1
  funext x
  refine Fin.ext ?_
  refine (Idealize.ShloMosaic.Pipeline.Window.rect_emb_val win0_2 t _ x).trans ?_
  fin_cases x
  · exact (congrArg (· * 512 + a.val) (idx2 t).1).trans (congrArg (· + a.val) (Nat.mul_comm _ _))
  · exact (congrArg (· * 4 + k.val) (idx2 t).2).trans ((congrArg (· + k.val) (Nat.zero_mul _)).trans (Nat.zero_add _))

/-- Where element `(a, b)` of the result's block `t` lies in the array. -/
theorem emb3 (t : Fin cfg0.N) (a : Fin 512) (b : Fin 1024) :
    ((cfg0.win 3).blk t).view.emb (ix2 a b) = ix2 (row t a) b := by
  funext x
  refine Fin.ext ?_
  refine (Idealize.ShloMosaic.Pipeline.Window.rect_emb_val win0_3 t _ x).trans ?_
  fin_cases x
  · exact (congrArg (· * 512 + a.val) (idx3 t).1).trans (congrArg (· + a.val) (Nat.mul_comm _ _))
  · exact (congrArg (· * 1024 + b.val) (idx3 t).2).trans ((congrArg (· + b.val) (Nat.zero_mul _)).trans (Nat.zero_add _))

/-- What the body leaves in a block, from the blocks it reads. -/
theorem out_apply (x0 : Vec Ideal S512x1024 .f32) (x1 : Vec Ideal S4x512x1024 .bf16) (x2 : Vec Ideal S512x4 .f32)
    (a : Fin 512) (b : Fin 1024) :
    out0_3 x0 x1 x2 (ix2 a b) = (x0 (ix2 a b) : EReal) + ∑ k : Fin 4, (x2 (ix2 a k) : EReal) * x1 (ix3 k a b) := by
  unfold out0_3
  rw [canon3_eq, Fin.sum_univ_four]
  have e0 : View.ld x0 r0_0 (ix3_0 (ix2 a b)) = x0 (ix2 a b) := congrArg x0 (by funext z; fin_cases z <;> exact Fin.ext ((Idealize.ShloMosaic.ValueKit.rect_emb_unit_val _ _ _ _ _).trans (by first | rfl | exact Nat.zero_add _)))
  have g0 : View.ld x2 r0_1 (ix3_1 (ix2 a b)) = x2 (ix2 a 0) := congrArg x2 (by funext z; fin_cases z <;> exact Fin.ext ((Idealize.ShloMosaic.ValueKit.rect_emb_unit_val _ _ _ _ _).trans (by first | rfl | exact Nat.zero_add _)))
  have g1 : View.ld x2 r0_1 (ix3_3 (ix2 a b)) = x2 (ix2 a 1) := congrArg x2 (by funext z; fin_cases z <;> exact Fin.ext ((Idealize.ShloMosaic.ValueKit.rect_emb_unit_val _ _ _ _ _).trans (by first | rfl | exact Nat.zero_add _)))
  have g2 : View.ld x2 r0_1 (ix3_5 (ix2 a b)) = x2 (ix2 a 2) := congrArg x2 (by funext z; fin_cases z <;> exact Fin.ext ((Idealize.ShloMosaic.ValueKit.rect_emb_unit_val _ _ _ _ _).trans (by first | rfl | exact Nat.zero_add _)))
  have g3 : View.ld x2 r0_1 (ix3_7 (ix2 a b)) = x2 (ix2 a 3) := congrArg x2 (by funext z; fin_cases z <;> exact Fin.ext ((Idealize.ShloMosaic.ValueKit.rect_emb_unit_val _ _ _ _ _).trans (by first | rfl | exact Nat.zero_add _)))
  have y0 : View.ld x1 r0_2 (ix3_2 (ix2 a b)) = x1 (ix3 0 a b) := congrArg x1 (by funext z; fin_cases z <;> exact Fin.ext ((Idealize.ShloMosaic.ValueKit.rect_emb_unit_val _ _ _ _ _).trans (by first | rfl | exact Nat.zero_add _)))
  have y1 : View.ld x1 r0_3 (ix3_4 (ix2 a b)) = x1 (ix3 1 a b) := congrArg x1 (by funext z; fin_cases z <;> exact Fin.ext ((Idealize.ShloMosaic.ValueKit.rect_emb_unit_val _ _ _ _ _).trans (by first | rfl | exact Nat.zero_add _)))
  have y2 : View.ld x1 r0_4 (ix3_6 (ix2 a b)) = x1 (ix3 2 a b) := congrArg x1 (by funext z; fin_cases z <;> exact Fin.ext ((Idealize.ShloMosaic.ValueKit.rect_emb_unit_val _ _ _ _ _).trans (by first | rfl | exact Nat.zero_add _)))
  have y3 : View.ld x1 r0_5 (ix3_8 (ix2 a b)) = x1 (ix3 3 a b) := congrArg x1 (by funext z; fin_cases z <;> exact Fin.ext ((Idealize.ShloMosaic.ValueKit.rect_emb_unit_val _ _ _ _ _).trans (by first | rfl | exact Nat.zero_add _)))
  unfold E3
  rw [e0, g0, g1, g2, g3, y0, y1, y2, y3]
  show (((x0 (ix2 a b) : EReal) + x2 (ix2 a 0) * x1 (ix3 0 a b) + x2 (ix2 a 1) * x1 (ix3 1 a b)) + x2 (ix2 a 2) * x1 (ix3 2 a b)) + x2 (ix2 a 3) * x1 (ix3 3 a b) = _
  rw [add_assoc, add_assoc, add_assoc, add_assoc, add_assoc]

/-- The result's elements. -/
theorem result_apply (c : Dev nD) (i : S32768x1024.Idx) :
    (dats m 0 c).arrAt 3 cfg0.N i = combined (m ((c : Thread nD τ).loc main_arg0)) (m ((c : Thread nD τ).loc main_arg1)) (m ((c : Thread nD τ).loc main_arg2)) i := by
  idx_vars i
  let t : Fin cfg0.N := ⟨i0.val / 512, by show _ < grid0.N; rw [N_0]; omega⟩
  let a : Fin 512 := ⟨i0.val % 512, Nat.mod_lt _ (by decide)⟩
  have hr : row t a = i0 := Fin.ext (Nat.div_add_mod _ _)
  have hb := congrFun (blocks3 m c t (flush0_3 t)) (ix2 a i1)
  rw [View.read_apply] at hb
  have he : ((cfg0.win 3).blk t).view.emb (ix2 a i1) = ix2 i0 i1 := by rw [emb3, hr]
  rw [he, flushed3] at hb
  refine hb.trans ?_
  show out0_3 (iblk m c 0 t) (iblk m c 1 t) (iblk m c 2 t) (ix2 a i1) = _
  rw [out_apply]
  unfold combined
  rw [blk0, hr]
  refine congrArg (fun s : EReal => HAdd.hAdd (α := EReal) _ s) (Finset.sum_congr rfl fun k _ => ?_)
  rw [blk1, blk2, hr]
  rfl

end Cert.Proof.Combine

end
-- ==== Proof.MoeBody.lean ====
/-
  The experts' kernel body at one grid point: the products of the block's expert when the block is in use, zeros otherwise.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.Proof.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of the blocks' experts, and the number of blocks in use, as the body is handed them. -/
abbrev tabE : Memref sig .tc .smem S288 .i32 := Memref.whole main_arg1
abbrev tabN : Memref sig .tc .smem S1 .i32 := Memref.whole main_arg2

/-- A table held at half the full share. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- The number of blocks in use, the one word of its table. -/
def usedOf (n : S1.Idx → BitVec 32) : BitVec 32 := n (fun a => ⟨0, by fin_cases a; decide⟩)

/-- The table of one word has one index. -/
theorem one_idx (a b : S1.Idx) : a = b := by
  funext z; fin_cases z; exact Subsingleton.elim (α := Fin 1) _ _

/-- What the body leaves in the result's block: the expert's products where the block is in use, zeros elsewhere. -/
def blockOut (i : grid0.Coords) (n : S1.Idx → BitVec 32) (x0 : Vec F S512x1024 .bf16) (x1 x2 : Vec F S1x1024x1024 .bf16)
    (x3 x4 : Vec F S1x1x1024 .f32) (x5 : Vec F S1x1024x1024 .f32) (x6 : Vec F S1x1x1024 .f32) : Vec F S512x1024 .bf16 :=
  if k0_cond1 i (usedOf n) = 1#1 then k0_pay1 (k0_pay3 x0 x1 x3 x2 x4 x5) x6 else k0_pay2

/-- A block is either in use or not: the second branch is taken exactly when the first is not. -/
theorem cond2_iff (i : grid0.Coords) (v : BitVec 32) : k0_cond2 i v = 1#1 ↔ ¬ k0_cond1 i v = 1#1 := by
  simp only [k0_cond1, k0_cond2, Scalar.cmpi, Scalar.extui, IntOp.cmpi, BitVec.sle, BitVec.slt]
  by_cases h : (BitVec.ofNat 32 (i 0).val).toInt < v.toInt
  · simp [h, not_le.mpr h]
  · simp [h, not_lt.mp h]

set_option maxHeartbeats 1000000 in
/-- The body at one point, from the windows' blocks to the result's block. -/
theorem run_body (c : Dev nD) (i : grid0.Coords)
    (a0 : Memref sig .tc .vmem S512x1024 .bf16) (h0 : a0.IsWhole) (a1 : Memref sig .tc .vmem S1x1024x1024 .bf16) (h1 : a1.IsWhole)
    (a2 : Memref sig .tc .vmem S1x1024x1024 .bf16) (h2 : a2.IsWhole) (a3 : Memref sig .tc .vmem S1x1x1024 .f32) (h3 : a3.IsWhole)
    (a4 : Memref sig .tc .vmem S1x1x1024 .f32) (h4 : a4.IsWhole) (a5 : Memref sig .tc .vmem S1x1024x1024 .f32) (h5 : a5.IsWhole)
    (a6 : Memref sig .tc .vmem S1x1x1024 .f32) (h6 : a6.IsWhole) (a7 : Memref sig .tc .vmem S512x1024 .bf16) (h7 : a7.IsWhole)
    (x0 : Vec F S512x1024 .bf16) (x1 x2 : Vec F S1x1024x1024 .bf16) (x3 x4 : Vec F S1x1x1024 .f32) (x5 : Vec F S1x1024x1024 .f32) (x6 : Vec F S1x1x1024 .f32)
    (e : Buf (Elt F) (tabE.view.loc (c : Thread nD τ))) (n : Buf (Elt F) (tabN.view.loc (c : Thread nD τ)))
    (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ held c tabE e ∗ held c tabN n
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (blockOut i n x0 x1 x2 x3 x4 x5 x6) ∗ held c tabE e ∗ held c tabN n) -∗ K ⟨⟩))
      ⊢ wp frame (wpE (defs₀ (F := F)) Variants.none c none) E (cc0_moe_experts i tabE (Memref.isWhole_whole _) tabN (Memref.isWhole_whole _) a0 h0 a1 h1 a2 h2 a3 h3 a4 h4 a5 h5 a6 h6 a7 h7) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro
    have hw : run_body.sl.r c n = usedOf n := by
      unfold run_body.sl.r usedOf
      exact congrArg n (one_idx _ _)
    have hp : run_body.sl.r_1 c a0 h0 a1 h1 a2 h2 a3 h3 a4 h4 a5 h5 x0 x1 x2 x3 x4 x5 = k0_pay3 x0 x1 x3 x2 x4 x5 := by
      unfold run_body.sl.r_1
      rw [View.readAt_full, View.readAt_full, View.readAt_full, View.readAt_full, View.readAt_full, View.readAt_full, hf0, hf1, hf2, hf3, hf4, hf5]
    rw [hw, hp]
    unfold blockOut
    by_cases hc : k0_cond1 i (usedOf n) = 1#1
    · rw [dif_neg (fun h => (cond2_iff i _).mp h hc), dif_pos hc, if_pos hc]
      refine (View.read_writes_full _ _ _ _ _).trans ?_
      rw [View.readAt_full, hf6]
    · rw [dif_pos ((cond2_iff i _).mpr hc), if_neg hc]
      exact View.read_writes_full _ _ _ _ _
  isplitl [HT0]; · iexact HT0
  iexact HT1

end Cert.Proof.Moe

end
-- ==== Proof.MoeRun.lean ====
/-
  The experts' call launched: every execution ends, with each block of the result as the body leaves it.
-/
module

public import proofs.«01_k».proof.Proof.MoeBody

@[expose] public section

set_option maxRecDepth 16384

noncomputable section

namespace Cert.Proof.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: as launched. -/
abbrev atEntry (c : Dev nD) (b : Ref sig .tc) : Buf (Elt F) ((c : Thread nD τ).loc b) := m ((c : Thread nD τ).loc b)

/-- The two tables' contents. -/
def tables : pre0.Contents (Elt F) := fun j => atEntry m (0 : Dev nD) (pre0.ref j)

/-- There is one device, so every device's tables hold them. -/
theorem tables_eq (c : Dev nD) (j : Fin 2) : atEntry m c (pre0.ref j) = tables m j := by
  obtain rfl : c = 0 := Subsingleton.elim _ _
  rfl

/-- Every block the tables name lies inside its array. -/
abbrev Inside : Prop := ok0 (F := F) (tables m)

/-- The tables, known to name blocks that exist. -/
abbrev named (hO : Inside m) : (pcfg0 (F := F)).Adm := ⟨tables m, hO⟩
/-- The pipeline at these tables. -/
abbrev pipe (hO : Inside m) : Cfg sig Λ₀ := cfg0 (named m hO)

/-- The tables as the region hands them to the body, one by one. -/
theorem tables_held (c : Dev nD) : (Pipeline.ΦT pre0 (tables m) c : sProp 𝕄) = iprop(held c tabE (tables m 0) ∗ held c tabN (tables m 1)) := by
  unfold Pipeline.ΦT Pipeline.prefHeld
  rw [show (Finset.univ : Finset (Fin 2)) = insert (0 : Fin 2) {(1 : Fin 2)} from by decide, bigSep_insert (by decide), bigSep_singleton]
  rfl

/-- The part of its array a window covers at a point. -/
def part (hO : Inside m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (atEntry m c (Pipeline.arrRef spec0 w))

/-- The result's block after a point. -/
def resultAt (hO : Inside m) (c : Dev nD) (t : Fin (pipe m hO).N) : Vec F S512x1024 .bf16 :=
  blockOut (grid0.coords t) (tables m 1) (part m hO c 0 t) (part m hO c 1 t) (part m hO c 2 t) (part m hO c 3 t)
    (part m hO c 4 t) (part m hO c 5 t) (part m hO c 6 t)

/-- What the run keeps: inputs at their parts, the result's block at what the body leaves there. -/
def kept (hO : Inside m) (_ : Fin 1) (c : Dev nD) : Dat τ (Elt F) Unit ℕ (UR sig nD τ) ℕ (pipe m hO) c where
  A w := atEntry m c (Pipeline.arrRef spec0 w)
  after w t := match w with
    | ⟨0, _⟩ => part m hO c 0 t
    | ⟨1, _⟩ => part m hO c 1 t
    | ⟨2, _⟩ => part m hO c 2 t
    | ⟨3, _⟩ => part m hO c 3 t
    | ⟨4, _⟩ => part m hO c 4 t
    | ⟨5, _⟩ => part m hO c 5 t
    | ⟨6, _⟩ => part m hO c 6 t
    | ⟨7, _⟩ => resultAt m hO c t
  Φ _ := iprop(Pipeline.ΦA spec0 c ∗ Pipeline.ΦT pre0 (tables m) c)
  q _ := fullShare
  owed _ := 0

/-- The arrays the run starts from are the launched ones. -/
theorem kept_A (hO : Inside m) (c : Dev nD) (w : Fin (pipe m hO).W) : (kept m hO 0 c).A w = atEntry m c (Pipeline.arrRef spec0 w) := by
  dsimp only [kept]

/-- An input window's buffer is left as it was found. -/
theorem kept_in (hO : Inside m) (c : Dev nD) (w : Fin 8) (hw : w ≠ 7) (t : Fin (pipe m hO).N) :
    (kept m hO 0 c).after w t = part m hO c w t := by
  fin_cases w <;> first | exact absurd rfl hw | (dsimp only [kept]; try rfl)

/-- The result's buffer is left at what the body computes. -/
theorem kept_out (hO : Inside m) (c : Dev nD) (t : Fin (pipe m hO).N) : (kept m hO 0 c).after 7 t = resultAt m hO c t := by
  dsimp only [kept]; try rfl

/-- An input window's buffer holds the window's part of its array when the body runs, fetched at this point or earlier. -/
theorem found_in (hO : Inside m) (c : Dev nD) (w : Fin 8) (hw : w ≠ 7) (t : Fin (pipe m hO).N) (d) :
    (kept m hO 0 c).before w t d = part m hO c w t := by
  have h := kept_in m hO c w hw
  fin_cases w <;> first
    | exact absurd rfl hw
    | exact ((kept m hO 0 c).before_in_eq_fetched _ rfl (fun _ => rfl) (fun _ _ _ => rfl)
        (fun t => by rw [h]; unfold Dat.blockOf part; rw [kept_A]; try rfl) t d).trans
        (by unfold Dat.fetched Dat.blockOf part; rw [kept_A]; try rfl)

/-- The result's block is written at every point. -/
theorem never_idle (hO : Inside m) (i : grid0.Coords) : (pipe m hO).idle 7 i = false := by
  show (!(k0_cond1 i ((tables m).atD 1 ![0]) == 1#1) && !(k0_cond2 i ((tables m).atD 1 ![0]) == 1#1)) = false
  have h := cond2_iff i ((tables m).atD 1 ![0])
  by_cases hc : k0_cond1 i ((tables m).atD 1 ![0]) = 1#1
  · rw [hc]; rfl
  · rw [h.mpr hc]; simp

/-- The body at a point, over the windows' staging buffers. -/
abbrev bodyAt (hO : Inside m) (t : Fin (pipe m hO).N) : Prog (TpuEff nD τ sig (Elt F) Λ₀ .tc) PUnit :=
  cc0_moe_experts (grid0.coords t) tabE (Memref.isWhole_whole _) tabN (Memref.isWhole_whole _)
    (spec0_0.stage ((pipe m hO).slots t 0)) (hstage0_0 (((pipe m hO).slots t 0).cast nbuf0_0))
    (spec0_1.stage ((pipe m hO).slots t 1)) (hstage0_1 (((pipe m hO).slots t 1).cast nbuf0_1))
    (spec0_2.stage ((pipe m hO).slots t 2)) (hstage0_2 (((pipe m hO).slots t 2).cast nbuf0_2))
    (spec0_3.stage ((pipe m hO).slots t 3)) (hstage0_3 (((pipe m hO).slots t 3).cast nbuf0_3))
    (spec0_4.stage ((pipe m hO).slots t 4)) (hstage0_4 (((pipe m hO).slots t 4).cast nbuf0_4))
    (spec0_5.stage ((pipe m hO).slots t 5)) (hstage0_5 (((pipe m hO).slots t 5).cast nbuf0_5))
    (spec0_6.stage ((pipe m hO).slots t 6)) (hstage0_6 (((pipe m hO).slots t 6).cast nbuf0_6))
    (spec0_7.stage ((pipe m hO).slots t 7)) (hstage0_7 (((pipe m hO).slots t 7).cast nbuf0_7))

/-- A window's staging buffer at what the body finds there. -/
abbrev finds (hO : Inside m) (c : Dev nD) (t : Fin (pipe m hO).N) (w : Fin 8) : sProp 𝕄 :=
  iprop(∃ d, owns (c : Thread nD τ) (((pipe m hO).win w).stage ((pipe m hO).slots t w)) fullShare ((kept m hO 0 c).before w t d))

/-- A window's staging buffer at what the body leaves there. -/
abbrev leaves (hO : Inside m) (c : Dev nD) (t : Fin (pipe m hO).N) (w : Fin 8) : sProp 𝕄 :=
  owns (c : Thread nD τ) (((pipe m hO).win w).stage ((pipe m hO).slots t w)) fullShare ((kept m hO 0 c).after w t)

set_option maxHeartbeats 800000 in
/-- The body at a point, from what it finds to what it leaves. -/
theorem body_sound (hO : Inside m) (c : Dev nD) (t : Fin (pipe m hO).N) :
    iprop((kept m hO 0 c).Φ t.castSucc ∗ (kept m hO 0 c).owesAt () t.castSucc
      ∗ finds m hO c t 0 ∗ finds m hO c t 1 ∗ finds m hO c t 2 ∗ finds m hO c t 3 ∗ finds m hO c t 4 ∗ finds m hO c t 5 ∗ finds m hO c t 6 ∗ finds m hO c t 7)
    ⊢ wp frame (wpE (defs₀ (F := F)) Variants.none c none) Set.univ (bodyAt m hO t) (fun _ =>
      iprop((kept m hO 0 c).Φ t.succ ∗ (kept m hO 0 c).owesAt () t.succ
        ∗ leaves m hO c t 0 ∗ leaves m hO c t 1 ∗ leaves m hO c t 2 ∗ leaves m hO c t 3 ∗ leaves m hO c t 4 ∗ leaves m hO c t 5 ∗ leaves m hO c t 6 ∗ leaves m hO c t 7)) := by
  unfold finds leaves
  simp only [found_in m hO c 0 (by decide), found_in m hO c 1 (by decide), found_in m hO c 2 (by decide), found_in m hO c 3 (by decide),
    found_in m hO c 4 (by decide), found_in m hO c 5 (by decide), found_in m hO c 6 (by decide)]
  rw [show (kept m hO 0 c).Φ t.succ = (kept m hO 0 c).Φ t.castSucc from rfl,
    show (kept m hO 0 c).owesAt () t.succ = (kept m hO 0 c).owesAt () t.castSucc from rfl,
    kept_in m hO c 0 (by decide), kept_in m hO c 1 (by decide), kept_in m hO c 2 (by decide), kept_in m hO c 3 (by decide),
    kept_in m hO c 4 (by decide), kept_in m hO c 5 (by decide), kept_in m hO c 6 (by decide), kept_out]
  rw [show (kept m hO 0 c).Φ t.castSucc = iprop(Pipeline.ΦA spec0 c ∗ Pipeline.ΦT pre0 (tables m) c) from rfl, tables_held]
  unfold resultAt
  iintro ⟨⟨HΦ, ⟨HE, HN⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body c (grid0.coords t) _ _ _ _ _ _ _ _ _ _ _ _ _ _ _ _ (part m hO c 0 t) (part m hO c 1 t) (part m hO c 2 t)
    (part m hO c 3 t) (part m hO c 4 t) (part m hO c 5 t) (part m hO c 6 t) (tables m 0) (tables m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HE]; · iexact HE
  isplitl [HN]; · iexact HN
  iintro ⟨H0, H1, H2, H3, H4, H5, H6, H7, HE, HN⟩
  isplitl [HΦ HE HN]
  · isplitl [HΦ]; · iexact HΦ
    isplitl [HE]; · iexact HE
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The table of bodies at a point's slots is the body. -/
theorem row (hO : Inside m) (t : Fin (pipe m hO).N) :
    defs₀ (F := F) .tc (pipe m hO).body ((pipe m hO).bodyArgs t ((pipe m hO).slots t)) = bodyAt m hO t := by
  unfold defs₀; rw [Defs.onTc_tc]

/-- The body's part of the pipeline's bargain, at every point. -/
theorem obligation (hO : Inside m) (c : Dev nD) : BodyObligation (kept (F := F) m hO 0 c) (defs₀ (F := F)) Variants.none () Set.univ := fun t => by
  rw [bigSep_W0, bigSep_W0, row m hO]
  refine triple_restated (body_sound m hO c t) rfl .rfl fun _ => ?_
  rw [never_idle m hO]

/-- The program is the call alone. -/
theorem main_call (𝒱₀ : Variants) : Pipeline.HMainP (Ix := Unit) (Name := ℕ) (U := UR sig nD τ) (Lvl := ℕ) pcfgs 0 defs₀ 𝒱₀ m (main (F := F)) (atEntry m) :=
  Pipeline.hmainP_region pcfgs 0 defs₀ 𝒱₀ m main fun c => (main_chain c).trans rfl

set_option backward.isDefEq.respectTransparency.types false in
/-- Every execution ends, each array at what the blocks written back make of it, every counter at zero. -/
theorem launched (hO : Inside m) : θ_run defs (onTc (τ := τ) (main (F := F))) (s₀ m ρ) (fun r =>
    (Pipeline.FramePost (Pipeline.pin pcfgs fun _ => named m hO) (kept m hO) 0 (atEntry m)) r ∧ r.2.sem = fun _ => 0) :=
  Pipeline.θ_run_frameP (Q' := _) pcfgs (fun _ => named m hO) (kept m hO) (0 : Fin 1) launch0 defs₀ Variants.none m ρ main
    (hbody := fun c => (obligation m hO c).loose) (hshare := fun c => (kept m hO 0 c).share_full fun _ => rfl)
    (howed := fun _ _ => rfl) (V := atEntry m) (hmain := main_call m Variants.none) (hA := kept_A m hO) (hpf := tables_eq m)
    (hΦ := fun _ _ => rfl)

end Cert.Proof.Moe

end
-- ==== Proof.MoeRef.lean ====
/-
  The experts' outputs as one array of reals, and the reference's term read as that array.
-/
module

public import proofs.«01_k».proof.Proof.Gen.Reference3Ideal.Run
public import Idealize.ShloMosaic.Lib.Pointwise

@[expose] public section

set_option maxRecDepth 16384

noncomputable section

namespace Cert.Proof.Moe

open Cert.Reference3Ideal
open Idealize.ShloMosaic Idealize.ShloMosaic.TcCoe

section Gather

/-- The lookup that takes one slab of `x` for each entry of a table reads, at slab `k`, the slab the table's entry names, brought into range. -/
theorem slab_apply {α : Type} {N K A B : ℕ} (hN : 0 < N) (d : GatherDims ⟨3, ![N, A, B]⟩ ⟨2, ![K, 1]⟩ ⟨3, ![K, A, B]⟩)
    (h1 : d.offsetDims = [1, 2]) (h2 : d.collapsedSliceDims = [0]) (h3 : d.operandBatchingDims = []) (h4 : d.startIndicesBatchingDims = [])
    (h5 : d.startIndexMap = [0]) (h6 : d.indexVectorDim = 1) (h7 : d.sliceSizes = ![1, A, B])
    (x : (⟨3, ![N, A, B]⟩ : Shape).Idx → α) (idx : IVec ⟨2, ![K, 1]⟩ 32) (k : Fin K) (a : Fin A) (b : Fin B) :
    Host.gather d x idx (ix3 k a b) = x (ix3 ⟨min (idx (ix2 k (0 : Fin 1))).toInt.toNat (N - 1), by omega⟩ a b) := by
  obtain ⟨o, cl, ob, sb, sm, iv, sl, wf⟩ := d
  dsimp only at h1 h2 h3 h4 h5 h6 h7
  subst h1 h2 h3 h4 h5 h6 h7
  unfold Host.gather
  refine congrArg x (funext fun z => Fin.ext ?_)
  show GatherDims.start _ _ _ _ + GatherDims.batchCoord _ _ _ + GatherDims.offCoord _ _ _ = _
  rw [GatherDims.batchCoord_eq_zero _ _ _ List.not_mem_nil, Nat.add_zero]
  fin_cases z
  · refine (congrArg (_ + ·) (GatherDims.offCoord_eq_zero _ _ _ (fun h => ((GatherDims.mem_sKept _ _).mp h).1 (List.mem_singleton.mpr rfl)))).trans ?_
    refine (Nat.add_zero _).trans ?_
    refine (dif_pos (List.mem_singleton.mpr rfl)).trans ?_
    refine congrArg₂ min (congrArg (fun i => (idx i).toInt.toNat) ?_) rfl
    funext y
    fin_cases y <;> rfl
  · exact Nat.zero_add _
  · exact Nat.zero_add _

end Gather

/-- The gated unit: the first product clipped above and multiplied by its own gate, times the second clipped on both sides plus one. -/
def act (g l : EReal) : EReal :=
  min g (Ideal.ofBits FTy.f32 1088421888#32) * Ideal.logistic (Ideal.ofBits FTy.f32 1071242019#32 * min g (Ideal.ofBits FTy.f32 1088421888#32))
    * (min (Ideal.ofBits FTy.f32 1088421888#32) (max (Ideal.ofBits FTy.f32 3235905536#32) l) + 1)

/-- One entry of an expert's output: the row through the two products, the gated unit and the third product. -/
def entry (x : Fin 1024 → EReal) (wg wl : Fin 1024 → Fin 1024 → EReal) (bg bl w : Fin 1024 → EReal) (b : EReal) : EReal :=
  (∑ f : Fin 1024, act (∑ e : Fin 1024, x e * wg f e + bg f) (∑ e : Fin 1024, x e * wl f e + bl f) * w f) + b

/-- Entries made of equal numbers are equal. -/
theorem entry_congr {x x' : Fin 1024 → EReal} {wg wg' wl wl' : Fin 1024 → Fin 1024 → EReal} {bg bg' bl bl' w w' : Fin 1024 → EReal} {b b' : EReal}
    (hx : ∀ e, x e = x' e) (hg : ∀ f e, wg f e = wg' f e) (hl : ∀ f e, wl f e = wl' f e) (hbg : ∀ f, bg f = bg' f) (hbl : ∀ f, bl f = bl' f)
    (hw : ∀ f, w f = w' f) (hb : b = b') : entry x wg wl bg bl w b = entry x' wg' wl' bg' bl' w' b' := by
  obtain rfl := funext hx
  obtain rfl := funext fun f => funext (hg f)
  obtain rfl := funext fun f => funext (hl f)
  obtain rfl := funext hbg
  obtain rfl := funext hbl
  obtain rfl := funext hw
  rw [hb]

/-- The expert a block's entry in the table names. -/
def expertOf (t : IVec S288 32) (k : Fin 288) : Fin 32 := ⟨min (t (ix1 k)).toInt.toNat (32 - 1), by omega⟩

/-- Entry `(p, d)` of block `k` of the result: its expert's output where the block is in use, zero elsewhere. -/
def blockEntry (x : FVec Ideal S147456x1024 .bf16) (t : IVec S288 32) (n : IVec S1 32) (wg wl : FVec Ideal S32x1024x1024 .bf16)
    (bg bl : FVec Ideal S32x1x1024 .f32) (w : FVec Ideal S32x1024x1024 .f32) (b : FVec Ideal S32x1x1024 .f32)
    (k : Fin 288) (p : Fin 512) (d : Fin 1024) : EReal :=
  if (BitVec.ofNat 32 k.val).slt (n (ix1 0)) = true then
    entry (fun e => x (ix2 ⟨k.val * 512 + p.val, by omega⟩ e)) (fun f e => wg (ix3 (expertOf t k) f e)) (fun f e => wl (ix3 (expertOf t k) f e))
      (fun f => bg (ix3 (expertOf t k) 0 f)) (fun f => bl (ix3 (expertOf t k) 0 f)) (fun f => w (ix3 (expertOf t k) f d)) (b (ix3 (expertOf t k) 0 d))
  else 0

/-- The whole result: row `r` lies in block `r / 512`. -/
def expertsOut (x : FVec Ideal S147456x1024 .bf16) (t : IVec S288 32) (n : IVec S1 32) (wg wl : FVec Ideal S32x1024x1024 .bf16)
    (bg bl : FVec Ideal S32x1x1024 .f32) (w : FVec Ideal S32x1024x1024 .f32) (b : FVec Ideal S32x1x1024 .f32) : FVec Ideal S147456x1024 .bf16 :=
  fun i => blockEntry x t n wg wl bg bl w b ⟨(i 0).val / 512, by have h : (i 0).val < 147456 := (i 0).isLt; omega⟩
    ⟨(i 0).val % 512, Nat.mod_lt _ (by decide)⟩ (i 1)

/-- A choice made by comparing two words is the choice made by their order. -/
theorem select_slt {α : Type} (a b : BitVec 32) (x y : α) : Scalar.select (IntOp.cmpi .slt a b) x y = if a.slt b = true then x else y := by
  unfold Scalar.select IntOp.cmpi
  cases a.slt b <;> rfl

/-- A table read as a column. -/
theorem column_apply (t : IVec S288 32) (k : Fin 288) :
    broadcastInDim S288x1 ![0] Facts₀.bcast_S288_S288x1_0 t (ix2 k (0 : Fin 1)) = t (ix1 k) := by
  pointwise

/-- An array of blocks laid out as rows. -/
theorem rows_apply (y : FVec Ideal S288x512x1024 .bf16) (r : Fin 147456) (d : Fin 1024) :
    shapeCast S147456x1024 y Facts₀.shapeCasts_S288x512x1024_S147456x1024 (ix2 r d)
      = y (ix3 (⟨r.val / 512, by omega⟩ : Fin 288) (⟨r.val % 512, Nat.mod_lt _ (by decide)⟩ : Fin 512) d) := by
  pointwise

/-- The reference's array of blocks, the experts' arrays already looked up. -/
theorem looked_up (x : FVec Ideal S147456x1024 .bf16) (n : IVec S1 32) (wg wl : FVec Ideal S288x1024x1024 .bf16) (bg bl : FVec Ideal S288x1x1024 .f32)
    (w : FVec Ideal S288x1024x1024 .f32) (b : FVec Ideal S288x1x1024 .f32) (k : Fin 288) (p : Fin 512) (d : Fin 1024) :
    (truncf .bf16 (select (broadcastInDim S288x512x1024 ![0, 1, 2] Facts₀.bcast_S288x1x1_S288x512x1024_0_1_2 (cmpi .slt (broadcastInDim S288x1x1 ![0] Facts₀.bcast_S288_S288x1x1_0 (iotaInDim S288 32 0)) (broadcastInDim S288x1x1 ![] Facts₀.bcast_S_S288x1x1 (shapeCast _ n Facts₀.shapeCasts_S1_S_)))) (addf (Host.dotGeneral dot_S288x512x1024_S288x1024x1024_S288x512x1024_2_1_1_2_0_0 none (truncf .bf16 (mulf (mulf (minimumf (addf (Host.dotGeneral dot_S288x512x1024_S288x1024x1024_S288x512x1024_2_2_1_1_0_0 none (shapeCast _ x Facts₀.shapeCasts_S147456x1024_S288x512x1024) wg) (broadcastInDim S288x512x1024 ![0, 1, 2] Facts₀.bcast_S288x1x1024_S288x512x1024_0_1_2 bg)) (broadcastInDim S288x512x1024 ![] Facts₀.bcast_S_S288x512x1024 (constant S_ .f32 0x40E00000#32))) (Host.divf (broadcastInDim S288x512x1024 ![] Facts₀.bcast_S_S288x512x1024 (constant S_ .f32 0x3F800000#32)) (addf (broadcastInDim S288x512x1024 ![] Facts₀.bcast_S_S288x512x1024 (constant S_ .f32 0x3F800000#32)) (Host.exp (Host.negf (mulf (broadcastInDim S288x512x1024 ![] Facts₀.bcast_S_S288x512x1024 (constant S_ .f32 0x3FD9DB23#32)) (minimumf (addf (Host.dotGeneral dot_S288x512x1024_S288x1024x1024_S288x512x1024_2_2_1_1_0_0 none (shapeCast _ x Facts₀.shapeCasts_S147456x1024_S288x512x1024) wg) (broadcastInDim S288x512x1024 ![0, 1, 2] Facts₀.bcast_S288x1x1024_S288x512x1024_0_1_2 bg)) (broadcastInDim S288x512x1024 ![] Facts₀.bcast_S_S288x512x1024 (constant S_ .f32 0x40E00000#32))))))))) (addf (minimumf (broadcastInDim S288x512x1024 ![] Facts₀.bcast_S_S288x512x1024 (id (constant S_ .f32 0x40E00000#32))) (maximumf (broadcastInDim S288x512x1024 ![] Facts₀.bcast_S_S288x512x1024 (id (constant S_ .f32 0xC0E00000#32))) (addf (Host.dotGeneral dot_S288x512x1024_S288x1024x1024_S288x512x1024_2_2_1_1_0_0 none (shapeCast _ x Facts₀.shapeCasts_S147456x1024_S288x512x1024) wl) (broadcastInDim S288x512x1024 ![0, 1, 2] Facts₀.bcast_S288x1x1024_S288x512x1024_0_1_2 bl)))) (broadcastInDim S288x512x1024 ![] Facts₀.bcast_S_S288x512x1024 (constant S_ .f32 0x3F800000#32)))) Facts₀.bitsLt_bf16_f32) (truncf .bf16 w Facts₀.bitsLt_bf16_f32)) (broadcastInDim S288x512x1024 ![0, 1, 2] Facts₀.bcast_S288x1x1024_S288x512x1024_0_1_2 b)) (broadcastInDim S288x512x1024 ![] Facts₀.bcast_S_S288x512x1024 (id (constant S_ .f32 0x00000000#32)))) Facts₀.bitsLt_bf16_f32 : FVec Ideal S288x512x1024 .bf16) (ix3 k p d)
      = if (BitVec.ofNat 32 k.val).slt (n (ix1 0)) = true then
          entry (fun e => x (ix2 ⟨k.val * 512 + p.val, by omega⟩ e)) (fun f e => wg (ix3 k f e)) (fun f e => wl (ix3 k f e))
            (fun f => bg (ix3 k 0 f)) (fun f => bl (ix3 k 0 f)) (fun f => w (ix3 k f d)) (b (ix3 k 0 d))
        else 0 := by
  simp only [id_eq]
  pointwise
  rw [select_slt]
  rfl

variable (x : FVec Ideal S147456x1024 .bf16) (t : IVec S288 32) (n : IVec S1 32) (wg wl : FVec Ideal S32x1024x1024 .bf16)
  (bg bl : FVec Ideal S32x1x1024 .f32) (w : FVec Ideal S32x1024x1024 .f32) (b : FVec Ideal S32x1x1024 .f32)

/-- A looked-up square of weights. -/
theorem square_apply {α : Type} (y : S32x1024x1024.Idx → α) (k : Fin 288) (f e : Fin 1024) :
    Host.gather gather_S32x1024x1024_S288x1_S288x1024x1024_12_0_n_n_0_1_110241024 y (broadcastInDim S288x1 ![0] Facts₀.bcast_S288_S288x1_0 t) (ix3 k f e)
      = y (ix3 (expertOf t k) f e) := by
  refine (slab_apply (by decide) _ rfl rfl rfl rfl rfl rfl rfl _ _ _ _ _).trans (congrArg y (congrArg (fun z : Fin 32 => ix3 z _ _) (Fin.ext ?_)))
  exact congrArg (fun v : BitVec 32 => min v.toInt.toNat (32 - 1)) (column_apply t k)

/-- A looked-up row of biases. -/
theorem bias_apply {α : Type} (y : S32x1x1024.Idx → α) (k : Fin 288) (e : Fin 1024) :
    Host.gather gather_S32x1x1024_S288x1_S288x1x1024_12_0_n_n_0_1_111024 y (broadcastInDim S288x1 ![0] Facts₀.bcast_S288_S288x1_0 t) (ix3 k (0 : Fin 1) e)
      = y (ix3 (expertOf t k) 0 e) := by
  refine (slab_apply (by decide) _ rfl rfl rfl rfl rfl rfl rfl _ _ _ _ _).trans (congrArg y (congrArg (fun z : Fin 32 => ix3 z _ _) (Fin.ext ?_)))
  exact congrArg (fun v : BitVec 32 => min v.toInt.toNat (32 - 1)) (column_apply t k)

set_option maxHeartbeats 1000000 in
/-- The reference's term is the array of the experts' outputs. -/
theorem ref_eq : (shapeCast _ (truncf .bf16 (select (broadcastInDim S288x512x1024 ![0, 1, 2] Facts₀.bcast_S288x1x1_S288x512x1024_0_1_2 (cmpi .slt (broadcastInDim S288x1x1 ![0] Facts₀.bcast_S288_S288x1x1_0 (iotaInDim S288 32 0)) (broadcastInDim S288x1x1 ![] Facts₀.bcast_S_S288x1x1 (shapeCast _ n Facts₀.shapeCasts_S1_S_)))) (addf (Host.dotGeneral dot_S288x512x1024_S288x1024x1024_S288x512x1024_2_1_1_2_0_0 none (truncf .bf16 (mulf (mulf (minimumf (addf (Host.dotGeneral dot_S288x512x1024_S288x1024x1024_S288x512x1024_2_2_1_1_0_0 none (shapeCast _ x Facts₀.shapeCasts_S147456x1024_S288x512x1024) (Host.gather gather_S32x1024x1024_S288x1_S288x1024x1024_12_0_n_n_0_1_110241024 wg (broadcastInDim S288x1 ![0] Facts₀.bcast_S288_S288x1_0 t))) (broadcastInDim S288x512x1024 ![0, 1, 2] Facts₀.bcast_S288x1x1024_S288x512x1024_0_1_2 (Host.gather gather_S32x1x1024_S288x1_S288x1x1024_12_0_n_n_0_1_111024 bg (broadcastInDim S288x1 ![0] Facts₀.bcast_S288_S288x1_0 t)))) (broadcastInDim S288x512x1024 ![] Facts₀.bcast_S_S288x512x1024 (constant S_ .f32 0x40E00000#32))) (Host.divf (broadcastInDim S288x512x1024 ![] Facts₀.bcast_S_S288x512x1024 (constant S_ .f32 0x3F800000#32)) (addf (broadcastInDim S288x512x1024 ![] Facts₀.bcast_S_S288x512x1024 (constant S_ .f32 0x3F800000#32)) (Host.exp (Host.negf (mulf (broadcastInDim S288x512x1024 ![] Facts₀.bcast_S_S288x512x1024 (constant S_ .f32 0x3FD9DB23#32)) (minimumf (addf (Host.dotGeneral dot_S288x512x1024_S288x1024x1024_S288x512x1024_2_2_1_1_0_0 none (shapeCast _ x Facts₀.shapeCasts_S147456x1024_S288x512x1024) (Host.gather gather_S32x1024x1024_S288x1_S288x1024x1024_12_0_n_n_0_1_110241024 wg (broadcastInDim S288x1 ![0] Facts₀.bcast_S288_S288x1_0 t))) (broadcastInDim S288x512x1024 ![0, 1, 2] Facts₀.bcast_S288x1x1024_S288x512x1024_0_1_2 (Host.gather gather_S32x1x1024_S288x1_S288x1x1024_12_0_n_n_0_1_111024 bg (broadcastInDim S288x1 ![0] Facts₀.bcast_S288_S288x1_0 t)))) (broadcastInDim S288x512x1024 ![] Facts₀.bcast_S_S288x512x1024 (constant S_ .f32 0x40E00000#32))))))))) (addf (minimumf (broadcastInDim S288x512x1024 ![] Facts₀.bcast_S_S288x512x1024 (id (constant S_ .f32 0x40E00000#32))) (maximumf (broadcastInDim S288x512x1024 ![] Facts₀.bcast_S_S288x512x1024 (id (constant S_ .f32 0xC0E00000#32))) (addf (Host.dotGeneral dot_S288x512x1024_S288x1024x1024_S288x512x1024_2_2_1_1_0_0 none (shapeCast _ x Facts₀.shapeCasts_S147456x1024_S288x512x1024) (Host.gather gather_S32x1024x1024_S288x1_S288x1024x1024_12_0_n_n_0_1_110241024 wl (broadcastInDim S288x1 ![0] Facts₀.bcast_S288_S288x1_0 t))) (broadcastInDim S288x512x1024 ![0, 1, 2] Facts₀.bcast_S288x1x1024_S288x512x1024_0_1_2 (Host.gather gather_S32x1x1024_S288x1_S288x1x1024_12_0_n_n_0_1_111024 bl (broadcastInDim S288x1 ![0] Facts₀.bcast_S288_S288x1_0 t)))))) (broadcastInDim S288x512x1024 ![] Facts₀.bcast_S_S288x512x1024 (constant S_ .f32 0x3F800000#32)))) Facts₀.bitsLt_bf16_f32) (truncf .bf16 (Host.gather gather_S32x1024x1024_S288x1_S288x1024x1024_12_0_n_n_0_1_110241024 w (broadcastInDim S288x1 ![0] Facts₀.bcast_S288_S288x1_0 t)) Facts₀.bitsLt_bf16_f32)) (broadcastInDim S288x512x1024 ![0, 1, 2] Facts₀.bcast_S288x1x1024_S288x512x1024_0_1_2 (Host.gather gather_S32x1x1024_S288x1_S288x1x1024_12_0_n_n_0_1_111024 b (broadcastInDim S288x1 ![0] Facts₀.bcast_S288_S288x1_0 t)))) (broadcastInDim S288x512x1024 ![] Facts₀.bcast_S_S288x512x1024 (id (constant S_ .f32 0x00000000#32)))) Facts₀.bitsLt_bf16_f32) Facts₀.shapeCasts_S288x512x1024_S147456x1024 : FVec Ideal S147456x1024 .bf16)
      = expertsOut x t n wg wl bg bl w b := by
  funext i
  idx_vars i
  refine (rows_apply _ _ _).trans ((looked_up x n _ _ _ _ _ _ _ _ _).trans ?_)
  exact if_congr Iff.rfl (entry_congr (fun _ => rfl) (square_apply t wg _) (square_apply t wl _) (bias_apply t bg _) (bias_apply t bl _)
    (fun f => square_apply t w _ f i1) (bias_apply t b _ i1)) rfl

end Cert.Proof.Moe

end
-- ==== Proof.MoeValue.lean ====
/-
  The experts' outputs on reals: block by block in the kernel, one array of blocks in the reference.
-/
module

public import proofs.«01_k».proof.Proof.MoeRun
public import proofs.«01_k».proof.Proof.MoeRef
public import Idealize.ShloMosaic.Lib.Pointwise
public import Idealize.ShloMosaic.Lib.Affine
public import Idealize.ShloMosaic.Lib.Pipeline.ValueKit

@[expose] public section

set_option maxRecDepth 16384

noncomputable section

namespace Cert.Proof.Moe

open Cert.Kernel3Ideal Cert.Kernel3Ideal.Gen
open Idealize.ShloMosaic Idealize.ShloMosaic.TcCoe
open Idealize.SL Idealize.SL.Sem
open Idealize.ShloMosaic.Pipeline (Dat Cfg Window)

variable {F : FTy → Type} [FloatOps F]

/-- A point's one coordinate is its number. -/
theorem coord_eq : ∀ t : Fin grid0.N, (grid0.coords t 0).val = t.val := by decide +kernel

/-- The blocks of the rows and of the result are numbered by the point. -/
theorem idx_rows : ∀ t : Fin grid0.N, cc0_transform_0 (grid0.coords t) 0 = t.val ∧ cc0_transform_0 (grid0.coords t) 1 = 0 := by decide +kernel
/-- The result's likewise. -/
theorem idx_out : ∀ t : Fin grid0.N, cc0_transform_7 (grid0.coords t) 0 = t.val ∧ cc0_transform_7 (grid0.coords t) 1 = 0 := by decide +kernel

/-- The word of the table a point reads. -/
theorem word_eq (pf : pre0.Contents (Elt F)) (i : grid0.Coords) :
    pf.at 0 (Rect.unit (s := S288) ![(Scalar.indexCast (BitVec.ofNat 32 (i 0).val) : Index).toNat] S1.size (Facts₀.k0_off1_inb i)) Facts₀.numel1_S1
      = (pf 0 : S288.Idx → BitVec 32) (ix1 (⟨(i 0).val, (i 0).isLt⟩ : Fin 288)) := by
  refine congrArg (pf 0 : S288.Idx → BitVec 32) ?_
  funext z
  refine Fin.ext ?_
  fin_cases z
  refine (Idealize.ShloMosaic.ValueKit.rect_emb_unit_val _ _ _ _ _).trans ?_
  exact (Nat.add_zero _).trans (Nat.mod_eq_of_lt (lt_trans (i 0).isLt (by decide)))

/-- The blocks of the experts' arrays are numbered by the table. -/
theorem idx_table (pf : pre0.Contents (Elt F)) (i : grid0.Coords) :
    cc0_transform_1 Facts₀.k0_off1_inb Facts₀.numel1_S1 pf i = ![((pf 0 : S288.Idx → BitVec 32) (ix1 (⟨(i 0).val, (i 0).isLt⟩ : Fin 288))).toNat, 0, 0] :=
  congrArg (fun v : BitVec 32 => ![v.toNat, 0, 0]) (word_eq pf i)

/-- A table whose words all name experts names blocks that exist. -/
theorem inside_of (pf : pre0.Contents (Elt F)) (h : ∀ k : Fin 288, ((pf 0 : S288.Idx → BitVec 32) (ix1 k)).toNat < 32) : ok0 pf := by
  have big : ∀ i : grid0.Coords, ∀ a, (cc0_transform_1 Facts₀.k0_off1_inb Facts₀.numel1_S1 pf i a + 1) * S1x1024x1024.size a ≤ S32x1024x1024.size a := by
    intro i a
    rw [idx_table]
    have := h ⟨(i 0).val, (i 0).isLt⟩
    fin_cases a
    · show (_ + 1) * 1 ≤ 32
      rw [Nat.mul_one]; exact this
    · exact le_of_eq (by rfl)
    · exact le_of_eq (by rfl)
  have flat : ∀ i : grid0.Coords, ∀ a, (cc0_transform_1 Facts₀.k0_off1_inb Facts₀.numel1_S1 pf i a + 1) * S1x1x1024.size a ≤ S32x1x1024.size a := by
    intro i a
    rw [idx_table]
    have := h ⟨(i 0).val, (i 0).isLt⟩
    fin_cases a
    · show (_ + 1) * 1 ≤ 32
      rw [Nat.mul_one]; exact this
    · exact le_of_eq (by rfl)
    · exact le_of_eq (by rfl)
  exact ⟨fun i => ⟨big i, .inr (Affine.block_words_rows (by decide) rfl)⟩, fun i => ⟨big i, .inr (Affine.block_words_rows (by decide) rfl)⟩,
    fun i => ⟨flat i, .inl rfl⟩, fun i => ⟨flat i, .inl rfl⟩, fun i => ⟨big i, .inl rfl⟩, fun i => ⟨flat i, .inl rfl⟩⟩

/-- A word below the number of experts, read as the lookup reads it. -/
theorem word_named (v : BitVec 32) (h : v.toNat < 32) : min v.toInt.toNat (32 - 1) = v.toNat := by
  rw [BitVec.toInt_eq_toNat_of_lt (by omega)]
  omega

section Blocks

variable (m : (ℓ : Loc nD τ sig) → Buf (Elt F) ℓ) (ρ : Dev nD → PrngReg) (hO : Inside m)

/-- The row of the array that row `p` of block `t` is. -/
def rowOf (t : Fin (pipe m hO).N) (p : Fin 512) : Fin 147456 :=
  ⟨t.val * 512 + p.val, by have h : t.val < 288 := t.isLt; omega⟩

/-- A block of the rows. -/
theorem part0 (c : Dev nD) (t : Fin (pipe m hO).N) (a : Fin 512) (b : Fin 1024) :
    part m hO c 0 t (ix2 a b) = m ((c : Thread nD τ).loc main_arg0) (ix2 (rowOf m hO t a) b) := by
  unfold part
  refine (View.read_apply _ _).trans ?_
  show m ((c : Thread nD τ).loc main_arg0) _ = _
  congr 1
  funext x
  refine Fin.ext ?_
  refine (Window.rect_emb_val ((pipe m hO).win 0) t _ x).trans ?_
  fin_cases x
  · exact congrArg (· * 512 + a.val) (idx_rows t).1
  · exact (congrArg (· * 1024 + b.val) (idx_rows t).2).trans ((congrArg (· + b.val) (Nat.zero_mul _)).trans (Nat.zero_add _))

/-- Where an element of the result's block lies in the array. -/
theorem emb7 (t : Fin (pipe m hO).N) (a : Fin 512) (b : Fin 1024) :
    (((pipe m hO).win 7).blk t).view.emb (ix2 a b) = ix2 (rowOf m hO t a) b := by
  funext x
  refine Fin.ext ?_
  refine (Window.rect_emb_val ((pipe m hO).win 7) t _ x).trans ?_
  fin_cases x
  · exact congrArg (· * 512 + a.val) (idx_out t).1
  · exact (congrArg (· * 1024 + b.val) (idx_out t).2).trans ((congrArg (· + b.val) (Nat.zero_mul _)).trans (Nat.zero_add _))

/-- Every point writes the result's block back. -/
theorem flush7 (t : Fin (pipe m hO).N) : ((pipe m hO).win 7).flush t = true :=
  (by decide +kernel : ∀ t : Fin grid0.N, Window.flushOf grid0 true cc0_transform_7 t = true) t

/-- Two points' blocks of the result do not meet. -/
theorem disjoint7 (t t' : Fin (pipe m hO).N) (_ : ((pipe m hO).win 7).flush t = true) (_ : ((pipe m hO).win 7).flush t' = true) (hne : t ≠ t') :
    Disjoint (((pipe m hO).win 7).blk t).view.set (((pipe m hO).win 7).blk t').view.set :=
  ((pipe m hO).win 7).disjoint_blk fun h => hne (Fin.ext ((idx_out t).1.symm.trans ((congrFun h (0 : Fin 2)).trans (idx_out t').1)))

/-- What is written back is the block the body leaves. -/
theorem flushed7 (c : Dev nD) (t : Fin (pipe m hO).N) :
    (kept m hO 0 c).flushed 7 t = ((pipe m hO).win 7).cut (grid0.coords t) (resultAt m hO c t) := by
  show ((pipe m hO).win 7).cut (grid0.coords t) ((kept m hO 0 c).after 7 t) = _
  rw [kept_out]

/-- An array read through the result's block. -/
theorem read7 (g : S147456x1024.Idx → Elt F .bf16) (t : Fin (pipe m hO).N) (a : Fin 512) (b : Fin 1024) :
    (((pipe m hO).win 7).blk t).view.read (Elt F) g (ix2 a b) = g (ix2 (rowOf m hO t a) b) :=
  (View.read_apply _ _).trans (congrArg g (emb7 m hO t a b))

/-- Block `t` of the final array is what point `t` left. -/
theorem block7 (c : Dev nD) (t : Fin (pipe m hO).N) (a : Fin 512) (b : Fin 1024) :
    (kept m hO 0 c).arrAt 7 (pipe m hO).N (ix2 (rowOf m hO t a) b) = resultAt m hO c t (ix2 a b) := by
  have hb := ((kept m hO 0 c).read_blk_arrAt_eq_flushed 7 (disjoint7 m hO) (pipe m hO).N t t.isLt (flush7 m hO t)).trans (flushed7 m hO c t)
  generalize (kept m hO 0 c).arrAt 7 (pipe m hO).N = g at hb ⊢
  exact (read7 m hO g t a b).symm.trans (congrFun hb (ix2 a b))

/-- Every word of the table names an expert. -/
abbrev Named : Prop := ∀ k : Fin 288, ((tables m 0 : S288.Idx → BitVec 32) (ix1 k)).toNat < 32

/-- The expert of a block. -/
abbrev expertAt (t : Fin (pipe m hO).N) : Fin 32 := expertOf (tables m 0) (⟨t.val, t.isLt⟩ : Fin 288)

/-- Where an element of an expert's block lies in the array of all experts. -/
theorem coord_expert {A B : ℕ} (n size : Fin 3 → ℕ) (e : Fin 32) (hn : n = ![e.val, 0, 0]) (hs : size = ![1, A, B]) (f : Fin A) (b : Fin B) (x : Fin 3) :
    n x * size x + (ix3 (0 : Fin 1) f b x).val = (ix3 e f b x).val := by
  subst hn hs
  fin_cases x
  · exact (Nat.add_zero _).trans (Nat.mul_one _)
  · exact (congrArg (· + f.val) (Nat.zero_mul A)).trans (Nat.zero_add _)
  · exact (congrArg (· + b.val) (Nat.zero_mul B)).trans (Nat.zero_add _)

/-- The expert the table names at a point. -/
theorem named_eq (hE : Named m) (k : Fin 288) :
    ((tables m 0 : S288.Idx → BitVec 32) (ix1 k)).toNat = (expertOf (tables m 0) k).val := by
  exact (word_named _ (hE k)).symm

/-- The block number of an expert's array at a point. -/
theorem idx_expert (hE : Named m) (t : Fin (pipe m hO).N) :
    cc0_transform_1 Facts₀.k0_off1_inb Facts₀.numel1_S1 (tables m) (grid0.coords t) = ![(expertAt m hO t).val, 0, 0] := by
  rw [idx_table, ← named_eq m hE]
  congr 4
  exact Fin.ext (coord_eq t)

/-- A block of the gates' weights. -/
theorem part1 (hE : Named m) (c : Dev nD) (t : Fin (pipe m hO).N) (f e : Fin 1024) :
    part m hO c 1 t (ix3 (0 : Fin 1) (f : Fin 1024) e) = m ((c : Thread nD τ).loc main_arg3) (ix3 (expertAt m hO t) (f : Fin 1024) e) :=
  (View.read_apply _ _).trans (congrArg (m ((c : Thread nD τ).loc main_arg3)) (funext fun x =>
    Fin.ext ((Window.rect_emb_val ((pipe m hO).win 1) t _ x).trans (coord_expert _ _ _ (idx_expert m hO hE t) rfl f e x))))

/-- A block of the linear halves' weights. -/
theorem part2 (hE : Named m) (c : Dev nD) (t : Fin (pipe m hO).N) (f e : Fin 1024) :
    part m hO c 2 t (ix3 (0 : Fin 1) (f : Fin 1024) e) = m ((c : Thread nD τ).loc main_arg4) (ix3 (expertAt m hO t) (f : Fin 1024) e) :=
  (View.read_apply _ _).trans (congrArg (m ((c : Thread nD τ).loc main_arg4)) (funext fun x =>
    Fin.ext ((Window.rect_emb_val ((pipe m hO).win 2) t _ x).trans (coord_expert _ _ _ (idx_expert m hO hE t) rfl f e x))))

/-- A block of the gates' biases. -/
theorem part3 (hE : Named m) (c : Dev nD) (t : Fin (pipe m hO).N) (e : Fin 1024) :
    part m hO c 3 t (ix3 (0 : Fin 1) (0 : Fin 1) e) = m ((c : Thread nD τ).loc main_arg5) (ix3 (expertAt m hO t) (0 : Fin 1) e) :=
  (View.read_apply _ _).trans (congrArg (m ((c : Thread nD τ).loc main_arg5)) (funext fun x =>
    Fin.ext ((Window.rect_emb_val ((pipe m hO).win 3) t _ x).trans (coord_expert _ _ _ (idx_expert m hO hE t) rfl 0 e x))))

/-- A block of the linear halves' biases. -/
theorem part4 (hE : Named m) (c : Dev nD) (t : Fin (pipe m hO).N) (e : Fin 1024) :
    part m hO c 4 t (ix3 (0 : Fin 1) (0 : Fin 1) e) = m ((c : Thread nD τ).loc main_arg6) (ix3 (expertAt m hO t) (0 : Fin 1) e) :=
  (View.read_apply _ _).trans (congrArg (m ((c : Thread nD τ).loc main_arg6)) (funext fun x =>
    Fin.ext ((Window.rect_emb_val ((pipe m hO).win 4) t _ x).trans (coord_expert _ _ _ (idx_expert m hO hE t) rfl 0 e x))))

/-- A block of the last weights. -/
theorem part5 (hE : Named m) (c : Dev nD) (t : Fin (pipe m hO).N) (f e : Fin 1024) :
    part m hO c 5 t (ix3 (0 : Fin 1) (f : Fin 1024) e) = m ((c : Thread nD τ).loc main_arg7) (ix3 (expertAt m hO t) (f : Fin 1024) e) :=
  (View.read_apply _ _).trans (congrArg (m ((c : Thread nD τ).loc main_arg7)) (funext fun x =>
    Fin.ext ((Window.rect_emb_val ((pipe m hO).win 5) t _ x).trans (coord_expert _ _ _ (idx_expert m hO hE t) rfl f e x))))

/-- A block of the last biases. -/
theorem part6 (hE : Named m) (c : Dev nD) (t : Fin (pipe m hO).N) (e : Fin 1024) :
    part m hO c 6 t (ix3 (0 : Fin 1) (0 : Fin 1) e) = m ((c : Thread nD τ).loc main_arg8) (ix3 (expertAt m hO t) (0 : Fin 1) e) :=
  (View.read_apply _ _).trans (congrArg (m ((c : Thread nD τ).loc main_arg8)) (funext fun x =>
    Fin.ext ((Window.rect_emb_val ((pipe m hO).win 6) t _ x).trans (coord_expert _ _ _ (idx_expert m hO hE t) rfl 0 e x))))

end Blocks

/-- The body's value where the block is in use. -/
theorem pay_apply (x0 : Vec Ideal S512x1024 .bf16) (x1 x2 : Vec Ideal S1x1024x1024 .bf16) (x3 x4 : Vec Ideal S1x1x1024 .f32)
    (x5 : Vec Ideal S1x1024x1024 .f32) (x6 : Vec Ideal S1x1x1024 .f32) (p : Fin 512) (d : Fin 1024) :
    k0_pay1 (F := Ideal) (k0_pay3 x0 x1 x3 x2 x4 x5) x6 (ix2 p d)
      = entry (fun e => x0 (ix2 p e)) (fun f e => x1 (ix3 0 f e)) (fun f e => x2 (ix3 0 f e)) (fun f => x3 (ix3 0 0 f)) (fun f => x4 (ix3 0 0 f))
          (fun f => x5 (ix3 0 f d)) (x6 (ix3 0 0 d)) := by
  pointwise [k0_pay1, k0_pay3]
  rfl

/-- The body's value elsewhere. -/
theorem zero_apply (p : Fin 512) (d : Fin 1024) : k0_pay2 (F := Ideal) (ix2 p d) = (0 : EReal) := by
  pointwise [k0_pay2]

/-- The body's condition is that the block's number is below the number of blocks in use. -/
theorem cond1_iff (i : grid0.Coords) (v : BitVec 32) : k0_cond1 i v = 1#1 ↔ (BitVec.ofNat 32 (i 0).val).slt v = true := by
  simp only [k0_cond1, Scalar.cmpi, Scalar.extui, IntOp.cmpi]
  cases (BitVec.ofNat 32 (i 0).val).slt v <;> decide

section Result

variable (m : (ℓ : Loc nD τ sig) → Buf (Elt Ideal) ℓ) (hO : Inside m)

/-- What a point leaves in the result's block. -/
theorem resultAt_apply (hE : Named m) (c : Dev nD) (t : Fin (pipe m hO).N) (p : Fin 512) (d : Fin 1024) :
    (resultAt m hO c t (ix2 p d) : EReal)
      = blockEntry (m ((c : Thread nD τ).loc main_arg0)) (tables m 0) (tables m 1) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8))
          (⟨t.val, t.isLt⟩ : Fin 288) p d := by
  have hc : k0_cond1 (grid0.coords t) (usedOf (tables m 1)) = 1#1 ↔ (BitVec.ofNat 32 t.val).slt ((tables m 1 : S1.Idx → BitVec 32) (ix1 0)) = true := by
    refine (cond1_iff _ _).trans ?_
    rw [coord_eq]
    unfold usedOf
    rw [one_idx (fun a => ⟨0, by fin_cases a; decide⟩) (ix1 0)]
  unfold resultAt blockOut blockEntry
  by_cases h : k0_cond1 (grid0.coords t) (usedOf (tables m 1)) = 1#1
  · refine (congrFun (if_pos h) (ix2 p d)).trans (Eq.trans ?_ (if_pos (hc.mp h)).symm)
    refine (pay_apply _ _ _ _ _ _ _ p d).trans ?_
    exact entry_congr (fun e => part0 m hO c t p e) (part1 m hO hE c t) (part2 m hO hE c t) (part3 m hO hE c t) (part4 m hO hE c t)
      (fun f => part5 m hO hE c t f d) (part6 m hO hE c t d)
  · exact (congrFun (if_neg h) (ix2 p d)).trans ((zero_apply p d).trans (if_neg (fun h' => h (hc.mpr h'))).symm)

/-- The result is the array of the experts' outputs. -/
theorem result_eq (hE : Named m) (c : Dev nD) :
    (kept m hO 0 c).arrAt 7 (pipe m hO).N
      = expertsOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  obtain rfl : c = 0 := Subsingleton.elim _ _
  refine funext fun (i : S147456x1024.Idx) => ?_
  idx_vars i
  let t : Fin (pipe m hO).N := ⟨i0.val / 512, by show _ < 288; omega⟩
  let p : Fin 512 := ⟨i0.val % 512, Nat.mod_lt _ (by decide)⟩
  have hr : rowOf m hO t p = i0 := Fin.ext (Nat.div_add_mod' _ _)
  have hb := (block7 m hO 0 t p i1).trans (resultAt_apply m hO hE 0 t p i1)
  rw [hr] at hb
  exact hb

end Result

section Run

variable (m : (ℓ : Loc nD τ sig) → Buf (Elt F) ℓ) (ρ : Dev nD → PrngReg) (hO : Inside m)

/-- The run ends with the result at the blocks left by the points, the arguments as launched and every counter at zero. -/
theorem run_main : θ_run defs (onTc (τ := τ) (main (F := F))) ⟨m, fun _ => 0, ρ⟩ (fun r => (∀ c : Dev nD,
      r.2.mem ((c.tc : Thread nD τ).loc main_v0) = (kept m hO 0 c).arrAt 7 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => ⟨(h.1 c).1 7,
      ((h.1 c).1 0).trans (((kept m hO 0 c).arrAt_in 0 rfl _).trans (kept_A m hO c 0)),
      (h.1 c).2 main_arg1 (by decide : main_arg1 ∈ Pipeline.restRefs sig spec0),
      (h.1 c).2 main_arg2 (by decide : main_arg2 ∈ Pipeline.restRefs sig spec0),
      ((h.1 c).1 1).trans (((kept m hO 0 c).arrAt_in 1 rfl _).trans (kept_A m hO c 1)),
      ((h.1 c).1 2).trans (((kept m hO 0 c).arrAt_in 2 rfl _).trans (kept_A m hO c 2)),
      ((h.1 c).1 3).trans (((kept m hO 0 c).arrAt_in 3 rfl _).trans (kept_A m hO c 3)),
      ((h.1 c).1 4).trans (((kept m hO 0 c).arrAt_in 4 rfl _).trans (kept_A m hO c 4)),
      ((h.1 c).1 5).trans (((kept m hO 0 c).arrAt_in 5 rfl _).trans (kept_A m hO c 5)),
      ((h.1 c).1 6).trans (((kept m hO 0 c).arrAt_in 6 rfl _).trans (kept_A m hO c 6))⟩, h.2⟩)
    (launched m ρ hO)

end Run

end Cert.Proof.Moe

end
-- ==== Proof.MergeMath.lean ====
/-
  The merge's rows as functions of numbers: the gated merge with its residual, the scaled row, the router's logits; and that
  they are reals at real arguments.
-/
module

public import Idealize.ShloMosaic.Lib.Pointwise

@[expose] public section

noncomputable section

namespace Cert.Proof.Merge

open Idealize.ShloMosaic

/-- Entry `e` of the merged row: each branch's product times its gate. -/
def merged (u v : Fin 512 → EReal) (g : Fin 2048 → EReal) (wu wv : Fin 512 → Fin 1024 → EReal) (e : Fin 1024) : EReal :=
  Ideal.logistic (g ⟨e.val, by omega⟩) * (∑ k : Fin 512, u k * wu k e)
    + Ideal.logistic (g ⟨1024 + e.val, by omega⟩) * ∑ k : Fin 512, v k * wv k e

/-- Entry `b` of the residual row plus the merged row's product. -/
def hid (u v : Fin 512 → EReal) (g : Fin 2048 → EReal) (wu wv : Fin 512 → Fin 1024 → EReal) (x : Fin 1024 → EReal)
    (wo : Fin 1024 → Fin 1024 → EReal) (b : Fin 1024) : EReal :=
  x b + ∑ e : Fin 1024, merged u v g wu wv e * wo e b

/-- Entry `b` of a row divided by its root mean square, times the scale. -/
def normed (h n : Fin 1024 → EReal) (b : Fin 1024) : EReal :=
  h b * Ideal.rsqrt (Ideal.div (∑ e : Fin 1024, h e * h e) (Ideal.ofBits FTy.f32 0x44800000#32) + Ideal.ofBits FTy.f32 0x358637BD#32) * n b

/-- One logit: the row times a column given as two parts, plus the bias. -/
def logit (p rh rl : Fin 1024 → EReal) (c : EReal) : EReal := (∑ e : Fin 1024, p e * (rh e + rl e)) + c

/-- To be a real. -/
def IsReal (x : EReal) : Prop := ∃ r : ℝ, x = (r : EReal)

theorem IsReal.mul {x y : EReal} : IsReal x → IsReal y → IsReal (x * y) := by
  rintro ⟨r, rfl⟩ ⟨s, rfl⟩
  exact ⟨r * s, (EReal.coe_mul r s).symm⟩

theorem IsReal.add {x y : EReal} : IsReal x → IsReal y → IsReal (x + y) := by
  rintro ⟨r, rfl⟩ ⟨s, rfl⟩
  exact ⟨r + s, (EReal.coe_add r s).symm⟩

/-- A sum of reals is a real. -/
theorem IsReal.sum {n : ℕ} {f : Fin n → EReal} (h : ∀ k, IsReal (f k)) : IsReal (∑ k, f k) :=
  Finset.sum_induction f IsReal (fun _ _ => IsReal.add) ⟨0, EReal.coe_zero.symm⟩ (fun k _ => h k)

/-- The logistic of a real is a real. -/
theorem IsReal.logistic {x : EReal} : IsReal x → IsReal (Ideal.logistic x) := by
  rintro ⟨r, rfl⟩
  exact ⟨_, Ideal.logistic_coe r⟩

/-- The residual row is real at real arguments. -/
theorem hid_real {u v : Fin 512 → EReal} {g : Fin 2048 → EReal} {wu wv : Fin 512 → Fin 1024 → EReal} {x : Fin 1024 → EReal}
    {wo : Fin 1024 → Fin 1024 → EReal} (hu : ∀ k, IsReal (u k)) (hv : ∀ k, IsReal (v k)) (hg : ∀ k, IsReal (g k))
    (hwu : ∀ k e, IsReal (wu k e)) (hwv : ∀ k e, IsReal (wv k e)) (hx : ∀ b, IsReal (x b)) (hwo : ∀ e b, IsReal (wo e b)) (b : Fin 1024) :
    IsReal (hid u v g wu wv x wo b) :=
  (hx b).add (IsReal.sum fun e => (((hg _).logistic.mul (IsReal.sum fun k => (hu k).mul (hwu k e))).add
    ((hg _).logistic.mul (IsReal.sum fun k => (hv k).mul (hwv k e)))).mul (hwo e b))

/-- The row's length. -/
theorem length_word : Ideal.ofBits FTy.f32 0x44800000#32 = ((1024 : ℝ) : EReal) := by
  simp [Ideal.ofBits, Ideal.ieee]
  try norm_cast
  try norm_num

/-- The small number added to the mean square. -/
theorem small_word : Ideal.ofBits FTy.f32 0x358637BD#32 = (((8796093 : ℝ) * ((2 : ℝ) ^ 43)⁻¹ : ℝ) : EReal) := by
  simp [Ideal.ofBits, Ideal.ieee]
  try norm_cast
  try norm_num

/-- The scaled row is real at a real row and scale: the mean square plus the small number is positive. -/
theorem normed_real {h n : Fin 1024 → EReal} (hh : ∀ b, IsReal (h b)) (hn : ∀ b, IsReal (n b)) (b : Fin 1024) : IsReal (normed h n b) := by
  refine ((hh b).mul ?_).mul (hn b)
  choose r hr using hh
  have hs : ∑ e : Fin 1024, h e * h e = ((∑ e : Fin 1024, r e * r e : ℝ) : EReal) := by
    have h1 : ∀ e, h e * h e = ((r e * r e : ℝ) : EReal) := fun e => by rw [hr e]; exact (EReal.coe_mul _ _).symm
    rw [Finset.sum_congr rfl fun e _ => h1 e]
    generalize (Finset.univ : Finset (Fin 1024)) = s
    induction s using Finset.cons_induction with
    | empty => simp
    | cons a s ha ih => rw [Finset.sum_cons, Finset.sum_cons, ih, EReal.coe_add]
  have h0 : 0 ≤ ∑ e : Fin 1024, r e * r e := Finset.sum_nonneg fun e _ => mul_self_nonneg _
  rw [hs, length_word, small_word]
  have hd : Ideal.div ((∑ e : Fin 1024, r e * r e : ℝ) : EReal) ((1024 : ℝ) : EReal) = (((∑ e : Fin 1024, r e * r e) * (1024 : ℝ)⁻¹ : ℝ) : EReal) := by
    unfold Ideal.div
    rw [if_neg (by norm_num)]
    rw [EReal.coe_mul, EReal.coe_inv]
  rw [hd, ← EReal.coe_add, Ideal.rsqrt_coe]
  have hp : 0 < (∑ e : Fin 1024, r e * r e) * (1024 : ℝ)⁻¹ + (8796093 : ℝ) * ((2 : ℝ) ^ 43)⁻¹ :=
    add_pos_of_nonneg_of_pos (mul_nonneg h0 (by norm_num)) (by norm_num)
  rw [if_neg (not_lt.mpr hp.le), if_neg hp.ne']
  exact ⟨_, rfl⟩

/-- The three products the kernel adds are the logit, at reals: the row less itself is zero, and the two parts of the column add up. -/
theorem logit_parts {p rh rl : Fin 1024 → EReal} (hp : ∀ e, IsReal (p e)) (hh : ∀ e, IsReal (rh e)) (hl : ∀ e, IsReal (rl e)) (c : EReal) :
    (((∑ e : Fin 1024, p e * rh e) + ∑ e : Fin 1024, (p e - p e) * rh e) + ∑ e : Fin 1024, p e * rl e) + c = logit p rh rl c := by
  have hz : ∑ e : Fin 1024, (p e - p e) * rh e = 0 := by
    refine Finset.sum_eq_zero fun e _ => ?_
    obtain ⟨r, hr⟩ := hp e
    rw [hr, ← EReal.coe_sub, sub_self, EReal.coe_zero, zero_mul]
  rw [hz, add_zero, ← Finset.sum_add_distrib]
  unfold logit
  refine congrArg (fun s : EReal => HAdd.hAdd (α := EReal) s c) (Finset.sum_congr rfl fun e _ => ?_)
  obtain ⟨r, hr⟩ := hp e
  obtain ⟨s, hs⟩ := hh e
  obtain ⟨q, hq⟩ := hl e
  rw [hr, hs, hq]
  norm_cast
  ring

end Cert.Proof.Merge

end
-- ==== Proof.MergeRef.lean ====
/-
  The reference's three results, read as the merge's rows.
-/
module

public import proofs.«01_k».proof.Proof.Gen.Reference5Ideal.Run
public import proofs.«01_k».proof.Proof.MergeMath

@[expose] public section

set_option maxRecDepth 16384

noncomputable section

namespace Cert.Proof.Merge

open Cert.Reference5Ideal Cert.Reference5Ideal.Facts₀
open Idealize.ShloMosaic Idealize.ShloMosaic.TcCoe

variable (yh ya : FVec Ideal S32768x512 .bf16) (g : FVec Ideal S32768x2048 .bf16) (x : FVec Ideal S32768x1024 .f32)
  (wu wv : FVec Ideal S512x1024 .bf16) (wo : FVec Ideal S1024x1024 .bf16) (n : FVec Ideal S1x1024 .f32)
  (rh rl : FVec Ideal S1024x128 .bf16) (rb : FVec Ideal S1x128 .f32)

/-- Row `a` of the residual plus the merge. -/
def hidRow (a : Fin 32768) : Fin 1024 → EReal :=
  hid (fun k => yh (ix2 a k)) (fun k => ya (ix2 a k)) (fun k => g (ix2 a k)) (fun k e => wu (ix2 k e)) (fun k e => wv (ix2 k e))
    (fun b => x (ix2 a b)) (fun e b => wo (ix2 e b))

/-- Row `a` scaled. -/
def normedRow (a : Fin 32768) : Fin 1024 → EReal := normed (hidRow yh ya g x wu wv wo a) (fun b => n (ix2 0 b))

/-- Row `a` of the logits. -/
def logitRow (a : Fin 32768) (j : Fin 128) : EReal :=
  logit (normedRow yh ya g x wu wv wo n a) (fun e => rh (ix2 e j)) (fun e => rl (ix2 e j)) (rb (ix2 0 j))

/-- The gates' logistic, spelt out. -/
theorem gate_apply (a : Fin 32768) (k : Fin 2048) :
    (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32)))) : FVec Ideal S32768x2048 .f32) (ix2 a k)
      = Ideal.logistic (g (ix2 a k)) := by
  pointwise
  rfl

/-- The first result. -/
theorem ref_hid (a : Fin 32768) (b : Fin 1024) :
    (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32)) : FVec Ideal S32768x1024 .f32) (ix2 a b)
      = hidRow yh ya g x wu wv wo a b := by
  have hg := gate_apply g a
  generalize (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32)))) : FVec Ideal S32768x2048 .f32) = G at hg ⊢
  unfold hidRow hid merged
  pointwise
  refine congrArg (fun s : EReal => HAdd.hAdd (α := EReal) _ s) (Finset.sum_congr rfl fun e _ => ?_)
  rw [← hg, ← hg]

/-- A row scaled, in the reference. -/
theorem ref_normed (H : FVec Ideal S32768x1024 .f32) (a : Fin 32768) (b : Fin 1024) :
    (mulf (mulf H (broadcastInDim S32768x1024 ![0, 1] bcast_S32768x1_S32768x1024_0_1 (Host.rsqrt (addf (Host.divf (broadcastInDim S32768x1 ![0] bcast_S32768_S32768x1_0 (Host.reduceAdd (mulf H H) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 n) : FVec Ideal S32768x1024 .f32) (ix2 a b)
      = normed (fun e => H (ix2 a e)) (fun e => n (ix2 0 e)) b := by
  unfold normed
  pointwise

/-- The logits, in the reference. -/
theorem ref_logit (P : FVec Ideal S32768x1024 .f32) (a : Fin 32768) (j : Fin 128) :
    (addf (Host.dotGeneral dot_S32768x1024_S1024x128_S32768x128_1_0_0_1_n_n none P (addf (extf .f32 rh bitsLt_bf16_f32) (extf .f32 rl bitsLt_bf16_f32))) (broadcastInDim S32768x128 ![0, 1] bcast_S1x128_S32768x128_0_1 rb) : FVec Ideal S32768x128 .f32) (ix2 a j)
      = logit (fun e => P (ix2 a e)) (fun e => rh (ix2 e j)) (fun e => rl (ix2 e j)) (rb (ix2 0 j)) := by
  unfold logit
  pointwise

/-- The second result. -/
theorem ref_scaled (a : Fin 32768) (b : Fin 1024) :
    (truncf .bf16 (mulf (mulf (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32))) (broadcastInDim S32768x1024 ![0, 1] bcast_S32768x1_S32768x1024_0_1 (Host.rsqrt (addf (Host.divf (broadcastInDim S32768x1 ![0] bcast_S32768_S32768x1_0 (Host.reduceAdd (mulf (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32))) (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32)))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 n)) bitsLt_bf16_f32 : FVec Ideal S32768x1024 .bf16) (ix2 a b)
      = normedRow yh ya g x wu wv wo n a b := by
  have hh := ref_hid yh ya g x wu wv wo a
  generalize (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32)) : FVec Ideal S32768x1024 .f32) = H at hh ⊢
  refine (ref_normed n H a b).trans ?_
  unfold normedRow
  rw [show (fun e => H (ix2 a e)) = hidRow yh ya g x wu wv wo a from funext hh]

/-- The third result. -/
theorem ref_logits (a : Fin 32768) (j : Fin 128) :
    (addf (Host.dotGeneral dot_S32768x1024_S1024x128_S32768x128_1_0_0_1_n_n none (mulf (mulf (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32))) (broadcastInDim S32768x1024 ![0, 1] bcast_S32768x1_S32768x1024_0_1 (Host.rsqrt (addf (Host.divf (broadcastInDim S32768x1 ![0] bcast_S32768_S32768x1_0 (Host.reduceAdd (mulf (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32))) (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32)))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 n)) (addf (extf .f32 rh bitsLt_bf16_f32) (extf .f32 rl bitsLt_bf16_f32))) (broadcastInDim S32768x128 ![0, 1] bcast_S1x128_S32768x128_0_1 rb) : FVec Ideal S32768x128 .f32) (ix2 a j)
      = logitRow yh ya g x wu wv wo n rh rl rb a j := by
  have hs : ∀ b, (mulf (mulf (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32))) (broadcastInDim S32768x1024 ![0, 1] bcast_S32768x1_S32768x1024_0_1 (Host.rsqrt (addf (Host.divf (broadcastInDim S32768x1 ![0] bcast_S32768_S32768x1_0 (Host.reduceAdd (mulf (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32))) (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32)))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 n) : FVec Ideal S32768x1024 .f32) (ix2 a b) = normedRow yh ya g x wu wv wo n a b := ref_scaled yh ya g x wu wv wo n a
  generalize (mulf (mulf (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32))) (broadcastInDim S32768x1024 ![0, 1] bcast_S32768x1_S32768x1024_0_1 (Host.rsqrt (addf (Host.divf (broadcastInDim S32768x1 ![0] bcast_S32768_S32768x1_0 (Host.reduceAdd (mulf (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32))) (addf x (Host.dotGeneral dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_0) (Host.dotGeneral dot_S32768x512_S512x1024_S32768x1024_1_0_0_1_n_n none (extf .f32 yh bitsLt_bf16_f32) (extf .f32 wu bitsLt_bf16_f32))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 g bitsLt_bf16_f32))))) slices_S32768x2048_S32768x1024_0_1024) (Host.dotGeneral dot_S32768x512_S512x1024_S32768x1024_1_0_0_1_n_n none (extf .f32 ya bitsLt_bf16_f32) (extf .f32 wv bitsLt_bf16_f32)))) (extf .f32 wo bitsLt_bf16_f32)))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 n) : FVec Ideal S32768x1024 .f32) = P at hs ⊢
  refine (ref_logit rh rl rb P a j).trans ?_
  unfold logitRow
  rw [show (fun e => P (ix2 a e)) = normedRow yh ya g x wu wv wo n a from funext hs]

end Cert.Proof.Merge

end
-- ==== Proof.MergeBody.lean ====
/-
  What the merge's body computes from its blocks, entry by entry.
-/
module

public import proofs.«01_k».proof.Proof.Gen.Kernel5Ideal.Value
public import proofs.«01_k».proof.Proof.MergeMath
public import Idealize.ShloMosaic.Lib.Pipeline.ValueKit

@[expose] public section

set_option maxRecDepth 16384

noncomputable section

namespace Cert.Proof.Merge

open Cert.Kernel5Ideal Cert.Kernel5Ideal.Gen Cert.Kernel5Ideal.Value
open Idealize.ShloMosaic Idealize.ShloMosaic.TcCoe

variable (yh ya : Vec Ideal S1024x512 .bf16) (g : Vec Ideal S1024x2048 .bf16) (x : Vec Ideal S1024x1024 .f32)
  (wu wv : Vec Ideal S512x1024 .bf16) (wo : Vec Ideal S1024x1024 .bf16) (n : Vec Ideal S1x1024 .f32)
  (rh rl : Vec Ideal S1024x128 .bf16) (rb : Vec Ideal S1x128 .f32)

/-- Row `a` of a block of the residual plus the merge. -/
def hidBlk (a : Fin 1024) : Fin 1024 → EReal :=
  hid (fun k => yh (ix2 a k)) (fun k => ya (ix2 a k)) (fun k => g (ix2 a k)) (fun k e => wu (ix2 k e)) (fun k e => wv (ix2 k e))
    (fun b => x (ix2 a b)) (fun e b => wo (ix2 e b))

/-- The body's residual row. -/
theorem pay_hid (a b : Fin 1024) : k0_pay3 yh wu ya wv g x wo (ix2 a b) = hidBlk yh ya g x wu wv wo a b := by
  unfold k0_pay3 hidBlk hid merged
  dsimp only
  pointwise

/-- The body's scaled row. -/
theorem pay_normed (a b : Fin 1024) :
    k0_pay4 yh wu ya wv g x wo n (ix2 a b) = normed (hidBlk yh ya g x wu wv wo a) (fun e => n (ix2 0 e)) b := by
  have hh := pay_hid yh ya g x wu wv wo a
  unfold k0_pay4
  generalize k0_pay3 yh wu ya wv g x wo = H at hh ⊢
  rw [show hidBlk yh ya g x wu wv wo a = fun e => H (ix2 a e) from funext fun e => (hh e).symm]
  unfold normed
  dsimp only
  pointwise

/-- The body's logits. -/
theorem pay_logit (P : FVec Ideal S1024x1024 .f32) (a : Fin 1024) (j : Fin 128) :
    k0_pay2 P rh rh rl rb (ix2 a j)
      = (((∑ e : Fin 1024, P (ix2 a e) * rh (ix2 e j)) + ∑ e : Fin 1024, (P (ix2 a e) - P (ix2 a e)) * rh (ix2 e j))
          + ∑ e : Fin 1024, P (ix2 a e) * rl (ix2 e j) : EReal) + rb (ix2 0 j) := by
  unfold k0_pay2
  pointwise

end Cert.Proof.Merge

end
-- ==== Proof.MergeValue.lean ====
/-
  The merge's three results, from the blocks each grid point writes.
-/
module

public import proofs.«01_k».proof.Proof.MergeBody
public import proofs.«01_k».proof.Proof.MergeRef

@[expose] public section

set_option maxRecDepth 16384

noncomputable section

namespace Cert.Proof.Merge

open Cert.Kernel5Ideal Cert.Kernel5Ideal.Gen Cert.Kernel5Ideal.Value
open Idealize.ShloMosaic Idealize.ShloMosaic.TcCoe

variable (m : (ℓ : Loc nD τ sig) → Buf (Elt Ideal) ℓ)

/-- Window 0's block numbers. -/
theorem at0 : ∀ t : Fin grid0.N, win0_0.index t 0 = t.val ∧ win0_0.index t 1 = 0 := by decide +kernel
/-- Window 1's block numbers. -/
theorem at1 : ∀ t : Fin grid0.N, win0_1.index t 0 = t.val ∧ win0_1.index t 1 = 0 := by decide +kernel
/-- Window 2's block numbers. -/
theorem at2 : ∀ t : Fin grid0.N, win0_2.index t 0 = t.val ∧ win0_2.index t 1 = 0 := by decide +kernel
/-- Window 3's block numbers. -/
theorem at3 : ∀ t : Fin grid0.N, win0_3.index t 0 = t.val ∧ win0_3.index t 1 = 0 := by decide +kernel
/-- Window 4's block numbers. -/
theorem at4 : ∀ t : Fin grid0.N, win0_4.index t 0 = 0 ∧ win0_4.index t 1 = 0 := by decide +kernel
/-- Window 5's block numbers. -/
theorem at5 : ∀ t : Fin grid0.N, win0_5.index t 0 = 0 ∧ win0_5.index t 1 = 0 := by decide +kernel
/-- Window 6's block numbers. -/
theorem at6 : ∀ t : Fin grid0.N, win0_6.index t 0 = 0 ∧ win0_6.index t 1 = 0 := by decide +kernel
/-- Window 7's block numbers. -/
theorem at7 : ∀ t : Fin grid0.N, win0_7.index t 0 = 0 ∧ win0_7.index t 1 = 0 := by decide +kernel
/-- Window 8's block numbers. -/
theorem at8 : ∀ t : Fin grid0.N, win0_8.index t 0 = 0 ∧ win0_8.index t 1 = 0 := by decide +kernel
/-- Window 9's block numbers. -/
theorem at9 : ∀ t : Fin grid0.N, win0_9.index t 0 = 0 ∧ win0_9.index t 1 = 0 := by decide +kernel
/-- Window 10's block numbers. -/
theorem at10 : ∀ t : Fin grid0.N, win0_10.index t 0 = 0 ∧ win0_10.index t 1 = 0 := by decide +kernel
/-- Window 11's block numbers. -/
theorem at11 : ∀ t : Fin grid0.N, win0_11.index t 0 = t.val ∧ win0_11.index t 1 = 0 := by decide +kernel
/-- Window 12's block numbers. -/
theorem at12 : ∀ t : Fin grid0.N, win0_12.index t 0 = t.val ∧ win0_12.index t 1 = 0 := by decide +kernel
/-- Window 13's block numbers. -/
theorem at13 : ∀ t : Fin grid0.N, win0_13.index t 0 = t.val ∧ win0_13.index t 1 = 0 := by decide +kernel

/-- The row of the array that row `a` of block `t` is. -/
def rowAt (t : Fin grid0.N) (a : Fin 1024) : Fin 32768 := ⟨1024 * t.val + a.val, by have := t.isLt; have h : grid0.N = 32 := N_0; omega⟩

/-- A block of argument 0. -/
theorem block0 (c : Dev nD) (t : Fin cfg0.N) (a : Fin 1024) (b : Fin 512) :
    iblk m c 0 t (ix2 a b) = m ((c : Thread nD τ).loc main_arg0) (ix2 (rowAt t a) b) := by
  unfold iblk
  rw [View.read_apply]
  show V m c main_arg0 _ = _
  rw [V_main_arg0]
  congr 1
  funext x
  refine Fin.ext ?_
  refine (Idealize.ShloMosaic.Pipeline.Window.rect_emb_val win0_0 t _ x).trans ?_
  fin_cases x
  · exact (congrArg (· * 1024 + a.val) (at0 t).1).trans (congrArg (· + a.val) (Nat.mul_comm _ _))
  · exact (congrArg (· * 512 + b.val) (at0 t).2).trans ((congrArg (· + b.val) (Nat.zero_mul _)).trans (Nat.zero_add _))

/-- A block of argument 1. -/
theorem block1 (c : Dev nD) (t : Fin cfg0.N) (a : Fin 1024) (b : Fin 512) :
    iblk m c 1 t (ix2 a b) = m ((c : Thread nD τ).loc main_arg1) (ix2 (rowAt t a) b) := by
  unfold iblk
  rw [View.read_apply]
  show V m c main_arg1 _ = _
  rw [V_main_arg1]
  congr 1
  funext x
  refine Fin.ext ?_
  refine (Idealize.ShloMosaic.Pipeline.Window.rect_emb_val win0_1 t _ x).trans ?_
  fin_cases x
  · exact (congrArg (· * 1024 + a.val) (at1 t).1).trans (congrArg (· + a.val) (Nat.mul_comm _ _))
  · exact (congrArg (· * 512 + b.val) (at1 t).2).trans ((congrArg (· + b.val) (Nat.zero_mul _)).trans (Nat.zero_add _))

/-- A block of argument 2. -/
theorem block2 (c : Dev nD) (t : Fin cfg0.N) (a : Fin 1024) (b : Fin 2048) :
    iblk m c 2 t (ix2 a b) = m ((c : Thread nD τ).loc main_arg2) (ix2 (rowAt t a) b) := by
  unfold iblk
  rw [View.read_apply]
  show V m c main_arg2 _ = _
  rw [V_main_arg2]
  congr 1
  funext x
  refine Fin.ext ?_
  refine (Idealize.ShloMosaic.Pipeline.Window.rect_emb_val win0_2 t _ x).trans ?_
  fin_cases x
  · exact (congrArg (· * 1024 + a.val) (at2 t).1).trans (congrArg (· + a.val) (Nat.mul_comm _ _))
  · exact (congrArg (· * 2048 + b.val) (at2 t).2).trans ((congrArg (· + b.val) (Nat.zero_mul _)).trans (Nat.zero_add _))

/-- A block of argument 3. -/
theorem block3 (c : Dev nD) (t : Fin cfg0.N) (a : Fin 1024) (b : Fin 1024) :
    iblk m c 3 t (ix2 a b) = m ((c : Thread nD τ).loc main_arg3) (ix2 (rowAt t a) b) := by
  unfold iblk
  rw [View.read_apply]
  show V m c main_arg3 _ = _
  rw [V_main_arg3]
  congr 1
  funext x
  refine Fin.ext ?_
  refine (Idealize.ShloMosaic.Pipeline.Window.rect_emb_val win0_3 t _ x).trans ?_
  fin_cases x
  · exact (congrArg (· * 1024 + a.val) (at3 t).1).trans (congrArg (· + a.val) (Nat.mul_comm _ _))
  · exact (congrArg (· * 1024 + b.val) (at3 t).2).trans ((congrArg (· + b.val) (Nat.zero_mul _)).trans (Nat.zero_add _))

/-- A block of argument 4. -/
theorem block4 (c : Dev nD) (t : Fin cfg0.N) (a : Fin 512) (b : Fin 1024) :
    iblk m c 4 t (ix2 a b) = m ((c : Thread nD τ).loc main_arg4) (ix2 a b) := by
  unfold iblk
  rw [View.read_apply]
  show V m c main_arg4 _ = _
  rw [V_main_arg4]
  congr 1
  funext x
  refine Fin.ext ?_
  refine (Idealize.ShloMosaic.Pipeline.Window.rect_emb_val win0_4 t _ x).trans ?_
  fin_cases x
  · exact (congrArg (· * 512 + a.val) (at4 t).1).trans ((congrArg (· + a.val) (Nat.zero_mul _)).trans (Nat.zero_add _))
  · exact (congrArg (· * 1024 + b.val) (at4 t).2).trans ((congrArg (· + b.val) (Nat.zero_mul _)).trans (Nat.zero_add _))

/-- A block of argument 5. -/
theorem block5 (c : Dev nD) (t : Fin cfg0.N) (a : Fin 512) (b : Fin 1024) :
    iblk m c 5 t (ix2 a b) = m ((c : Thread nD τ).loc main_arg5) (ix2 a b) := by
  unfold iblk
  rw [View.read_apply]
  show V m c main_arg5 _ = _
  rw [V_main_arg5]
  congr 1
  funext x
  refine Fin.ext ?_
  refine (Idealize.ShloMosaic.Pipeline.Window.rect_emb_val win0_5 t _ x).trans ?_
  fin_cases x
  · exact (congrArg (· * 512 + a.val) (at5 t).1).trans ((congrArg (· + a.val) (Nat.zero_mul _)).trans (Nat.zero_add _))
  · exact (congrArg (· * 1024 + b.val) (at5 t).2).trans ((congrArg (· + b.val) (Nat.zero_mul _)).trans (Nat.zero_add _))

/-- A block of argument 6. -/
theorem block6 (c : Dev nD) (t : Fin cfg0.N) (a : Fin 1024) (b : Fin 1024) :
    iblk m c 6 t (ix2 a b) = m ((c : Thread nD τ).loc main_arg6) (ix2 a b) := by
  unfold iblk
  rw [View.read_apply]
  show V m c main_arg6 _ = _
  rw [V_main_arg6]
  congr 1
  funext x
  refine Fin.ext ?_
  refine (Idealize.ShloMosaic.Pipeline.Window.rect_emb_val win0_6 t _ x).trans ?_
  fin_cases x
  · exact (congrArg (· * 1024 + a.val) (at6 t).1).trans ((congrArg (· + a.val) (Nat.zero_mul _)).trans (Nat.zero_add _))
  · exact (congrArg (· * 1024 + b.val) (at6 t).2).trans ((congrArg (· + b.val) (Nat.zero_mul _)).trans (Nat.zero_add _))

/-- A block of argument 7. -/
theorem block7 (c : Dev nD) (t : Fin cfg0.N) (a : Fin 1) (b : Fin 1024) :
    iblk m c 7 t (ix2 a b) = m ((c : Thread nD τ).loc main_arg7) (ix2 a b) := by
  unfold iblk
  rw [View.read_apply]
  show V m c main_arg7 _ = _
  rw [V_main_arg7]
  congr 1
  funext x
  refine Fin.ext ?_
  refine (Idealize.ShloMosaic.Pipeline.Window.rect_emb_val win0_7 t _ x).trans ?_
  fin_cases x
  · exact (congrArg (· * 1 + a.val) (at7 t).1).trans ((congrArg (· + a.val) (Nat.zero_mul _)).trans (Nat.zero_add _))
  · exact (congrArg (· * 1024 + b.val) (at7 t).2).trans ((congrArg (· + b.val) (Nat.zero_mul _)).trans (Nat.zero_add _))

/-- A block of argument 8. -/
theorem block8 (c : Dev nD) (t : Fin cfg0.N) (a : Fin 1024) (b : Fin 128) :
    iblk m c 8 t (ix2 a b) = m ((c : Thread nD τ).loc main_arg8) (ix2 a b) := by
  unfold iblk
  rw [View.read_apply]
  show V m c main_arg8 _ = _
  rw [V_main_arg8]
  congr 1
  funext x
  refine Fin.ext ?_
  refine (Idealize.ShloMosaic.Pipeline.Window.rect_emb_val win0_8 t _ x).trans ?_
  fin_cases x
  · exact (congrArg (· * 1024 + a.val) (at8 t).1).trans ((congrArg (· + a.val) (Nat.zero_mul _)).trans (Nat.zero_add _))
  · exact (congrArg (· * 128 + b.val) (at8 t).2).trans ((congrArg (· + b.val) (Nat.zero_mul _)).trans (Nat.zero_add _))

/-- A block of argument 9. -/
theorem block9 (c : Dev nD) (t : Fin cfg0.N) (a : Fin 1024) (b : Fin 128) :
    iblk m c 9 t (ix2 a b) = m ((c : Thread nD τ).loc main_arg9) (ix2 a b) := by
  unfold iblk
  rw [View.read_apply]
  show V m c main_arg9 _ = _
  rw [V_main_arg9]
  congr 1
  funext x
  refine Fin.ext ?_
  refine (Idealize.ShloMosaic.Pipeline.Window.rect_emb_val win0_9 t _ x).trans ?_
  fin_cases x
  · exact (congrArg (· * 1024 + a.val) (at9 t).1).trans ((congrArg (· + a.val) (Nat.zero_mul _)).trans (Nat.zero_add _))
  · exact (congrArg (· * 128 + b.val) (at9 t).2).trans ((congrArg (· + b.val) (Nat.zero_mul _)).trans (Nat.zero_add _))

/-- A block of argument 10. -/
theorem block10 (c : Dev nD) (t : Fin cfg0.N) (a : Fin 1) (b : Fin 128) :
    iblk m c 10 t (ix2 a b) = m ((c : Thread nD τ).loc main_arg10) (ix2 a b) := by
  unfold iblk
  rw [View.read_apply]
  show V m c main_arg10 _ = _
  rw [V_main_arg10]
  congr 1
  funext x
  refine Fin.ext ?_
  refine (Idealize.ShloMosaic.Pipeline.Window.rect_emb_val win0_10 t _ x).trans ?_
  fin_cases x
  · exact (congrArg (· * 1 + a.val) (at10 t).1).trans ((congrArg (· + a.val) (Nat.zero_mul _)).trans (Nat.zero_add _))
  · exact (congrArg (· * 128 + b.val) (at10 t).2).trans ((congrArg (· + b.val) (Nat.zero_mul _)).trans (Nat.zero_add _))

/-- Where element `(a, b)` of block `t` of result 0 lies in the array. -/
theorem place11 (t : Fin cfg0.N) (a : Fin 1024) (b : Fin 1024) : ((cfg0.win 11).blk t).view.emb (ix2 a b) = ix2 (rowAt t a) b := by
  funext x
  refine Fin.ext ?_
  refine (Idealize.ShloMosaic.Pipeline.Window.rect_emb_val win0_11 t _ x).trans ?_
  fin_cases x
  · exact (congrArg (· * 1024 + a.val) (at11 t).1).trans (congrArg (· + a.val) (Nat.mul_comm _ _))
  · exact (congrArg (· * 1024 + b.val) (at11 t).2).trans ((congrArg (· + b.val) (Nat.zero_mul _)).trans (Nat.zero_add _))

/-- Where element `(a, b)` of block `t` of result 1 lies in the array. -/
theorem place12 (t : Fin cfg0.N) (a : Fin 1024) (b : Fin 1024) : ((cfg0.win 12).blk t).view.emb (ix2 a b) = ix2 (rowAt t a) b := by
  funext x
  refine Fin.ext ?_
  refine (Idealize.ShloMosaic.Pipeline.Window.rect_emb_val win0_12 t _ x).trans ?_
  fin_cases x
  · exact (congrArg (· * 1024 + a.val) (at12 t).1).trans (congrArg (· + a.val) (Nat.mul_comm _ _))
  · exact (congrArg (· * 1024 + b.val) (at12 t).2).trans ((congrArg (· + b.val) (Nat.zero_mul _)).trans (Nat.zero_add _))

/-- Where element `(a, b)` of block `t` of result 2 lies in the array. -/
theorem place13 (t : Fin cfg0.N) (a : Fin 1024) (b : Fin 128) : ((cfg0.win 13).blk t).view.emb (ix2 a b) = ix2 (rowAt t a) b := by
  funext x
  refine Fin.ext ?_
  refine (Idealize.ShloMosaic.Pipeline.Window.rect_emb_val win0_13 t _ x).trans ?_
  fin_cases x
  · exact (congrArg (· * 1024 + a.val) (at13 t).1).trans (congrArg (· + a.val) (Nat.mul_comm _ _))
  · exact (congrArg (· * 128 + b.val) (at13 t).2).trans ((congrArg (· + b.val) (Nat.zero_mul _)).trans (Nat.zero_add _))

/-- A load of a whole block reads it. -/
theorem whole0 {e : EltTy} (X : Vec Ideal S1024x512 e) : View.ld X r0_0 = X :=
  funext fun x => congrArg X (funext fun z => by
    fin_cases z <;> exact Fin.ext ((Idealize.ShloMosaic.ValueKit.rect_emb_unit_val _ _ _ _ _).trans (by first | rfl | exact Nat.zero_add _)))

/-- A load of a whole block reads it. -/
theorem whole1 {e : EltTy} (X : Vec Ideal S512x1024 e) : View.ld X r0_1 = X :=
  funext fun x => congrArg X (funext fun z => by
    fin_cases z <;> exact Fin.ext ((Idealize.ShloMosaic.ValueKit.rect_emb_unit_val _ _ _ _ _).trans (by first | rfl | exact Nat.zero_add _)))

/-- A load of a whole block reads it. -/
theorem whole2 {e : EltTy} (X : Vec Ideal S1024x2048 e) : View.ld X r0_2 = X :=
  funext fun x => congrArg X (funext fun z => by
    fin_cases z <;> exact Fin.ext ((Idealize.ShloMosaic.ValueKit.rect_emb_unit_val _ _ _ _ _).trans (by first | rfl | exact Nat.zero_add _)))

/-- A load of a whole block reads it. -/
theorem whole3 {e : EltTy} (X : Vec Ideal S1024x1024 e) : View.ld X r0_3 = X :=
  funext fun x => congrArg X (funext fun z => by
    fin_cases z <;> exact Fin.ext ((Idealize.ShloMosaic.ValueKit.rect_emb_unit_val _ _ _ _ _).trans (by first | rfl | exact Nat.zero_add _)))

/-- A load of a whole block reads it. -/
theorem whole4 {e : EltTy} (X : Vec Ideal S1x1024 e) : View.ld X r0_4 = X :=
  funext fun x => congrArg X (funext fun z => by
    fin_cases z <;> exact Fin.ext ((Idealize.ShloMosaic.ValueKit.rect_emb_unit_val _ _ _ _ _).trans (by first | rfl | exact Nat.zero_add _)))

/-- A load of a whole block reads it. -/
theorem whole5 {e : EltTy} (X : Vec Ideal S1024x128 e) : View.ld X r0_5 = X :=
  funext fun x => congrArg X (funext fun z => by
    fin_cases z <;> exact Fin.ext ((Idealize.ShloMosaic.ValueKit.rect_emb_unit_val _ _ _ _ _).trans (by first | rfl | exact Nat.zero_add _)))

/-- A load of a whole block reads it. -/
theorem whole6 {e : EltTy} (X : Vec Ideal S1x128 e) : View.ld X r0_6 = X :=
  funext fun x => congrArg X (funext fun z => by
    fin_cases z <;> exact Fin.ext ((Idealize.ShloMosaic.ValueKit.rect_emb_unit_val _ _ _ _ _).trans (by first | rfl | exact Nat.zero_add _)))

/-- A store of a whole block leaves what it stores. -/
theorem stored3 {e : EltTy} (w : Vec Ideal S1024x1024 e) (i : S1024x1024.Idx) : (View.canon [⟨r0_3, w⟩] : Vec Ideal S1024x1024 e) i = w i := by
  have hi : r0_3.idx i = i := funext fun z => by
    fin_cases z <;> exact Fin.ext ((Idealize.ShloMosaic.ValueKit.rect_emb_unit_val _ _ _ _ _).trans (by first | rfl | exact Nat.zero_add _))
  exact (congrArg (View.canon [⟨r0_3, w⟩] : Vec Ideal S1024x1024 e) hi.symm).trans (View.canon_cons_emb r0_3 w [] i)

/-- A store of a whole block leaves what it stores. -/
theorem stored5 {e : EltTy} (w : Vec Ideal S1024x128 e) (i : S1024x128.Idx) : (View.canon [⟨r0_5, w⟩] : Vec Ideal S1024x128 e) i = w i := by
  have hi : r0_5.idx i = i := funext fun z => by
    fin_cases z <;> exact Fin.ext ((Idealize.ShloMosaic.ValueKit.rect_emb_unit_val _ _ _ _ _).trans (by first | rfl | exact Nat.zero_add _))
  exact (congrArg (View.canon [⟨r0_5, w⟩] : Vec Ideal S1024x128 e) hi.symm).trans (View.canon_cons_emb r0_5 w [] i)

/-- What the body leaves in the first result's block. -/
theorem left11 (x0 x1 : Vec Ideal S1024x512 .bf16) (x2 : Vec Ideal S1024x2048 .bf16) (x3 : Vec Ideal S1024x1024 .f32) (x4 x5 : Vec Ideal S512x1024 .bf16)
    (x6 : Vec Ideal S1024x1024 .bf16) (x7 : Vec Ideal S1x1024 .f32) (x8 x9 : Vec Ideal S1024x128 .bf16) (x10 : Vec Ideal S1x128 .f32) (a b : Fin 1024) :
    out0_11 x0 x1 x2 x3 x4 x5 x6 x7 x8 x9 x10 (ix2 a b) = hidBlk x0 x1 x2 x3 x4 x5 x6 a b := by
  unfold out0_11
  refine (stored3 _ _).trans ?_
  rw [whole0, whole0, whole1, whole1, whole2, whole3, whole3]
  exact pay_hid _ _ _ _ _ _ _ a b

/-- The scaled rows of a block. -/
theorem scaled (x0 x1 : Vec Ideal S1024x512 .bf16) (x2 : Vec Ideal S1024x2048 .bf16) (x3 : Vec Ideal S1024x1024 .f32) (x4 x5 : Vec Ideal S512x1024 .bf16)
    (x6 : Vec Ideal S1024x1024 .bf16) (x7 : Vec Ideal S1x1024 .f32) (x8 x9 : Vec Ideal S1024x128 .bf16) (x10 : Vec Ideal S1x128 .f32) (a b : Fin 1024) :
    k0_pay5 x0 x1 x2 x3 x4 x5 x6 x7 x8 x9 x10 (ix2 a b) = normed (hidBlk x0 x1 x2 x3 x4 x5 x6 a) (fun e => x7 (ix2 0 e)) b := by
  unfold k0_pay5
  rw [whole0, whole0, whole1, whole1, whole2, whole3, whole3, whole4]
  exact pay_normed _ _ _ _ _ _ _ _ a b

/-- What the body leaves in the second result's block. -/
theorem left12 (x0 x1 : Vec Ideal S1024x512 .bf16) (x2 : Vec Ideal S1024x2048 .bf16) (x3 : Vec Ideal S1024x1024 .f32) (x4 x5 : Vec Ideal S512x1024 .bf16)
    (x6 : Vec Ideal S1024x1024 .bf16) (x7 : Vec Ideal S1x1024 .f32) (x8 x9 : Vec Ideal S1024x128 .bf16) (x10 : Vec Ideal S1x128 .f32) (a b : Fin 1024) :
    out0_12 x0 x1 x2 x3 x4 x5 x6 x7 x8 x9 x10 (ix2 a b) = normed (hidBlk x0 x1 x2 x3 x4 x5 x6 a) (fun e => x7 (ix2 0 e)) b := by
  unfold out0_12
  refine (stored3 _ _).trans ?_
  exact scaled x0 x1 x2 x3 x4 x5 x6 x7 x8 x9 x10 a b

/-- What the body leaves in the third result's block, at real rows and columns. -/
theorem left13 (x0 x1 : Vec Ideal S1024x512 .bf16) (x2 : Vec Ideal S1024x2048 .bf16) (x3 : Vec Ideal S1024x1024 .f32) (x4 x5 : Vec Ideal S512x1024 .bf16)
    (x6 : Vec Ideal S1024x1024 .bf16) (x7 : Vec Ideal S1x1024 .f32) (x8 x9 : Vec Ideal S1024x128 .bf16) (x10 : Vec Ideal S1x128 .f32) (a : Fin 1024) (j : Fin 128)
    (hp : ∀ b, IsReal (normed (hidBlk x0 x1 x2 x3 x4 x5 x6 a) (fun e => x7 (ix2 0 e)) b))
    (h8 : ∀ e, IsReal (x8 (ix2 e j))) (h9 : ∀ e, IsReal (x9 (ix2 e j))) :
    out0_13 x0 x1 x2 x3 x4 x5 x6 x7 x8 x9 x10 (ix2 a j) = logit (normed (hidBlk x0 x1 x2 x3 x4 x5 x6 a) (fun e => x7 (ix2 0 e))) (fun e => x8 (ix2 e j)) (fun e => x9 (ix2 e j)) (x10 (ix2 0 j)) := by
  unfold out0_13
  refine (stored5 _ _).trans ?_
  rw [whole5, whole5, whole6]
  have hs := scaled x0 x1 x2 x3 x4 x5 x6 x7 x8 x9 x10 a
  generalize k0_pay5 x0 x1 x2 x3 x4 x5 x6 x7 x8 x9 x10 = P at hs ⊢
  refine (pay_logit x8 x9 x10 P a j).trans ?_
  refine Eq.trans ?_ (logit_parts hp h8 h9 (x10 (ix2 0 j)))
  rw [show normed (hidBlk x0 x1 x2 x3 x4 x5 x6 a) (fun e => x7 (ix2 0 e)) = fun e => P (ix2 a e) from funext fun e => (hs e).symm]

/-- A block's residual rows are the array's. -/
theorem hid_block (c : Dev nD) (t : Fin cfg0.N) (a : Fin 1024) :
    hidBlk (iblk m c 0 t) (iblk m c 1 t) (iblk m c 2 t) (iblk m c 3 t) (iblk m c 4 t) (iblk m c 5 t) (iblk m c 6 t) a
      = hidRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowAt t a) := by
  unfold hidBlk hidRow
  simp only [block0, block1, block2, block3, block4, block5, block6]

/-- The point and the row within its block that row `r` lies in. -/
def pointOf (r : Fin 32768) : Fin cfg0.N := ⟨r.val / 1024, by show _ < grid0.N; rw [N_0]; omega⟩
def withinOf (r : Fin 32768) : Fin 1024 := ⟨r.val % 1024, Nat.mod_lt _ (by decide)⟩
theorem row_of (r : Fin 32768) : rowAt (pointOf r) (withinOf r) = r := Fin.ext (Nat.div_add_mod _ _)

/-- Result 0's elements. -/
theorem result11 (c : Dev nD) (r : Fin 32768) (b : Fin 1024) :
    (dats m 0 c).arrAt 11 cfg0.N (ix2 r b) = hidRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r b := by
  let t : Fin cfg0.N := pointOf r
  have hb := congrFun (blocks11 m c t (flush0_11 t)) (ix2 (withinOf r) b)
  rw [View.read_apply] at hb
  have he : ((cfg0.win 11).blk t).view.emb (ix2 (withinOf r) b) = ix2 r b := by rw [place11, row_of]
  rw [he, flushed11] at hb
  refine hb.trans ?_
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 (withinOf r) b) = _
  rw [left11, hid_block, row_of]

/-- Result 1's elements. -/
theorem result12 (c : Dev nD) (r : Fin 32768) (b : Fin 1024) :
    (dats m 0 c).arrAt 12 cfg0.N (ix2 r b) = normedRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r b := by
  let t : Fin cfg0.N := pointOf r
  have hb := congrFun (blocks12 m c t (flush0_12 t)) (ix2 (withinOf r) b)
  rw [View.read_apply] at hb
  have he : ((cfg0.win 12).blk t).view.emb (ix2 (withinOf r) b) = ix2 r b := by rw [place12, row_of]
  rw [he, flushed12] at hb
  refine hb.trans ?_
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 (withinOf r) b) = _
  rw [left12, hid_block, row_of]
  unfold normedRow
  simp only [block7]

/-- Result 2's elements. -/
theorem result13 (c : Dev nD) (r : Fin 32768) (b : Fin 128)
    (hp : ∀ e, IsReal (normedRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r e))
    (h8 : ∀ i, IsReal (m ((c : Thread nD τ).loc main_arg8) i)) (h9 : ∀ i, IsReal (m ((c : Thread nD τ).loc main_arg9) i)) :
    (dats m 0 c).arrAt 13 cfg0.N (ix2 r b) = logitRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r b := by
  let t : Fin cfg0.N := pointOf r
  have hb := congrFun (blocks13 m c t (flush0_13 t)) (ix2 (withinOf r) b)
  rw [View.read_apply] at hb
  have he : ((cfg0.win 13).blk t).view.emb (ix2 (withinOf r) b) = ix2 r b := by rw [place13, row_of]
  rw [he, flushed13] at hb
  refine hb.trans ?_
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 (withinOf r) b) = _
  have hn : normed (hidBlk (iblk m c 0 t) (iblk m c 1 t) (iblk m c 2 t) (iblk m c 3 t) (iblk m c 4 t) (iblk m c 5 t) (iblk m c 6 t) (withinOf r)) (fun e => iblk m c 7 t (ix2 0 e))
      = normedRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r := by
    rw [hid_block, row_of]
    unfold normedRow
    simp only [block7]
  rw [left13 _ _ _ _ _ _ _ _ _ _ _ _ _ (fun e => by rw [hn]; exact hp e) (fun e => by rw [block8]; exact h8 _) (fun e => by rw [block9]; exact h9 _), hn]
  unfold logitRow
  simp only [block8, block9, block10]

end Cert.Proof.Merge

end
-- ==== Proof.MergePre.lean ====
/-
  What the precondition of the merge says of its arguments: the entries of the first ten are reals.
-/
module

public import proofs.«01_k».proof.Proof.Gen.Pre_weights_finite
public import proofs.«01_k».proof.Proof.MergeMath

@[expose] public section

set_option maxRecDepth 16384

noncomputable section

namespace Cert.Proof.Merge

open Cert.Pre_weights_finite
open Idealize.ShloMosaic

/-- The words of plus infinity. -/
theorem infinity_narrow : Ideal.ofBits FTy.bf16 0x7F80#16 = (⊤ : EReal) := by
  simp [Ideal.ofBits, Ideal.ieee]
theorem infinity_wide : Ideal.ofBits FTy.f32 0x7F800000#32 = (⊤ : EReal) := by
  simp [Ideal.ofBits, Ideal.ieee]

/-- A number whose size lies below infinity is a real. -/
theorem real_below (x y : EReal) (hy : y = ⊤) (h : Ideal.cmp .olt (max x (-x)) y = 1#1) : IsReal x := by
  rw [hy] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

variable (x0 : FVec Ideal S32768x512 .bf16) (x1 : FVec Ideal S32768x512 .bf16) (x2 : FVec Ideal S32768x2048 .bf16) (x3 : FVec Ideal S32768x1024 .f32) (x4 : FVec Ideal S512x1024 .bf16) (x5 : FVec Ideal S512x1024 .bf16) (x6 : FVec Ideal S1024x1024 .bf16) (x7 : FVec Ideal S1x1024 .f32) (x8 : FVec Ideal S1024x128 .bf16) (x9 : FVec Ideal S1024x128 .bf16) (x10 : FVec Ideal S1x128 .f32) [Facts]

/-- Argument 0's entries are reals. -/
theorem real0 (h : (fn (F := Ideal) x0 x1 x2 x3 x4 x5 x6 x7 x8 x9 x10).1 = fun _ => 1#1) (i : S32768x512.Idx) : IsReal (x0 i) :=
  real_below _ _ infinity_narrow (congrFun h i)

/-- Argument 1's entries are reals. -/
theorem real1 (h : (fn (F := Ideal) x0 x1 x2 x3 x4 x5 x6 x7 x8 x9 x10).2.1 = fun _ => 1#1) (i : S32768x512.Idx) : IsReal (x1 i) :=
  real_below _ _ infinity_narrow (congrFun h i)

/-- Argument 2's entries are reals. -/
theorem real2 (h : (fn (F := Ideal) x0 x1 x2 x3 x4 x5 x6 x7 x8 x9 x10).2.2.1 = fun _ => 1#1) (i : S32768x2048.Idx) : IsReal (x2 i) :=
  real_below _ _ infinity_narrow (congrFun h i)

/-- Argument 3's entries are reals. -/
theorem real3 (h : (fn (F := Ideal) x0 x1 x2 x3 x4 x5 x6 x7 x8 x9 x10).2.2.2.1 = fun _ => 1#1) (i : S32768x1024.Idx) : IsReal (x3 i) :=
  real_below _ _ infinity_wide (congrFun h i)

/-- Argument 4's entries are reals. -/
theorem real4 (h : (fn (F := Ideal) x0 x1 x2 x3 x4 x5 x6 x7 x8 x9 x10).2.2.2.2.1 = fun _ => 1#1) (i : S512x1024.Idx) : IsReal (x4 i) :=
  real_below _ _ infinity_narrow (congrFun h i)

/-- Argument 5's entries are reals. -/
theorem real5 (h : (fn (F := Ideal) x0 x1 x2 x3 x4 x5 x6 x7 x8 x9 x10).2.2.2.2.2.1 = fun _ => 1#1) (i : S512x1024.Idx) : IsReal (x5 i) :=
  real_below _ _ infinity_narrow (congrFun h i)

/-- Argument 6's entries are reals. -/
theorem real6 (h : (fn (F := Ideal) x0 x1 x2 x3 x4 x5 x6 x7 x8 x9 x10).2.2.2.2.2.2.1 = fun _ => 1#1) (i : S1024x1024.Idx) : IsReal (x6 i) :=
  real_below _ _ infinity_narrow (congrFun h i)

/-- Argument 7's entries are reals. -/
theorem real7 (h : (fn (F := Ideal) x0 x1 x2 x3 x4 x5 x6 x7 x8 x9 x10).2.2.2.2.2.2.2.1 = fun _ => 1#1) (i : S1x1024.Idx) : IsReal (x7 i) :=
  real_below _ _ infinity_wide (congrFun h i)

/-- Argument 8's entries are reals. -/
theorem real8 (h : (fn (F := Ideal) x0 x1 x2 x3 x4 x5 x6 x7 x8 x9 x10).2.2.2.2.2.2.2.2.1 = fun _ => 1#1) (i : S1024x128.Idx) : IsReal (x8 i) :=
  real_below _ _ infinity_narrow (congrFun h i)

/-- Argument 9's entries are reals. -/
theorem real9 (h : (fn (F := Ideal) x0 x1 x2 x3 x4 x5 x6 x7 x8 x9 x10).2.2.2.2.2.2.2.2.2 = fun _ => 1#1) (i : S1024x128.Idx) : IsReal (x9 i) :=
  real_below _ _ infinity_narrow (congrFun h i)

end Cert.Proof.Merge

end
-- ==== Proof.lean ====
module

public import proofs.«01_k».proof.Proof.Gen.Kernel4.Frame
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Gen.Pre_values_finite
public import proofs.«01_k».proof.Proof.Gen.Kernel5.Frame
public import proofs.«01_k».proof.Proof.Gen.Kernel5Ideal.Value
public import proofs.«01_k».proof.Proof.Gen.Kernel5Ideal.Frame
public import proofs.«01_k».proof.Proof.Gen.Reference5Ideal.Run
public import proofs.«01_k».proof.Proof.Gen.Pre_weights_finite
public import proofs.«01_k».proof.Defs
public import proofs.«01_k».proof.Proof.AttValue
public import proofs.«01_k».proof.Proof.AttRef
public import proofs.«01_k».proof.Proof.AttPre
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Value
public import proofs.«01_k».proof.Proof.Combine
public import proofs.«01_k».proof.Proof.MoeBody
public import proofs.«01_k».proof.Proof.MoeRun
public import proofs.«01_k».proof.Proof.MoeRef
public import proofs.«01_k».proof.Proof.MoeValue
public import proofs.«01_k».proof.Proof.Gen.Kernel3Ideal.Launch
public import proofs.«01_k».proof.Proof.Gen.Kernel3Ideal.Skeleton
public import proofs.«01_k».proof.Proof.Gen.Pre_experts_named
public import proofs.«01_k».proof.Proof.Gen.Kernel3
public import proofs.«01_k».proof.Proof.Gen.Reference3Ideal.Run
public import proofs.«01_k».proof.Proof.MergeMath
public import proofs.«01_k».proof.Proof.MergeRef
public import proofs.«01_k».proof.Proof.MergeBody
public import proofs.«01_k».proof.Proof.MergeValue
public import proofs.«01_k».proof.Proof.MergePre
public import proofs.«01_k».proof.Proof.Gen.Kernel5
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The two printings of the kernel have one body table before the pipeline's own entries. -/
theorem bodies_eq : Cert.Kernel.defs₀ (F := Bits) = Cert.KernelIdeal.defs₀ (F := Bits) := by
  unfold Cert.Kernel.defs₀ Cert.KernelIdeal.defs₀
  refine congrArg Defs.onTc ?_
  funext l a
  fin_cases l
  rfl

/-- … and so one body table. -/
theorem defs_eq : Cert.Kernel.defs (F := Bits) = Cert.KernelIdeal.defs (F := Bits) :=
  congrArg (Pipeline.defs (Cert.KernelIdeal.pcfgs (F := Bits))) bodies_eq

/-- The two printings of the kernel have one host program. -/
theorem main_eq : Cert.Kernel.main (F := Bits) = Cert.KernelIdeal.main (F := Bits) := rfl

/-- The kernel on words: its run leaves its argument unchanged and every counter at zero. -/
theorem frame_kernel : Cert.quiescent_Kernel := fun m ρ _ => by
  have h := (θ_run Cert.KernelIdeal.defs _ _).mono (fun _ h => (⟨fun c => (h.1 c).2.2, h.2⟩ : _ ∧ _)) (Prep.run_main (F := Bits) m ρ)
  rw [← defs_eq, ← main_eq] at h
  exact h

/-- The kernel on reals: its run leaves its argument unchanged and every counter at zero. -/
theorem frame_kernelIdeal : Cert.quiescent_KernelIdeal := fun m ρ _ =>
  (θ_run Cert.KernelIdeal.defs _ _).mono (fun _ h => ⟨fun c => (h.1 c).2.2, h.2⟩) (Prep.run_main (F := Ideal) m ρ)

/-- The reference on reals: its run leaves its argument unchanged and every counter at zero. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- On reals the kernel and the reference end with the same two arrays: the even and the odd columns, transposed. -/
theorem equal_results : Cert.algebraic_KernelIdeal_ReferenceIdeal := fun m g m' g' _ hag =>
  ⟨fun c => Prep.evenR m c, fun c => Prep.oddR m c,
    (θ_run Cert.KernelIdeal.defs _ _).mono (fun _ h => h.1) (Prep.run_main (F := Ideal) m g),
    (θ_run Cert.ReferenceIdeal.defs _ _).mono (fun _ h c => ⟨
      (h c).1.trans (Prep.even_ref m c _ (hag c)), (h c).2.1.trans (Prep.odd_ref m c _ (hag c)), (h c).2.2⟩)
      (Cert.ReferenceIdeal.Value.run (F := Ideal) m' g')⟩

/-- The combination's reference: its run leaves its arguments unchanged and every counter at zero. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- On reals the blockwise combination and the reference's sum are one array. -/
theorem equal_combined : Cert.algebraic_Kernel2Ideal_Reference2Ideal := fun m g m' g' _ hag =>
  ⟨fun c => Combine.combined (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)),
    (θ_run Cert.Kernel2Ideal.defs _ _).mono (fun _ h c => ⟨(h c).1.trans (funext fun i => Combine.result_apply m c i), (h c).2⟩)
      (Cert.Kernel2Ideal.Value.run_blocks (F := Ideal) m g),
    (θ_run Cert.Reference2Ideal.defs _ _).mono (fun _ h c => ⟨
      ((h c).1.trans (Combine.ref_eq _ _ _)).trans (by rw [(hag c).1, (hag c).2.1, (hag c).2.2]), (h c).2⟩)
      (Cert.Reference2Ideal.Value.run (F := Ideal) m' g')⟩

/-- The two printings of the experts' kernel have one body table before the pipeline's own entries. -/
theorem bodies_eq3 : Cert.Kernel3.defs₀ (F := Bits) = Cert.Kernel3Ideal.defs₀ (F := Bits) := by
  unfold Cert.Kernel3.defs₀ Cert.Kernel3Ideal.defs₀
  refine congrArg Defs.onTc ?_
  funext l a
  fin_cases l
  rfl

/-- … and so one body table. -/
theorem defs_eq3 : Cert.Kernel3.defs (F := Bits) = Cert.Kernel3Ideal.defs (F := Bits) :=
  congrArg (Pipeline.defs (Cert.Kernel3Ideal.pcfgs (F := Bits))) bodies_eq3

/-- The two printings of the experts' kernel have one host program. -/
theorem main_eq3 : Cert.Kernel3.main (F := Bits) = Cert.Kernel3Ideal.main (F := Bits) := rfl

/-- Two tests taken together hold when both do. -/
theorem andi_ofBool (p q : Bool) : IntOp.andi (BitVec.ofBool p) (BitVec.ofBool q) = BitVec.ofBool (p && q) := by
  cases p <;> cases q <;> decide

/-- A test holds when its bit is one. -/
theorem ofBool_one (p : Bool) : BitVec.ofBool p = 1#1 ↔ p = true := by
  cases p <;> decide

/-- Where the precondition holds, every word of the table names an expert. -/
theorem named_of_pre {F : FTy → Type} [FloatOps F] (x : FVec F Cert.Pre_experts_named.S147456x1024 .bf16) (t : IVec Cert.Pre_experts_named.S288 32)
    (n : IVec Cert.Pre_experts_named.S1 32) (wg wl : FVec F Cert.Pre_experts_named.S32x1024x1024 .bf16) (bg bl : FVec F Cert.Pre_experts_named.S32x1x1024 .f32)
    (w : FVec F Cert.Pre_experts_named.S32x1024x1024 .f32) (b : FVec F Cert.Pre_experts_named.S32x1x1024 .f32)
    (h : Cert.Pre_experts_named.fn x t n wg wl bg bl w b = fun _ => 1#1) (k : Fin 288) : (t (ix1 k)).toNat < 32 := by
  have e := congrFun h (ix1 k)
  simp only [Cert.Pre_experts_named.fn, andi, cmpi, broadcastInDim, constantI, IntOp.cmpi, andi_ofBool, ofBool_one, Bool.and_eq_true] at e
  obtain ⟨hge, hlt⟩ := e
  simp only [BitVec.sle, BitVec.slt, decide_eq_true_eq, BitVec.toInt, BitVec.toNat_ofNat] at hge hlt
  have := (t (ix1 k)).isLt
  split at hge <;> split at hlt <;> omega

/-- The experts' kernel on words: its run leaves its arguments unchanged and every counter at zero. -/
theorem frame_kernel3 : Cert.quiescent_Kernel3 := fun m ρ hp => by
  have hE : Moe.Named (F := Bits) m := named_of_pre _ _ _ _ _ _ _ _ _ (hp 0)
  have h := (θ_run Cert.Kernel3Ideal.defs _ _).mono (fun _ h => (⟨fun c => (h.1 c).2, h.2⟩ : _ ∧ _)) (Moe.run_main (F := Bits) m ρ (Moe.inside_of _ hE))
  rw [← defs_eq3, ← main_eq3] at h
  exact h

/-- The experts' kernel on reals: its run leaves its arguments unchanged and every counter at zero. -/
theorem frame_kernel3Ideal : Cert.quiescent_Kernel3Ideal := fun m ρ hp =>
  have hE : Moe.Named (F := Ideal) m := named_of_pre _ _ _ _ _ _ _ _ _ (hp 0)
  (θ_run Cert.Kernel3Ideal.defs _ _).mono (fun _ h => ⟨fun c => (h.1 c).2, h.2⟩) (Moe.run_main (F := Ideal) m ρ (Moe.inside_of _ hE))

/-- The experts' reference: its run leaves its arguments unchanged and every counter at zero. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- On reals the experts' kernel and the reference end with one array. -/
theorem equal_experts : Cert.algebraic_Kernel3Ideal_Reference3Ideal := fun m g m' g' hp hag =>
  have hE : Moe.Named (F := Ideal) m := named_of_pre _ _ _ _ _ _ _ _ _ (hp 0)
  ⟨fun c => Moe.expertsOut (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)),
    (θ_run Cert.Kernel3Ideal.defs _ _).mono (fun _ h c => ⟨(h.1 c).1.trans (Moe.result_eq m (Moe.inside_of _ hE) hE c), (h.1 c).2⟩)
      (Moe.run_main (F := Ideal) m g (Moe.inside_of _ hE)),
    (θ_run Cert.Reference3Ideal.defs _ _).mono (fun _ h c => ⟨
      ((h c).1.trans (Moe.ref_eq _ _ _ _ _ _ _ _ _)).trans (by
        obtain ⟨h0, h1, h2, h3, h4, h5, h6, h7, h8⟩ := hag c
        rw [h0, h1, h2, h3, h4, h5, h6, h7, h8]), (h c).2⟩)
      (Cert.Reference3Ideal.Value.run (F := Ideal) m' g')⟩

/-- The attention's reference: its run leaves its arguments unchanged and every counter at zero. -/
theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- On reals the attention kernel and the reference end with one array. -/
theorem equal_attention : Cert.algebraic_Kernel4Ideal_Reference4Ideal_pre_values_finite := fun m g m' g' hp hag =>
  ⟨fun c => fun i => Att.attendedAt (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (i 0) (i 1) (i 2),
    (θ_run Cert.Kernel4Ideal.defs _ _).mono (fun _ h c => ⟨(h c).1.trans (funext fun i =>
        (congrArg _ (eq_ix3 i)).trans (Att.result_apply m c (AttPre.queries_real _ _ _ (hp c).1) (AttPre.keys_real _ _ _ (hp c).2.1)
          (AttPre.values_real _ _ _ (hp c).2.2) (AttPre.others_one _ _ _ (hp c).2.2) (i 0) (i 1) (i 2))), (h c).2⟩)
      (Cert.Kernel4Ideal.Value.run_blocks (F := Ideal) m g),
    (θ_run Cert.Reference4Ideal.defs _ _).mono (fun _ h c => ⟨(h c).1.trans (by
        obtain ⟨h0, h1, h2⟩ := hag c
        rw [h0, h1, h2]
        have hq := AttPre.queries_real _ _ _ (hp c).1
        have hk := AttPre.keys_real _ _ _ (hp c).2.1
        have hv := AttPre.values_real _ _ _ (hp c).2.2
        funext i
        refine (congrArg _ (eq_ix3 i)).trans ?_
        exact AttRef.mean_apply _ _ hv (i 0) (i 1) (i 2) _ (fun y => AttRef.score_real _ _ hq hk (i 0) (i 1) y (i 2) _ _ _ _ _) _ _ _ _ _ _ _ _ _ _ _ _ _ _ _ _ _ _ _ _), (h c).2⟩)
      (Cert.Reference4Ideal.Value.run (F := Ideal) m' g')⟩

/-- The merge's reference: its run leaves its arguments unchanged and every counter at zero. -/
theorem frame_reference5Ideal : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- Where the precondition holds, every scaled row is real. -/
theorem rows_real (m : (ℓ : Loc Cert.Kernel5Ideal.nD Cert.Kernel5Ideal.τ Cert.Kernel5Ideal.sig) → Buf (Elt Ideal) ℓ)
    (hp : Cert.Pre_Kernel5Ideal_weights_finite m) (c : Dev Cert.Kernel5Ideal.nD) (r : Fin 32768) (e : Fin 1024) :
    Merge.IsReal (Merge.normedRow (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) r e) :=
  Merge.normed_real (fun b => Merge.hid_real (fun k => (Merge.real0 _ _ _ _ _ _ _ _ _ _ _ (hp c).1) _) (fun k => (Merge.real1 _ _ _ _ _ _ _ _ _ _ _ (hp c).2.1) _) (fun k => (Merge.real2 _ _ _ _ _ _ _ _ _ _ _ (hp c).2.2.1) _)
    (fun k e => (Merge.real4 _ _ _ _ _ _ _ _ _ _ _ (hp c).2.2.2.2.1) _) (fun k e => (Merge.real5 _ _ _ _ _ _ _ _ _ _ _ (hp c).2.2.2.2.2.1) _) (fun b => (Merge.real3 _ _ _ _ _ _ _ _ _ _ _ (hp c).2.2.2.1) _) (fun e b => (Merge.real6 _ _ _ _ _ _ _ _ _ _ _ (hp c).2.2.2.2.2.2.1) _) b)
    (fun b => (Merge.real7 _ _ _ _ _ _ _ _ _ _ _ (hp c).2.2.2.2.2.2.2.1) _) e

/-- On reals the merge and its reference end with the same three arrays: the residual, the scaled rows and the logits. -/
theorem equal_merge : Cert.algebraic_Kernel5Ideal_Reference5Ideal_pre_weights_finite := fun m g m' g' hp hag =>
  ⟨fun c => fun i => Merge.hidRow (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (i 0) (i 1),
    fun c => fun i => Merge.normedRow (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (i 0) (i 1),
    fun c => fun i => Merge.logitRow (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (i 0) (i 1),
    (θ_run Cert.Kernel5Ideal.defs _ _).mono (fun _ h c => ⟨
        (h c).1.trans (funext fun i => (congrArg _ (eq_ix2 i)).trans (Merge.result11 m c (i 0) (i 1))),
        (h c).2.1.trans (funext fun i => (congrArg _ (eq_ix2 i)).trans (Merge.result12 m c (i 0) (i 1))),
        (h c).2.2.1.trans (funext fun i => (congrArg _ (eq_ix2 i)).trans (Merge.result13 m c (i 0) (i 1) (rows_real m hp c (i 0))
          (Merge.real8 _ _ _ _ _ _ _ _ _ _ _ (hp c).2.2.2.2.2.2.2.2.1) (Merge.real9 _ _ _ _ _ _ _ _ _ _ _ (hp c).2.2.2.2.2.2.2.2.2))),
        (h c).2.2.2⟩)
      (Cert.Kernel5Ideal.Value.run_blocks (F := Ideal) m g),
    (θ_run Cert.Reference5Ideal.defs _ _).mono (fun _ h c => ⟨
        (h c).1.trans (by
          obtain ⟨h0, h1, h2, h3, h4, h5, h6, h7, h8, h9, h10⟩ := hag c
          rw [h0, h1, h2, h3, h4, h5, h6]
          exact funext fun i => (congrArg _ (eq_ix2 i)).trans (Merge.ref_hid _ _ _ _ _ _ _ (i 0) (i 1))),
        (h c).2.1.trans (by
          obtain ⟨h0, h1, h2, h3, h4, h5, h6, h7, h8, h9, h10⟩ := hag c
          unfold Cert.Reference5Ideal.Value.res_main_v39
          rw [h0, h1, h2, h3, h4, h5, h6, h7]
          exact funext fun i => (congrArg _ (eq_ix2 i)).trans (Merge.ref_scaled _ _ _ _ _ _ _ _ (i 0) (i 1))),
        (h c).2.2.1.trans (by
          obtain ⟨h0, h1, h2, h3, h4, h5, h6, h7, h8, h9, h10⟩ := hag c
          unfold Cert.Reference5Ideal.Value.res_main_v38
          rw [h0, h1, h2, h3, h4, h5, h6, h7, h8, h9, h10]
          exact funext fun i => (congrArg _ (eq_ix2 i)).trans (Merge.ref_logits _ _ _ _ _ _ _ _ _ _ _ (i 0) (i 1))),
        (h c).2.2.2⟩)
      (Cert.Reference5Ideal.Value.run (F := Ideal) m' g')⟩

end Cert.Proof

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_experts_named.Gen.facts, Cert.Pre_values_finite.Gen.facts, Cert.Pre_weights_finite.Gen.facts,
  frame_kernel, frame_kernelIdeal, frame_referenceIdeal,
  fun m ρ _ => Cert.Kernel2.Gen.frame m ρ, fun m ρ _ => Cert.Kernel2Ideal.Gen.frame m ρ, frame_reference2Ideal,
  frame_kernel3, frame_kernel3Ideal, frame_reference3Ideal,
  fun m ρ _ => Cert.Kernel4.Gen.frame m ρ, fun m ρ _ => Cert.Kernel4Ideal.Gen.frame m ρ, fun m ρ _ => Cert.Kernel4Ideal.Gen.frame m ρ,
  frame_reference4Ideal, fun m ρ _ => frame_reference4Ideal m ρ trivial,
  fun m ρ _ => Cert.Kernel5.Gen.frame m ρ, fun m ρ _ => Cert.Kernel5Ideal.Gen.frame m ρ, fun m ρ _ => Cert.Kernel5Ideal.Gen.frame m ρ,
  frame_reference5Ideal, fun m ρ _ => frame_reference5Ideal m ρ trivial,
  trivial, equal_results, trivial, equal_combined, trivial, equal_experts, trivial, equal_attention, trivial, equal_merge⟩

end Cert.Proof

end
